-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_normal [hPre_finite_and_normal : Cert.Pre_finite_and_normal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_and_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_and_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_and_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_and_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_and_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_finite_and_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_finite_and_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_normal [hPre_finite_and_normal : Cert.Pre_finite_and_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_and_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_and_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_and_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_and_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_and_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_finite_and_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_finite_and_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_and_normal [hKernelIdeal : Cert.KernelIdeal.Facts] [hPre_finite_and_normal : Cert.Pre_finite_and_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_and_normal [hReferenceIdeal : Cert.ReferenceIdeal.Facts] [hPre_finite_and_normal : Cert.Pre_finite_and_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pack.Statement Cert.KernelIdeal.S4x128
  ∧ IdealRules.bf16_pack.Statement Cert.KernelIdeal.S128x128
  ∧ IdealRules.bf16_pack.Statement Cert.KernelIdeal.S256x512
  ∧ IdealRules.bf16_pack.Statement Cert.KernelIdeal.S128x512

def algebraic_KernelIdeal_ReferenceIdeal_pre_finite_and_normal [hKernelIdeal : Cert.KernelIdeal.Facts] [hReferenceIdeal : Cert.ReferenceIdeal.Facts] [hPre_finite_and_normal : Cert.Pre_finite_and_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v90_6) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v96) = v4 c
          ∧ r.2.mem ((c.tc : Thread Cert.ReferenceIdeal.nD Cert.ReferenceIdeal.τ).loc Cert.ReferenceIdeal.main_v97) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_and_normal : Cert.Pre_finite_and_normal.Facts),
    quiescent_Kernel (hKernel := hKernel)
    ∧ quiescent_KernelIdeal (hKernelIdeal := hKernelIdeal)
    ∧ quiescent_KernelIdeal_pre_finite_and_normal (hKernelIdeal := hKernelIdeal) (hPre_finite_and_normal := hPre_finite_and_normal)
    ∧ quiescent_ReferenceIdeal (hReferenceIdeal := hReferenceIdeal)
    ∧ quiescent_ReferenceIdeal_pre_finite_and_normal (hReferenceIdeal := hReferenceIdeal) (hPre_finite_and_normal := hPre_finite_and_normal)
    ∧ preserves_Kernel_KernelIdeal
    ∧ algebraic_KernelIdeal_ReferenceIdeal_pre_finite_and_normal (hKernelIdeal := hKernelIdeal) (hReferenceIdeal := hReferenceIdeal) (hPre_finite_and_normal := hPre_finite_and_normal)
-- ==== Pre_finite_and_normal.lean ====
abbrev S4x3072x6x256 : Shape := ⟨4, ![4, 3072, 6, 256]⟩
abbrev S4x3072x6x512 : Shape := ⟨4, ![4, 3072, 6, 512]⟩
abbrev S4x3072x6 : Shape := ⟨3, ![4, 3072, 6]⟩
abbrev S4x6x256x512 : Shape := ⟨4, ![4, 6, 256, 512]⟩
abbrev S_ : Shape := ⟨0, ![]⟩

class Facts : Prop where
  bitsLt_bf16_f32 : FTy.bits .bf16 < FTy.bits .f32
  reducesTo_S4x3072x6x256_S4x3072x6_d3 : S4x3072x6x256.ReducesTo [3] S4x3072x6
  h_S_ : 0 < S_.numel
  bcast_S_S4x3072x6x256 : S_.BroadcastsInDim S4x3072x6x256 (![] : Fin 0 → Fin S4x3072x6x256.rank)
  bcast_S_S4x3072x6 : S_.BroadcastsInDim S4x3072x6 (![] : Fin 0 → Fin S4x3072x6.rank)
  bcast_S_S4x3072x6x512 : S_.BroadcastsInDim S4x3072x6x512 (![] : Fin 0 → Fin S4x3072x6x512.rank)
  bcast_S_S4x6x256x512 : S_.BroadcastsInDim S4x6x256x512 (![] : Fin 0 → Fin S4x6x256x512.rank)

variable [Facts]

def fn_part2 {F : FTy → Type} [FloatOps F] (main_arg5 : FVec F S4x6x256x512 .f32) (main_v5 : IVec S4x3072x6x256 1) (main_v12 : IVec S4x3072x6 1) (main_v18 : IVec S4x3072x6x256 1) (main_v25 : IVec S4x3072x6 1) (main_v29 : IVec S4x3072x6x512 1) (main_v32 : IVec S4x3072x6 1) (main_v33 : FVec F S4x3072x6 .f32) (main_v34 : FVec F S4x3072x6 .f32) : IVec S4x3072x6x256 1 × IVec S4x3072x6 1 × IVec S4x3072x6x256 1 × IVec S4x3072x6 1 × IVec S4x3072x6x512 1 × IVec S4x3072x6 1 × IVec S4x3072x6 1 × IVec S4x6x256x512 1 :=
  let main_v35 : IVec S4x3072x6 1 := cmpf .olt main_v33 main_v34
  let main_v36 : FVec F S4x6x256x512 .f32 := Host.absf main_arg5
  let main_cst_12 : FVec F S_ .f32 := constant S_ .f32 0x7F800000#32
  let main_v37 : FVec F S4x6x256x512 .f32 := broadcastInDim S4x6x256x512 ![] bcast_S_S4x6x256x512 main_cst_12
  let main_v38 : IVec S4x6x256x512 1 := cmpf .olt main_v36 main_v37
  (main_v5, main_v12, main_v18, main_v25, main_v29, main_v32, main_v35, main_v38)

def fn_part1 {F : FTy → Type} [FloatOps F] (main_arg2 : FVec F S4x3072x6x512 .bf16) (main_arg3 : FVec F S4x3072x6 .f32) (main_arg4 : FVec F S4x3072x6 .f32) (main_arg5 : FVec F S4x6x256x512 .f32) (main_v5 : IVec S4x3072x6x256 1) (main_v12 : IVec S4x3072x6 1) (main_v15 : FVec F S4x3072x6 .f32) (main_v16 : FVec F S4x3072x6x256 .f32) (main_cst_5 : FVec F S_ .f32) : IVec S4x3072x6x256 1 × IVec S4x3072x6 1 × IVec S4x3072x6x256 1 × IVec S4x3072x6 1 × IVec S4x3072x6x512 1 × IVec S4x3072x6 1 × IVec S4x3072x6 1 × IVec S4x6x256x512 1 :=
  let main_v17 : FVec F S4x3072x6x256 .f32 := broadcastInDim S4x3072x6x256 ![] bcast_S_S4x3072x6x256 main_cst_5
  let main_v18 : IVec S4x3072x6x256 1 := cmpf .ole main_v16 main_v17
  let main_cst_6 : FVec F S_ .f32 := constant S_ .f32 0x00000000#32
  let main_v19 : FVec F S4x3072x6 .f32 := broadcastInDim S4x3072x6 ![] bcast_S_S4x3072x6 main_cst_6
  let main_v20 : IVec S4x3072x6 1 := cmpf .oeq main_v15 main_v19
  let main_cst_7 : FVec F S_ .f32 := constant S_ .f32 0x3B124925#32
  let main_v21 : FVec F S4x3072x6 .f32 := broadcastInDim S4x3072x6 ![] bcast_S_S4x3072x6 main_cst_7
  let main_v22 : FVec F S4x3072x6 .f32 := mulf main_v15 main_v21
  let main_cst_8 : FVec F S_ .f32 := constant S_ .f32 0x00800000#32
  let main_v23 : FVec F S4x3072x6 .f32 := broadcastInDim S4x3072x6 ![] bcast_S_S4x3072x6 main_cst_8
  let main_v24 : IVec S4x3072x6 1 := cmpf .oge main_v22 main_v23
  let main_v25 : IVec S4x3072x6 1 := ori main_v20 main_v24
  let main_v26 : FVec F S4x3072x6x512 .f32 := (extf .f32 · bitsLt_bf16_f32) main_arg2
  let main_v27 : FVec F S4x3072x6x512 .f32 := Host.absf main_v26
  let main_cst_9 : FVec F S_ .f32 := constant S_ .f32 0x7F800000#32
  let main_v28 : FVec F S4x3072x6x512 .f32 := broadcastInDim S4x3072x6x512 ![] bcast_S_S4x3072x6x512 main_cst_9
  let main_v29 : IVec S4x3072x6x512 1 := cmpf .olt main_v27 main_v28
  let main_v30 : FVec F S4x3072x6 .f32 := Host.absf main_arg3
  let main_cst_10 : FVec F S_ .f32 := constant S_ .f32 0x7F800000#32
  let main_v31 : FVec F S4x3072x6 .f32 := broadcastInDim S4x3072x6 ![] bcast_S_S4x3072x6 main_cst_10
  let main_v32 : IVec S4x3072x6 1 := cmpf .olt main_v30 main_v31
  let main_v33 : FVec F S4x3072x6 .f32 := Host.absf main_arg4
  let main_cst_11 : FVec F S_ .f32 := constant S_ .f32 0x7F800000#32
  let main_v34 : FVec F S4x3072x6 .f32 := broadcastInDim S4x3072x6 ![] bcast_S_S4x3072x6 main_cst_11
  fn_part2 (F := F) main_arg5 main_v5 main_v12 main_v18 main_v25 main_v29 main_v32 main_v33 main_v34

def fn {F : FTy → Type} [FloatOps F] (main_arg0 : FVec F S4x3072x6x256 .bf16) (main_arg1 : FVec F S4x3072x6x256 .bf16) (main_arg2 : FVec F S4x3072x6x512 .bf16) (main_arg3 : FVec F S4x3072x6 .f32) (main_arg4 : FVec F S4x3072x6 .f32) (main_arg5 : FVec F S4x6x256x512 .f32) : IVec S4x3072x6x256 1 × IVec S4x3072x6 1 × IVec S4x3072x6x256 1 × IVec S4x3072x6 1 × IVec S4x3072x6x512 1 × IVec S4x3072x6 1 × IVec S4x3072x6 1 × IVec S4x6x256x512 1 :=
  let main_v0 : FVec F S4x3072x6x256 .f32 := (extf .f32 · bitsLt_bf16_f32) main_arg0
  let main_v1 : FVec F S4x3072x6x256 .f32 := Host.absf main_v0
  let main_cst : FVec F S_ .f32 := constant S_ .f32 0xFF800000#32
  let main_v2 : FVec F S4x3072x6 .f32 := (fun x v => Host.reduce FloatOps.maximumf x v reducesTo_S4x3072x6x256_S4x3072x6_d3 h_S_) main_v1 main_cst
  let main_v3 : FVec F S4x3072x6x256 .f32 := Host.absf main_v0
  let main_cst_0 : FVec F S_ .f32 := constant S_ .f32 0x7F7F0000#32
  let main_v4 : FVec F S4x3072x6x256 .f32 := broadcastInDim S4x3072x6x256 ![] bcast_S_S4x3072x6x256 main_cst_0
  let main_v5 : IVec S4x3072x6x256 1 := cmpf .ole main_v3 main_v4
  let main_cst_1 : FVec F S_ .f32 := constant S_ .f32 0x00000000#32
  let main_v6 : FVec F S4x3072x6 .f32 := broadcastInDim S4x3072x6 ![] bcast_S_S4x3072x6 main_cst_1
  let main_v7 : IVec S4x3072x6 1 := cmpf .oeq main_v2 main_v6
  let main_cst_2 : FVec F S_ .f32 := constant S_ .f32 0x3B124925#32
  let main_v8 : FVec F S4x3072x6 .f32 := broadcastInDim S4x3072x6 ![] bcast_S_S4x3072x6 main_cst_2
  let main_v9 : FVec F S4x3072x6 .f32 := mulf main_v2 main_v8
  let main_cst_3 : FVec F S_ .f32 := constant S_ .f32 0x00800000#32
  let main_v10 : FVec F S4x3072x6 .f32 := broadcastInDim S4x3072x6 ![] bcast_S_S4x3072x6 main_cst_3
  let main_v11 : IVec S4x3072x6 1 := cmpf .oge main_v9 main_v10
  let main_v12 : IVec S4x3072x6 1 := ori main_v7 main_v11
  let main_v13 : FVec F S4x3072x6x256 .f32 := (extf .f32 · bitsLt_bf16_f32) main_arg1
  let main_v14 : FVec F S4x3072x6x256 .f32 := Host.absf main_v13
  let main_cst_4 : FVec F S_ .f32 := constant S_ .f32 0xFF800000#32
  let main_v15 : FVec F S4x3072x6 .f32 := (fun x v => Host.reduce FloatOps.maximumf x v reducesTo_S4x3072x6x256_S4x3072x6_d3 h_S_) main_v14 main_cst_4
  let main_v16 : FVec F S4x3072x6x256 .f32 := Host.absf main_v13
  let main_cst_5 : FVec F S_ .f32 := constant S_ .f32 0x7F7F0000#32
  fn_part1 (F := F) main_arg2 main_arg3 main_arg4 main_arg5 main_v5 main_v12 main_v15 main_v16 main_cst_5
-- ==== Kernel.lean ====
abbrev S4x3072x6x256 : Shape := ⟨4, ![4, 3072, 6, 256]⟩
abbrev S4x3072x6x512 : Shape := ⟨4, ![4, 3072, 6, 512]⟩
abbrev S4x3072x6 : Shape := ⟨3, ![4, 3072, 6]⟩
abbrev S4x6x256x512 : Shape := ⟨4, ![4, 6, 256, 512]⟩
abbrev S4x6x3072x256 : Shape := ⟨4, ![4, 6, 3072, 256]⟩
abbrev S4x6x3072x512 : Shape := ⟨4, ![4, 6, 3072, 512]⟩
abbrev S6x4x3072 : Shape := ⟨3, ![6, 4, 3072]⟩
abbrev S4x1x128x256 : Shape := ⟨4, ![4, 1, 128, 256]⟩
abbrev S4x1x128x512 : Shape := ⟨4, ![4, 1, 128, 512]⟩
abbrev S1x4x128 : Shape := ⟨3, ![1, 4, 128]⟩
abbrev S4x1x256x512 : Shape := ⟨4, ![4, 1, 256, 512]⟩
abbrev S4x256x512 : Shape := ⟨3, ![4, 256, 512]⟩
abbrev S128x128 : Shape := ⟨2, ![128, 128]⟩
abbrev S4x128 : Shape := ⟨2, ![4, 128]⟩
abbrev S120x128 : Shape := ⟨2, ![120, 128]⟩
abbrev S1x1x128x256 : Shape := ⟨4, ![1, 1, 128, 256]⟩
abbrev S128x256 : Shape := ⟨2, ![128, 256]⟩
abbrev S128 : Shape := ⟨1, ![128]⟩
abbrev S128x1 : Shape := ⟨2, ![128, 1]⟩
abbrev S1x128 : Shape := ⟨2, ![1, 128]⟩
abbrev S1x1 : Shape := ⟨2, ![1, 1]⟩
abbrev S256x256 : Shape := ⟨2, ![256, 256]⟩
abbrev S16x128 : Shape := ⟨2, ![16, 128]⟩
abbrev S16x128x1 : Shape := ⟨3, ![16, 128, 1]⟩
abbrev S128x768 : Shape := ⟨2, ![128, 768]⟩
abbrev S768x128 : Shape := ⟨2, ![768, 128]⟩
abbrev S1x256x512 : Shape := ⟨3, ![1, 256, 512]⟩
abbrev S256x512 : Shape := ⟨2, ![256, 512]⟩
abbrev S1x1x128x512 : Shape := ⟨4, ![1, 1, 128, 512]⟩
abbrev S128x512 : Shape := ⟨2, ![128, 512]⟩
abbrev S768x512 : Shape := ⟨2, ![768, 512]⟩
abbrev S256x128 : Shape := ⟨2, ![256, 128]⟩

abbrev nBuf : Space → Nat
  | .hbm => 17
  | .vmem => 25
  | .smem => 0
  | _ => 0

abbrev bufTy : (tb : Table) → Fin (tcTables nBuf tb) → BufTy
  | .hbm, ⟨0, _⟩ => ⟨S4x3072x6x256, .bf16⟩
  | .hbm, ⟨1, _⟩ => ⟨S4x3072x6x256, .bf16⟩
  | .hbm, ⟨2, _⟩ => ⟨S4x3072x6x512, .bf16⟩
  | .hbm, ⟨3, _⟩ => ⟨S4x3072x6, .f32⟩
  | .hbm, ⟨4, _⟩ => ⟨S4x3072x6, .f32⟩
  | .hbm, ⟨5, _⟩ => ⟨S4x6x256x512, .f32⟩
  | .hbm, ⟨6, _⟩ => ⟨S4x6x3072x256, .bf16⟩
  | .hbm, ⟨7, _⟩ => ⟨S4x6x3072x256, .bf16⟩
  | .hbm, ⟨8, _⟩ => ⟨S4x6x3072x512, .bf16⟩
  | .hbm, ⟨9, _⟩ => ⟨S6x4x3072, .f32⟩
  | .hbm, ⟨10, _⟩ => ⟨S6x4x3072, .f32⟩
  | .hbm, ⟨11, _⟩ => ⟨S4x6x3072x512, .bf16⟩
  | .hbm, ⟨12, _⟩ => ⟨S4x6x256x512, .f32⟩
  | .hbm, ⟨13, _⟩ => ⟨S4x6x3072x256, .fp8e4m3⟩
  | .hbm, ⟨14, _⟩ => ⟨S6x4x3072, .f32⟩
  | .hbm, ⟨15, _⟩ => ⟨S4x6x3072x256, .fp8e4m3⟩
  | .hbm, ⟨16, _⟩ => ⟨S6x4x3072, .f32⟩
  | .local _ .vmem, ⟨0, _⟩ => ⟨S4x1x128x256, .bf16⟩
  | .local _ .vmem, ⟨1, _⟩ => ⟨S4x1x128x256, .bf16⟩
  | .local _ .vmem, ⟨2, _⟩ => ⟨S4x1x128x256, .bf16⟩
  | .local _ .vmem, ⟨3, _⟩ => ⟨S4x1x128x256, .bf16⟩
  | .local _ .vmem, ⟨4, _⟩ => ⟨S4x1x128x512, .bf16⟩
  | .local _ .vmem, ⟨5, _⟩ => ⟨S4x1x128x512, .bf16⟩
  | .local _ .vmem, ⟨6, _⟩ => ⟨S1x4x128, .f32⟩
  | .local _ .vmem, ⟨7, _⟩ => ⟨S1x4x128, .f32⟩
  | .local _ .vmem, ⟨8, _⟩ => ⟨S1x4x128, .f32⟩
  | .local _ .vmem, ⟨9, _⟩ => ⟨S1x4x128, .f32⟩
  | .local _ .vmem, ⟨10, _⟩ => ⟨S4x1x256x512, .f32⟩
  | .local _ .vmem, ⟨11, _⟩ => ⟨S4x1x256x512, .f32⟩
  | .local _ .vmem, ⟨12, _⟩ => ⟨S4x1x128x512, .bf16⟩
  | .local _ .vmem, ⟨13, _⟩ => ⟨S4x1x128x512, .bf16⟩
  | .local _ .vmem, ⟨14, _⟩ => ⟨S4x1x256x512, .f32⟩
  | .local _ .vmem, ⟨15, _⟩ => ⟨S4x1x256x512, .f32⟩
  | .local _ .vmem, ⟨16, _⟩ => ⟨S4x1x128x256, .fp8e4m3⟩
  | .local _ .vmem, ⟨17, _⟩ => ⟨S4x1x128x256, .fp8e4m3⟩
  | .local _ .vmem, ⟨18, _⟩ => ⟨S1x4x128, .f32⟩
  | .local _ .vmem, ⟨19, _⟩ => ⟨S1x4x128, .f32⟩
  | .local _ .vmem, ⟨20, _⟩ => ⟨S4x1x128x256, .fp8e4m3⟩
  | .local _ .vmem, ⟨21, _⟩ => ⟨S4x1x128x256, .fp8e4m3⟩
  | .local _ .vmem, ⟨22, _⟩ => ⟨S1x4x128, .f32⟩
  | .local _ .vmem, ⟨23, _⟩ => ⟨S1x4x128, .f32⟩
  | .local _ .vmem, ⟨24, _⟩ => ⟨S4x256x512, .f32⟩
  | _, _ => ⟨S4x3072x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [BitOps F]

abbrev grid0 : Pipeline.Grid := ⟨2, ![6, 24], ![false, false]⟩

def k0_cond2 (i : grid0.Coords) : BitVec 1 :=
  let arg1 : BitVec 32 := BitVec.ofNat 32 (i 1).val
  let c23_i32_2315 : BitVec 32 := 23#32
  let v8182 : BitVec 1 := Scalar.cmpi .eq arg1 c23_i32_2315
  let v8183 : BitVec 32 := Scalar.extui v8182
  let c0_i32_2316 : BitVec 32 := 0#32
  let v8184 : BitVec 1 := Scalar.cmpi .ne v8183 c0_i32_2316
  v8184

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x1x128x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1x128x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F]
-- ==== ReferenceIdeal.lean ====
abbrev S4x3072x6x256 : Shape := ⟨4, ![4, 3072, 6, 256]⟩
abbrev S4x3072x6x512 : Shape := ⟨4, ![4, 3072, 6, 512]⟩
abbrev S4x3072x6 : Shape := ⟨3, ![4, 3072, 6]⟩
abbrev S4x6x256x512 : Shape := ⟨4, ![4, 6, 256, 512]⟩
abbrev S_ : Shape := ⟨0, ![]⟩
abbrev S253 : Shape := ⟨1, ![253]⟩
abbrev S4x3072x6x1 : Shape := ⟨4, ![4, 3072, 6, 1]⟩
abbrev S1x1x1x253 : Shape := ⟨4, ![1, 1, 1, 253]⟩
abbrev S4x3072x6x253 : Shape := ⟨4, ![4, 3072, 6, 253]⟩
abbrev S3072x4x6x256 : Shape := ⟨4, ![3072, 4, 6, 256]⟩
abbrev S3072x4x6x512 : Shape := ⟨4, ![3072, 4, 6, 512]⟩
abbrev S3072x4x6 : Shape := ⟨3, ![3072, 4, 6]⟩
abbrev S1x4x6x256 : Shape := ⟨4, ![1, 4, 6, 256]⟩
abbrev S4x6x256 : Shape := ⟨3, ![4, 6, 256]⟩
abbrev S1x4x6x512 : Shape := ⟨4, ![1, 4, 6, 512]⟩
abbrev S4x6x512 : Shape := ⟨3, ![4, 6, 512]⟩
abbrev S1x4x6 : Shape := ⟨3, ![1, 4, 6]⟩
abbrev S4x6 : Shape := ⟨2, ![4, 6]⟩
abbrev S4x6x1x1 : Shape := ⟨4, ![4, 6, 1, 1]⟩
abbrev S4x6x1 : Shape := ⟨3, ![4, 6, 1]⟩
abbrev S4x6x256x1 : Shape := ⟨4, ![4, 6, 256, 1]⟩
abbrev S4x6x1x512 : Shape := ⟨4, ![4, 6, 1, 512]⟩
abbrev S4x6x3072x512 : Shape := ⟨4, ![4, 6, 3072, 512]⟩
abbrev S4x6x3072x256 : Shape := ⟨4, ![4, 6, 3072, 256]⟩
abbrev S6x4x3072 : Shape := ⟨3, ![6, 4, 3072]⟩

abbrev nBuf : Space → Nat
  | .hbm => 213
  | .vmem => 6
  | .smem => 0
  | _ => 0

abbrev hbmTy0_0 (i : Nat) : BufTy := match i % 128 with
  | 0 => ⟨S4x3072x6x256, .bf16⟩
  | 1 => ⟨S4x3072x6x256, .bf16⟩
  | 2 => ⟨S4x3072x6x512, .bf16⟩
  | 3 => ⟨S4x3072x6, .f32⟩
  | 4 => ⟨S4x3072x6, .f32⟩
  | 5 => ⟨S4x6x256x512, .f32⟩
  | 6 => ⟨S4x3072x6x256, .f32⟩
  | 7 => ⟨S4x3072x6x256, .f32⟩
  | 8 => ⟨S4x3072x6x256, .f32⟩
  | 9 => ⟨S_, .f32⟩
  | 10 => ⟨S4x3072x6, .f32⟩
  | 11 => ⟨S_, .f32⟩
  | 12 => ⟨S4x3072x6, .f32⟩
  | 13 => ⟨S4x3072x6, .f32⟩
  | 14 => ⟨S253, .i32⟩
  | 15 => ⟨S_, .i32⟩
  | 16 => ⟨S253, .i32⟩
  | 17 => ⟨S253, .i32⟩
  | 18 => ⟨S253, .f32⟩
  | 19 => ⟨S_, .f32⟩
  | 20 => ⟨S253, .f32⟩
  | 21 => ⟨S253, .f32⟩
  | 22 => ⟨S4x3072x6x1, .f32⟩
  | 23 => ⟨S1x1x1x253, .f32⟩
  | 24 => ⟨S4x3072x6x253, .f32⟩
  | 25 => ⟨S4x3072x6x253, .f32⟩
  | 26 => ⟨S4x3072x6x253, .i1⟩
  | 27 => ⟨S_, .f32⟩
  | 28 => ⟨S_, .f32⟩
  | 29 => ⟨S4x3072x6x253, .f32⟩
  | 30 => ⟨S4x3072x6x253, .f32⟩
  | 31 => ⟨S4x3072x6x253, .f32⟩
  | 32 => ⟨S_, .f32⟩
  | 33 => ⟨S4x3072x6, .f32⟩
  | 34 => ⟨S_, .f32⟩
  | 35 => ⟨S4x3072x6, .f32⟩
  | 36 => ⟨S4x3072x6, .i1⟩
  | 37 => ⟨S_, .f32⟩
  | 38 => ⟨S_, .f32⟩
  | 39 => ⟨S4x3072x6, .f32⟩
  | 40 => ⟨S4x3072x6, .f32⟩
  | 41 => ⟨S4x3072x6x256, .f32⟩
  | 42 => ⟨S_, .f32⟩
  | 43 => ⟨S4x3072x6, .f32⟩
  | 44 => ⟨S_, .f32⟩
  | 45 => ⟨S4x3072x6, .f32⟩
  | 46 => ⟨S4x3072x6, .f32⟩
  | 47 => ⟨S253, .i32⟩
  | 48 => ⟨S_, .i32⟩
  | 49 => ⟨S253, .i32⟩
  | 50 => ⟨S253, .i32⟩
  | 51 => ⟨S253, .f32⟩
  | 52 => ⟨S_, .f32⟩
  | 53 => ⟨S253, .f32⟩
  | 54 => ⟨S253, .f32⟩
  | 55 => ⟨S4x3072x6x1, .f32⟩
  | 56 => ⟨S1x1x1x253, .f32⟩
  | 57 => ⟨S4x3072x6x253, .f32⟩
  | 58 => ⟨S4x3072x6x253, .f32⟩
  | 59 => ⟨S4x3072x6x253, .i1⟩
  | 60 => ⟨S_, .f32⟩
  | 61 => ⟨S_, .f32⟩
  | 62 => ⟨S4x3072x6x253, .f32⟩
  | 63 => ⟨S4x3072x6x253, .f32⟩
  | 64 => ⟨S4x3072x6x253, .f32⟩
  | 65 => ⟨S_, .f32⟩
  | 66 => ⟨S4x3072x6, .f32⟩
  | 67 => ⟨S_, .f32⟩
  | 68 => ⟨S4x3072x6, .f32⟩
  | 69 => ⟨S4x3072x6, .i1⟩
  | 70 => ⟨S_, .f32⟩
  | 71 => ⟨S_, .f32⟩
  | 72 => ⟨S4x3072x6, .f32⟩
  | 73 => ⟨S4x3072x6, .f32⟩
  | 74 => ⟨S_, .f32⟩
  | 75 => ⟨S4x3072x6, .f32⟩
  | 76 => ⟨S4x3072x6, .f32⟩
  | 77 => ⟨S4x3072x6x1, .f32⟩
  | 78 => ⟨S4x3072x6x256, .f32⟩
  | 79 => ⟨S4x3072x6x256, .f32⟩
  | 80 => ⟨S_, .f32⟩
  | 81 => ⟨S_, .f32⟩
  | 82 => ⟨S_, .f32⟩
  | 83 => ⟨S4x3072x6x256, .f32⟩
  | 84 => ⟨S4x3072x6x256, .f32⟩
  | 85 => ⟨S_, .f32⟩
  | 86 => ⟨S4x3072x6x256, .f32⟩
  | 87 => ⟨S4x3072x6x256, .f32⟩
  | 88 => ⟨S_, .f32⟩
  | 89 => ⟨S4x3072x6, .f32⟩
  | 90 => ⟨S4x3072x6, .f32⟩
  | 91 => ⟨S4x3072x6x1, .f32⟩
  | 92 => ⟨S4x3072x6x256, .f32⟩
  | 93 => ⟨S4x3072x6x256, .f32⟩
  | 94 => ⟨S_, .f32⟩
  | 95 => ⟨S_, .f32⟩
  | 96 => ⟨S_, .f32⟩
  | 97 => ⟨S4x3072x6x256, .f32⟩
  | 98 => ⟨S4x3072x6x256, .f32⟩
  | 99 => ⟨S_, .f32⟩
  | 100 => ⟨S4x3072x6x256, .f32⟩
  | 101 => ⟨S4x3072x6x256, .f32⟩
  | 102 => ⟨S4x3072x6x256, .fp8e4m3⟩
  | 103 => ⟨S4x3072x6x256, .fp8e4m3⟩
  | 104 => ⟨S4x3072x6x256, .f32⟩
  | 105 => ⟨S4x3072x6x256, .f32⟩
  | 106 => ⟨S4x3072x6x1, .f32⟩
  | 107 => ⟨S4x3072x6x256, .f32⟩
  | 108 => ⟨S4x3072x6x256, .f32⟩
  | 109 => ⟨S4x3072x6x256, .f32⟩
  | 110 => ⟨S_, .f32⟩
  | 111 => ⟨S4x3072x6, .f32⟩
  | 112 => ⟨S_, .f32⟩
  | 113 => ⟨S4x3072x6, .f32⟩
  | 114 => ⟨S4x3072x6, .f32⟩
  | 115 => ⟨S4x3072x6, .f32⟩
  | 116 => ⟨S_, .f32⟩
  | 117 => ⟨S4x3072x6, .f32⟩
  | 118 => ⟨S4x3072x6, .f32⟩
  | 119 => ⟨S4x3072x6x1, .f32⟩
  | 120 => ⟨S4x3072x6x256, .f32⟩
  | 121 => ⟨S4x3072x6x256, .f32⟩
  | 122 => ⟨S4x3072x6x1, .f32⟩
  | 123 => ⟨S4x3072x6x256, .f32⟩
  | 124 => ⟨S4x3072x6x256, .f32⟩
  | 125 => ⟨S4x3072x6x256, .f32⟩
  | 126 => ⟨S_, .f32⟩
  | 127 => ⟨S4x3072x6, .f32⟩
  | _ => ⟨S4x3072x6x256, .bf16⟩

abbrev hbmTy0_1 (i : Nat) : BufTy := match i % 128 with
  | 0 => ⟨S_, .f32⟩
  | 1 => ⟨S4x3072x6, .f32⟩
  | 2 => ⟨S4x3072x6, .f32⟩
  | 3 => ⟨S4x3072x6, .f32⟩
  | 4 => ⟨S_, .f32⟩
  | 5 => ⟨S4x3072x6, .f32⟩
  | 6 => ⟨S4x3072x6, .f32⟩
  | 7 => ⟨S4x3072x6x1, .f32⟩
  | 8 => ⟨S4x3072x6x256, .f32⟩
  | 9 => ⟨S4x3072x6x256, .f32⟩
  | 10 => ⟨S_, .f32⟩
  | 11 => ⟨S4x3072x6x256, .f32⟩
  | 12 => ⟨S4x3072x6x256, .f32⟩
  | 13 => ⟨S3072x4x6x256, .f32⟩
  | 14 => ⟨S3072x4x6x256, .f32⟩
  | 15 => ⟨S4x3072x6x512, .f32⟩
  | 16 => ⟨S3072x4x6x512, .f32⟩
  | 17 => ⟨S3072x4x6, .f32⟩
  | 18 => ⟨S3072x4x6, .f32⟩
  | 19 => ⟨S_, .f32⟩
  | 20 => ⟨S3072x4x6x512, .f32⟩
  | 21 => ⟨S_, .i32⟩
  | 22 => ⟨S3072x4x6x256, .f32⟩
  | 23 => ⟨S3072x4x6x256, .f32⟩
  | 24 => ⟨S3072x4x6x512, .f32⟩
  | 25 => ⟨S3072x4x6, .f32⟩
  | 26 => ⟨S3072x4x6, .f32⟩
  | 27 => ⟨S_, .i32⟩
  | 28 => ⟨S4x6x256x512, .f32⟩
  | 29 => ⟨S3072x4x6x512, .f32⟩
  | 30 => ⟨S_, .i32⟩
  | 31 => ⟨S_, .i1⟩
  | 32 => ⟨S_, .i32⟩
  | 33 => ⟨S_, .i32⟩
  | 34 => ⟨S_, .i32⟩
  | 35 => ⟨S1x4x6x256, .f32⟩
  | 36 => ⟨S4x6x256, .f32⟩
  | 37 => ⟨S_, .i32⟩
  | 38 => ⟨S_, .i32⟩
  | 39 => ⟨S_, .i32⟩
  | 40 => ⟨S1x4x6x256, .f32⟩
  | 41 => ⟨S4x6x256, .f32⟩
  | 42 => ⟨S_, .i32⟩
  | 43 => ⟨S_, .i32⟩
  | 44 => ⟨S_, .i32⟩
  | 45 => ⟨S1x4x6x512, .f32⟩
  | 46 => ⟨S4x6x512, .f32⟩
  | 47 => ⟨S_, .i32⟩
  | 48 => ⟨S_, .i32⟩
  | 49 => ⟨S1x4x6, .f32⟩
  | 50 => ⟨S4x6, .f32⟩
  | 51 => ⟨S_, .i32⟩
  | 52 => ⟨S_, .i32⟩
  | 53 => ⟨S1x4x6, .f32⟩
  | 54 => ⟨S4x6, .f32⟩
  | 55 => ⟨S4x6, .f32⟩
  | 56 => ⟨S4x6x1x1, .f32⟩
  | 57 => ⟨S4x6x256x512, .f32⟩
  | 58 => ⟨S4x6x256x512, .f32⟩
  | 59 => ⟨S4x6x512, .f32⟩
  | 60 => ⟨S4x6x1, .f32⟩
  | 61 => ⟨S4x6x512, .f32⟩
  | 62 => ⟨S4x6x512, .f32⟩
  | 63 => ⟨S4x6x512, .f32⟩
  | 64 => ⟨S4x6x256x1, .f32⟩
  | 65 => ⟨S4x6x1x512, .f32⟩
  | 66 => ⟨S4x6x256x512, .f32⟩
  | 67 => ⟨S4x6x256x512, .f32⟩
  | 68 => ⟨S4x6x256x512, .f32⟩
  | 69 => ⟨S4x6x256x512, .f32⟩
  | 70 => ⟨S4x6x512, .f32⟩
  | 71 => ⟨S1x4x6x512, .f32⟩
  | 72 => ⟨S_, .i32⟩
  | 73 => ⟨S_, .i32⟩
  | 74 => ⟨S_, .i32⟩
  | 75 => ⟨S3072x4x6x512, .f32⟩
  | 76 => ⟨S_, .i32⟩
  | 77 => ⟨S_, .i32⟩
  | 78 => ⟨S4x3072x6x512, .f32⟩
  | 79 => ⟨S4x3072x6x512, .bf16⟩
  | 80 => ⟨S4x6x3072x512, .bf16⟩
  | 81 => ⟨S4x6x3072x256, .fp8e4m3⟩
  | 82 => ⟨S6x4x3072, .f32⟩
  | 83 => ⟨S4x6x3072x256, .fp8e4m3⟩
  | 84 => ⟨S6x4x3072, .f32⟩
  | _ => ⟨S4x3072x6x256, .bf16⟩

abbrev hbmTy (i : Nat) : BufTy := match i / 128 with
  | 0 => hbmTy0_0 i
  | 1 => hbmTy0_1 i
  | _ => ⟨S4x3072x6x256, .bf16⟩

abbrev bufTy : (tb : Table) → Fin (tcTables nBuf tb) → BufTy
  | .hbm, ⟨i, _⟩ => hbmTy i
  | .local _ .vmem, ⟨0, _⟩ => ⟨S4x3072x6x256, .f32⟩
  | .local _ .vmem, ⟨1, _⟩ => ⟨S4x3072x6x256, .f32⟩
  | .local _ .vmem, ⟨2, _⟩ => ⟨S4x3072x6x256, .fp8e4m3⟩
  | .local _ .vmem, ⟨3, _⟩ => ⟨S4x3072x6x256, .fp8e4m3⟩
  | .local _ .vmem, ⟨4, _⟩ => ⟨S4x3072x6x256, .f32⟩
  | .local _ .vmem, ⟨5, _⟩ => ⟨S4x3072x6x256, .f32⟩
  | _, _ => ⟨S4x3072x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v37 : Ref sig .tc := ⟨.hbm, 64, rfl⟩
abbrev main_cst_11 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_cst_13 : Ref sig .tc := ⟨.hbm, 70, rfl⟩
abbrev main_call3_v0 : Ref sig .tc := ⟨.hbm, 71, rfl⟩
abbrev main_call3_v1 : Ref sig .tc := ⟨.hbm, 72, rfl⟩
abbrev main_v41 : Ref sig .tc := ⟨.hbm, 73, rfl⟩
abbrev main_cst_14 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_15 : Ref sig .tc := ⟨.hbm, 80, rfl⟩
abbrev main_cst_16 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_v47 : Ref sig .tc := ⟨.hbm, 87, rfl⟩
abbrev main_cst_17 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_18 : Ref sig .tc := ⟨.hbm, 94, rfl⟩
abbrev main_cst_19 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_v53 : Ref sig .tc := ⟨.hbm, 101, rfl⟩
abbrev main_v54_0 : Ref sig .tc := ⟨.hbm, 102, rfl⟩
abbrev main_v54_1 : Ref sig .tc := ⟨.hbm, 103, rfl⟩
abbrev main_v54_2 : Ref sig .tc := ⟨.hbm, 104, rfl⟩
abbrev main_v54_3 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_20 : Ref sig .tc := ⟨.hbm, 110, rfl⟩
abbrev main_v59 : Ref sig .tc := ⟨.hbm, 111, rfl⟩
abbrev main_cst_21 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_22 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_23 : Ref sig .tc := ⟨.hbm, 126, rfl⟩
abbrev main_v72 : Ref sig .tc := ⟨.hbm, 127, rfl⟩
abbrev main_cst_24 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_25 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_cst_26 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_27 : Ref sig .tc := ⟨.hbm, 147, rfl⟩
abbrev main_v89 : Ref sig .tc := ⟨.hbm, 148, rfl⟩
abbrev main_c_28 : Ref sig .tc := ⟨.hbm, 149, rfl⟩
abbrev main_v90_0 : Ref sig .tc := ⟨.hbm, 150, rfl⟩
abbrev main_v90_1 : Ref sig .tc := ⟨.hbm, 151, rfl⟩
abbrev main_v90_2 : Ref sig .tc := ⟨.hbm, 152, rfl⟩
abbrev main_v90_3 : Ref sig .tc := ⟨.hbm, 153, rfl⟩
abbrev main_v90_4 : Ref sig .tc := ⟨.hbm, 154, rfl⟩
abbrev main_v90_5 : Ref sig .tc := ⟨.hbm, 155, rfl⟩
abbrev main_v90_6 : Ref sig .tc := ⟨.hbm, 156, rfl⟩
abbrev main_v90_7 : Ref sig .tc := ⟨.hbm, 157, rfl⟩
abbrev main_while0c_c_36 : Ref sig .tc := ⟨.hbm, 158, rfl⟩
abbrev main_while0c_v98 : Ref sig .tc := ⟨.hbm, 159, rfl⟩
abbrev main_while0b_call6_c : Ref sig .tc := ⟨.hbm, 160, rfl⟩
abbrev main_while0b_call6_c_0 : Ref sig .tc := ⟨.hbm, 161, rfl⟩
abbrev main_while0b_call6_c_1 : Ref sig .tc := ⟨.hbm, 162, rfl⟩
abbrev main_while0b_call6_v0 : Ref sig .tc := ⟨.hbm, 163, rfl⟩
abbrev main_while0b_v98 : Ref sig .tc := ⟨.hbm, 164, rfl⟩
abbrev main_while0b_call7_c : Ref sig .tc := ⟨.hbm, 165, rfl⟩
abbrev main_while0b_call7_c_0 : Ref sig .tc := ⟨.hbm, 166, rfl⟩
abbrev main_while0b_call7_c_1 : Ref sig .tc := ⟨.hbm, 167, rfl⟩
abbrev main_while0b_call7_v0 : Ref sig .tc := ⟨.hbm, 168, rfl⟩
abbrev main_while0b_v99 : Ref sig .tc := ⟨.hbm, 169, rfl⟩
abbrev main_while0b_call8_c : Ref sig .tc := ⟨.hbm, 170, rfl⟩
abbrev main_while0b_call8_c_0 : Ref sig .tc := ⟨.hbm, 171, rfl⟩
abbrev main_while0b_call8_c_1 : Ref sig .tc := ⟨.hbm, 172, rfl⟩
abbrev main_while0b_call8_v0 : Ref sig .tc := ⟨.hbm, 173, rfl⟩
abbrev main_while0b_v100 : Ref sig .tc := ⟨.hbm, 174, rfl⟩
abbrev main_while0b_call9_c : Ref sig .tc := ⟨.hbm, 175, rfl⟩
abbrev main_while0b_call9_c_0 : Ref sig .tc := ⟨.hbm, 176, rfl⟩
abbrev main_while0b_call9_v0 : Ref sig .tc := ⟨.hbm, 177, rfl⟩
abbrev main_while0b_v101 : Ref sig .tc := ⟨.hbm, 178, rfl⟩
abbrev main_while0b_call10_c : Ref sig .tc := ⟨.hbm, 179, rfl⟩
abbrev main_while0b_call10_c_0 : Ref sig .tc := ⟨.hbm, 180, rfl⟩
abbrev main_while0b_call10_v0 : Ref sig .tc := ⟨.hbm, 181, rfl⟩
abbrev main_while0b_v102 : Ref sig .tc := ⟨.hbm, 182, rfl⟩
abbrev main_while0b_v103 : Ref sig .tc := ⟨.hbm, 183, rfl⟩
abbrev main_while0b_v104 : Ref sig .tc := ⟨.hbm, 184, rfl⟩
abbrev main_while0b_v105 : Ref sig .tc := ⟨.hbm, 185, rfl⟩
abbrev main_while0b_v106 : Ref sig .tc := ⟨.hbm, 186, rfl⟩
abbrev main_while0b_v107 : Ref sig .tc := ⟨.hbm, 187, rfl⟩
abbrev main_while0b_v108 : Ref sig .tc := ⟨.hbm, 188, rfl⟩
abbrev main_while0b_v109 : Ref sig .tc := ⟨.hbm, 189, rfl⟩
abbrev main_while0b_v110 : Ref sig .tc := ⟨.hbm, 190, rfl⟩
abbrev main_while0b_v111 : Ref sig .tc := ⟨.hbm, 191, rfl⟩
abbrev main_while0b_v112 : Ref sig .tc := ⟨.hbm, 192, rfl⟩
abbrev main_while0b_v113 : Ref sig .tc := ⟨.hbm, 193, rfl⟩
abbrev main_while0b_v114 : Ref sig .tc := ⟨.hbm, 194, rfl⟩
abbrev main_while0b_v115 : Ref sig .tc := ⟨.hbm, 195, rfl⟩
abbrev main_while0b_v116 : Ref sig .tc := ⟨.hbm, 196, rfl⟩
abbrev main_while0b_v117 : Ref sig .tc := ⟨.hbm, 197, rfl⟩
abbrev main_while0b_v118 : Ref sig .tc := ⟨.hbm, 198, rfl⟩
abbrev main_while0b_call11_v0 : Ref sig .tc := ⟨.hbm, 199, rfl⟩
abbrev main_while0b_call11_c : Ref sig .tc := ⟨.hbm, 200, rfl⟩
abbrev main_while0b_call11_c_0 : Ref sig .tc := ⟨.hbm, 201, rfl⟩
abbrev main_while0b_call11_c_1 : Ref sig .tc := ⟨.hbm, 202, rfl⟩
abbrev main_while0b_v119 : Ref sig .tc := ⟨.hbm, 203, rfl⟩
abbrev main_while0b_c_36 : Ref sig .tc := ⟨.hbm, 204, rfl⟩
abbrev main_while0b_v120 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev main_while0_count : Scf.Loop 32 := ⟨0#32, 3072#32, 1#32⟩

abbrev grid0 : Pipeline.Grid := .none

abbrev stage0_0 : Fin 1 → Memref sig .tc .vmem S4x3072x6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3072x6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3072x6x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3072x6x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3072x6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3072x6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/- What one grid point of the kernel computes, written as the source writes it: the quantiser, the three-way split of a
   factor, the inverse of a unit lower triangular block, and the block's outputs and new state. `Tie` shows that the
   printed payloads are these functions. -/
module

public import proofs.«01_k».proof.Proof.Gen.KernelIdeal.Skeleton

@[expose] public section

set_option maxRecDepth 16384

noncomputable section

namespace Cert.Blk

open Idealize.ShloMosaic Cert.KernelIdeal Cert.KernelIdeal.Gen

variable {F : FTy → Type} [FloatOps F]

/-! ### The quantiser -/

/-- The key or query block as f32. -/
def load32 (x : Vec F S1x1x128x256 .bf16) : FVec F S128x256 .f32 :=
  extf .f32 (shapeCast S128x256 x shapeCasts_S1x1x128x256_S128x256 : FVec F S128x256 .bf16) bitsLt_bf16_f32

/-- `max |x| / 448` of each token, along 128 lanes. -/
def amax (x : FVec F S128x256 .f32) : FVec F S128x128 .f32 :=
  broadcastTo S128x128 (shapeCast S128x1 (mulf (shapeCast S128x1 (multiReduction .maximumf [1] S128 (absf x) 0xFF800000#32 reduces_S128x256_S128 (.inl rfl) rfl) shapeCasts_S128_S128x1)
    (broadcast S128x1 (Scalar.ofBits .f32 0x3B124925#32))) shapeCasts_S128x1_S128x1) broadcasts_S128x1_S128x128

/-- One step of the search for the exponent: add `s` if the float with that biased exponent is still at most `y`. -/
def probe (y : FVec F S128x128 .f32) (s : BitVec 32) (eb : IVec S128x128 32) : IVec S128x128 32 :=
  select (cmpf .oge y (bitcastToFloat .f32 (shli (addi eb (broadcast S128x128 s)) (broadcast S128x128 23#32))))
    (addi eb (broadcast S128x128 s)) eb

/-- The biased exponent of `y`. -/
def biased (y : FVec F S128x128 .f32) : IVec S128x128 32 :=
  probe y 1#32 (probe y 2#32 (probe y 4#32 (probe y 8#32 (probe y 16#32 (probe y 32#32 (probe y 64#32 (probe y 128#32
    (broadcast S128x128 0#32))))))))

/-- The exponent of the scale. -/
def expo (y : FVec F S128x128 .f32) : IVec S128x128 32 :=
  select (cmpi .eq (biased y) (broadcast S128x128 0#32)) (broadcast S128x128 0#32)
    (subi (biased y) (broadcast S128x128 126#32))

/-- The scale, a power of two. -/
def scale (x : FVec F S128x256 .f32) : FVec F S128x1 .f32 :=
  extractStridedSlice S128x1 ![0, 0] (bitcastToFloat .f32 (shli (addi (expo (amax x)) (broadcast S128x128 127#32))
    (broadcast S128x128 23#32)) : FVec F S128x128 .f32) slices_S128x128_o0_0_S128x1

/-- Its reciprocal, the power of two of the opposite exponent. -/
def invScale (x : FVec F S128x256 .f32) : FVec F S128x1 .f32 :=
  extractStridedSlice S128x1 ![0, 0] (bitcastToFloat .f32 (shli (subi (broadcast S128x128 127#32) (expo (amax x)))
    (broadcast S128x128 23#32)) : FVec F S128x128 .f32) slices_S128x128_o0_0_S128x1

/-- The codes. -/
def codes (x : FVec F S128x256 .f32) : FVec F S128x256 .fp8e4m3 :=
  truncf .fp8e4m3 (minimumf (broadcast S128x256 (Scalar.ofBits .f32 0x43E00000#32))
    (maximumf (broadcast S128x256 (Scalar.ofBits .f32 0xC3E00000#32))
      (mulf x (broadcastTo S128x256 (invScale x) broadcasts_S128x1_S128x256)))) bitsLt_fp8e4m3_f32

/-- One over the token's L2 norm. -/
def rnorm (x : FVec F S128x256 .f32) : FVec F S128x1 .f32 :=
  divf (broadcast S128x1 (Scalar.ofBits .f32 0x3F800000#32))
    (sqrt (addf (shapeCast S128x1 (multiReduction .add [1] S128 (mulf x x) 0x00000000#32 reduces_S128x256_S128 (.inl rfl) rfl) shapeCasts_S128_S128x1)
      (broadcast S128x1 (Scalar.ofBits .f32 0x358637BD#32))))

/-- The factor that turns a key's codes into the normalised key. -/
def fk (x : FVec F S128x256 .f32) : FVec F S128x1 .f32 := mulf (scale x) (rnorm x)

/-- The factor that turns a query's codes into the normalised, scaled query. -/
def fq (x : FVec F S128x256 .f32) : FVec F S128x1 .f32 :=
  mulf (mulf (scale x) (rnorm x)) (broadcast S128x1 (Scalar.ofBits .f32 0x3D800000#32))

/-! ### Rows: decays, step sizes and scales -/

abbrev rI : IVec S128x128 32 := iota .tc S128x128 32 [0] iota_S128x128_d0_w32
abbrev cI : IVec S128x128 32 := iota .tc S128x128 32 [1] iota_S128x128_d1_w32

section split
variable {s : Shape}

/-- The leading bf16 part of a value. -/
def hi (x : FVec F s .f32) : FVec F s .f32 := extf .f32 (truncf .bf16 x)
/-- What the leading part leaves. -/
def rest (x : FVec F s .f32) : FVec F s .f32 := subf x (hi x)
/-- The three parts. -/
def p1 (x : FVec F s .f32) : FVec F s .bf16 := truncf .bf16 (hi x) bitsLt_bf16_f32
def p2 (x : FVec F s .f32) : FVec F s .bf16 := truncf .bf16 (hi (rest x)) bitsLt_bf16_f32
def p3 (x : FVec F s .f32) : FVec F s .bf16 := truncf .bf16 (rest (rest x)) bitsLt_bf16_f32
end split

/-- The inclusive running sum of the decays along the block, for the four batches. -/
def cum (g : Vec F S1x4x128 .f32) : FVec F S4x128 .f32 :=
  let x : FVec F S4x128 .f32 := shapeCast S4x128 g shapeCasts_S1x4x128_S4x128
  let triu : FVec F S128x128 .bf16 := truncf .bf16 (select (cmpi .sle rI cI) (broadcast S128x128 (Scalar.ofBits .f32 0x3F800000#32)) (broadcast S128x128 (Scalar.ofBits .f32 0x00000000#32)) : FVec F S128x128 .f32) bitsLt_bf16_f32
  addf (addf (matmul dot_S4x128_S128x128_S4x128_1_0_0_1_n_n none (p1 x) triu (constant S4x128 .f32 0#32))
    (matmul dot_S4x128_S128x128_S4x128_1_0_0_1_n_n none (p2 x) triu (constant S4x128 .f32 0#32)))
    (matmul dot_S4x128_S128x128_S4x128_1_0_0_1_n_n none (p3 x) triu (constant S4x128 .f32 0#32))

/-- The running sums and the step sizes as columns. -/
def colmat (g b : Vec F S1x4x128 .f32) : FVec F S128x128 .f32 :=
  transpose S128x128 [1, 0] (concatenate S128x128 0 [⟨S4x128, cum g⟩, ⟨S4x128, (shapeCast S4x128 b shapeCasts_S1x4x128_S4x128 : FVec F S4x128 .f32)⟩, ⟨S120x128, broadcast S120x128 (Scalar.ofBits .f32 0x00000000#32)⟩] concatenates_S4x128_S4x128_S120x128_S128x128_d0) transposes_S128x128_p1_0_S128x128

/-- Write a column into lane `n`. -/
def putLane (n : BitVec 32) (x : FVec F S128x1 .f32) (st : FVec F S128x128 .f32) : FVec F S128x128 .f32 :=
  select (cmpi .eq cI (broadcast S128x128 n)) (broadcastTo S128x128 (shapeCast S128x1 x shapeCasts_S128x1_S128x1) broadcasts_S128x1_S128x128) st

/-- Write one batch's key scale, query scale and key factor into their lanes. -/
def putStats (n1 n2 n3 : BitVec 32) (k q : FVec F S128x256 .f32) (st : FVec F S128x128 .f32) : FVec F S128x128 .f32 :=
  putLane n3 (fk k) (putLane n2 (scale q) (putLane n1 (scale k) st))

/-- Scales and factors of the four batches as rows. -/
def statt (k0 q0 k1 q1 k2 q2 k3 q3 : FVec F S128x256 .f32) : FVec F S128x128 .f32 :=
  transpose S128x128 [1, 0] (putStats 3#32 7#32 11#32 k3 q3 (putStats 2#32 6#32 10#32 k2 q2 (putStats 1#32 5#32 9#32 k1 q1
    (putStats 0#32 4#32 8#32 k0 q0 (broadcast S128x128 (Scalar.ofBits .f32 0x00000000#32)))))) transposes_S128x128_p1_0_S128x128

/-! ### Masks -/

section masks
variable {s : Shape}

/-- Floor division by a constant, as the source's `//` prints. -/
def fdiv (x : IVec s 32) (n : BitVec 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt n 0#32)) (Scalar.extui (Scalar.cmpi .slt n 0#32)))))
      (cmpi .ne (remsi x (broadcast s n)) (broadcast s 0#32)))
    (subi (divsi x (broadcast s n)) (broadcast s 1#32)) (divsi x (broadcast s n))

/-- Remainder by 16, as the source's `%` prints. -/
def fmod16 (x : IVec S16x128 32) : IVec S16x128 32 :=
  let n : BitVec 32 := Scalar.select (Scalar.cmpi .eq 16#32 0#32) 1#32 16#32
  let m : IVec S16x128 32 := remsi x (broadcast S16x128 n)
  select (andi (xori (cmpi .slt m (broadcast S16x128 0#32)) (broadcastTo S16x128 (broadcast S16x128 (Scalar.cmpi .slt n 0#32)) broadcasts_S16x128_S16x128))
    (cmpi .ne m (broadcast S16x128 0#32))) (addi m (broadcast S16x128 n)) m
end masks

/-! ### The inverse of a unit lower triangular block -/

abbrev lane16 : IVec S16x128 32 := iota .tc S16x128 32 [1] iota_S16x128_d1_w32
abbrev row16 : IVec S16x128 32 := iota .tc S16x128 32 [0] iota_S16x128_d0_w32

/-- Product of two factors, each split in three: left operand. -/
def lhs6 (x : FVec F S128x128 .f32) : FVec F S128x768 .bf16 :=
  concatenate S128x768 1 [⟨S128x128, p1 x⟩, ⟨S128x128, p1 x⟩, ⟨S128x128, p1 x⟩, ⟨S128x128, p2 x⟩, ⟨S128x128, p2 x⟩, ⟨S128x128, p3 x⟩] concatenates_S128x128_S128x128_S128x128_S128x128_S128x128_S128x128_S128x768_d1
/-- Right operand, 128 columns. -/
def rhs6 (x : FVec F S128x128 .f32) : FVec F S768x128 .bf16 :=
  concatenate S768x128 0 [⟨S128x128, p1 x⟩, ⟨S128x128, p2 x⟩, ⟨S128x128, p3 x⟩, ⟨S128x128, p1 x⟩, ⟨S128x128, p2 x⟩, ⟨S128x128, p1 x⟩] concatenates_S128x128_S128x128_S128x128_S128x128_S128x128_S128x128_S768x128_d0
/-- Right operand, 512 columns. -/
def rhs6w (x : FVec F S128x512 .f32) : FVec F S768x512 .bf16 :=
  concatenate S768x512 0 [⟨S128x512, p1 x⟩, ⟨S128x512, p2 x⟩, ⟨S128x512, p3 x⟩, ⟨S128x512, p1 x⟩, ⟨S128x512, p2 x⟩, ⟨S128x512, p1 x⟩] concatenates_S128x512_S128x512_S128x512_S128x512_S128x512_S128x512_S768x512_d0
/-- Product of two 128-square factors. -/
def mul6 (x y : FVec F S128x128 .f32) : FVec F S128x128 .f32 :=
  matmul dot_S128x768_S768x128_S128x128_1_0_0_1_n_n none (lhs6 x) (rhs6 y) (constant S128x128 .f32 0#32)
/-- Product of a 128-square factor and a 512-wide one. -/
def mul6w (x : FVec F S128x128 .f32) (y : FVec F S128x512 .f32) : FVec F S128x512 .f32 :=
  matmul dot_S128x768_S768x512_S128x512_1_0_0_1_n_n none (lhs6 x) (rhs6w y) (constant S128x512 .f32 0#32)

/-- Put the 16 rows from `16 n` on of `a` in block column `n` of the compact form. -/
def putDiag (n : BitVec 32) (o : Fin 2 → ℕ) (h : S128x128.Slices o S16x128) (a : FVec F S128x128 .f32) (ac : FVec F S16x128 .f32) : FVec F S16x128 .f32 :=
  select (cmpi .eq (fdiv lane16 16#32) (broadcast S16x128 n)) (extractStridedSlice S16x128 o a h) ac

/-- The eight diagonal 16-blocks side by side. -/
def compact (a : FVec F S128x128 .f32) : FVec F S16x128 .f32 :=
  putDiag 7#32 _ slices_S128x128_o112_0_S16x128 a (putDiag 6#32 _ slices_S128x128_o96_0_S16x128 a (putDiag 5#32 _ slices_S128x128_o80_0_S16x128 a
    (putDiag 4#32 _ slices_S128x128_o64_0_S16x128 a (putDiag 3#32 _ slices_S128x128_o48_0_S16x128 a (putDiag 2#32 _ slices_S128x128_o32_0_S16x128 a
      (putDiag 1#32 _ slices_S128x128_o16_0_S16x128 a (putDiag 0#32 _ slices_S128x128_o0_0_S16x128 a
        (broadcast S16x128 (Scalar.ofBits .f32 0x00000000#32)))))))))

/-- Column `k` of each diagonal block, along the block's lanes. -/
def gcol (k : BitVec 32) (ac : FVec F S16x128 .f32) : FVec F S16x128 .f32 :=
  let i : IVec S16x128 32 := addi (muli (fdiv lane16 16#32) (broadcast S16x128 16#32)) (broadcast S16x128 k)
  let j : IVec S16x128 32 := select (cmpi .slt i (broadcast S16x128 0#32)) (addi i (broadcast S16x128 128#32)) i
  dynamicGather 1 ac (shapeCast S16x128 (shapeCast S16x128x1 j shapeCasts_S16x128_S16x128x1) shapeCasts_S16x128x1_S16x128)

/-- One elimination step. -/
def step16 (k : BitVec 32) (o : Fin 2 → ℕ) (h : S16x128.Slices o S1x128) (ac tc : FVec F S16x128 .f32) : FVec F S16x128 .f32 :=
  subf tc (mulf (gcol k ac) (broadcastTo S16x128 (extractStridedSlice S1x128 o tc h) broadcasts_S1x128_S16x128))

/-- The identity in compact form. -/
def eye16 : FVec F S16x128 .f32 :=
  select (cmpi .eq (fmod16 lane16) row16) (broadcast S16x128 (Scalar.ofBits .f32 0x3F800000#32)) (broadcast S16x128 (Scalar.ofBits .f32 0x00000000#32))

/-- The diagonal blocks' inverses in compact form. -/
def elim16 (ac : FVec F S16x128 .f32) : FVec F S16x128 .f32 :=
  step16 14#32 _ slices_S16x128_o14_0_S1x128 ac (step16 13#32 _ slices_S16x128_o13_0_S1x128 ac (step16 12#32 _ slices_S16x128_o12_0_S1x128 ac
  (step16 11#32 _ slices_S16x128_o11_0_S1x128 ac (step16 10#32 _ slices_S16x128_o10_0_S1x128 ac (step16 9#32 _ slices_S16x128_o9_0_S1x128 ac
  (step16 8#32 _ slices_S16x128_o8_0_S1x128 ac (step16 7#32 _ slices_S16x128_o7_0_S1x128 ac (step16 6#32 _ slices_S16x128_o6_0_S1x128 ac
  (step16 5#32 _ slices_S16x128_o5_0_S1x128 ac (step16 4#32 _ slices_S16x128_o4_0_S1x128 ac (step16 3#32 _ slices_S16x128_o3_0_S1x128 ac
  (step16 2#32 _ slices_S16x128_o2_0_S1x128 ac (step16 1#32 _ slices_S16x128_o1_0_S1x128 ac (step16 0#32 _ slices_S16x128_o0_0_S1x128 ac eye16))))))))))))))

/-- Block column `n` of the compact form alone. -/
def keepDiag (n : BitVec 32) (tc : FVec F S16x128 .f32) : FVec F S16x128 .f32 :=
  select (cmpi .eq (fdiv lane16 16#32) (broadcast S16x128 n)) tc (broadcast S16x128 (Scalar.ofBits .f32 0x00000000#32))

/-- The compact form laid on the diagonal. -/
def spread (tc : FVec F S16x128 .f32) : FVec F S128x128 .f32 :=
  concatenate S128x128 0 [⟨S16x128, keepDiag 0#32 tc⟩, ⟨S16x128, keepDiag 1#32 tc⟩, ⟨S16x128, keepDiag 2#32 tc⟩, ⟨S16x128, keepDiag 3#32 tc⟩, ⟨S16x128, keepDiag 4#32 tc⟩, ⟨S16x128, keepDiag 5#32 tc⟩, ⟨S16x128, keepDiag 6#32 tc⟩, ⟨S16x128, keepDiag 7#32 tc⟩] concatenates_S16x128_S16x128_S16x128_S16x128_S16x128_S16x128_S16x128_S16x128_S128x128_d0

/-- The part of `a` that joins the blocks of size `s` in pairs. -/
def offdiag (s s2 : BitVec 32) (a : FVec F S128x128 .f32) : FVec F S128x128 .f32 :=
  select (andi (cmpi .eq (fdiv rI s2) (fdiv cI s2)) (cmpi .sgt (fdiv rI s) (fdiv cI s))) a (broadcast S128x128 (Scalar.ofBits .f32 0x00000000#32))

/-- One doubling step. -/
def double (s s2 : BitVec 32) (a t : FVec F S128x128 .f32) : FVec F S128x128 .f32 :=
  subf t (mul6 t (mul6 (offdiag s s2 a) t))

/-- The inverse of `1 + a`. -/
def inverse (a : FVec F S128x128 .f32) : FVec F S128x128 .f32 :=
  double 64#32 128#32 a (double 32#32 64#32 a (double 16#32 32#32 a (spread (elim16 (compact a)))))

/-! ### One batch's block -/

/-- The codes of keys and queries, stacked. -/
def kq (k q : FVec F S128x256 .f32) : FVec F S256x256 .bf16 :=
  truncf .bf16 (extf .f32 (concatenate S256x256 0 [⟨S128x256, codes k⟩, ⟨S128x256, codes q⟩] concatenates_S128x256_S128x256_S256x256_d0 : FVec F S256x256 .fp8e4m3) bitsLt_fp8e4m3_f32) bitsLt_bf16_f32

/-- The key half of the stack. -/
def kqK (k q : FVec F S128x256 .f32) : FVec F S128x256 .bf16 := extractStridedSlice S128x256 ![0, 0] (kq k q) slices_S256x256_o0_0_S128x256
/-- The query half of the stack. -/
def kqQ (k q : FVec F S128x256 .f32) : FVec F S128x256 .bf16 := extractStridedSlice S128x256 ![128, 0] (kq k q) slices_S256x256_o128_0_S128x256

/-- Products of codes, by the e4m3 unit inside a chunk and by the bf16 one outside. -/
def dots {φ₁ φ₂ : FTy} (x : FVec F S128x256 φ₁) (y : FVec F S128x256 φ₁) (x' : FVec F S128x256 φ₂) (y' : FVec F S128x256 φ₂) : FVec F S128x128 .f32 :=
  select (cmpi .eq (fdiv rI 64#32) (fdiv cI 64#32))
    (matmul dot_S128x256_S128x256_S128x128_1_1_0_0_n_n none x y (constant S128x128 .f32 0#32))
    (matmul dot_S128x256_S128x256_S128x128_1_1_0_0_n_n none x' y' (constant S128x128 .f32 0#32))

/-- The decay between two tokens of the block, at and below the diagonal. -/
def decays (gc : FVec F S128x1 .f32) (gr : FVec F S1x128 .f32) : FVec F S128x128 .f32 :=
  select (cmpi .sge rI cI) (exp (select (cmpi .sge rI cI) (subf (broadcastTo S128x128 gc broadcasts_S128x1_S128x128) (broadcastTo S128x128 gr broadcasts_S1x128_S128x128)) (broadcast S128x128 (Scalar.ofBits .f32 0x00000000#32))))
    (broadcast S128x128 (Scalar.ofBits .f32 0x00000000#32))

/-- The strictly lower triangular matrix of the block's system. -/
def sysA (gc bc : FVec F S128x1 .f32) (gr fr : FVec F S1x128 .f32) (k q : FVec F S128x256 .f32) : FVec F S128x128 .f32 :=
  select (cmpi .sgt rI cI)
    (mulf (mulf (broadcastTo S128x128 bc broadcasts_S128x1_S128x128) (mulf (mulf (dots (codes k) (codes k) (kqK k q) (kqK k q)) (broadcastTo S128x128 (fk k) broadcasts_S128x1_S128x128)) (broadcastTo S128x128 fr broadcasts_S1x128_S128x128)))
      (decays gc gr)) (broadcast S128x128 (Scalar.ofBits .f32 0x00000000#32))

/-- The scores of queries against the block's keys. -/
def score (gc : FVec F S128x1 .f32) (gr fr : FVec F S1x128 .f32) (k q : FVec F S128x256 .f32) : FVec F S128x128 .f32 :=
  mulf (mulf (mulf (dots (codes q) (codes k) (kqQ k q) (kqK k q)) (broadcastTo S128x128 (fq q) broadcasts_S128x1_S128x128)) (broadcastTo S128x128 fr broadcasts_S1x128_S128x128))
    (decays gc gr)

/-- Codes against the state the block starts from. -/
def kqs (k q : FVec F S128x256 .f32) (s : FVec F S256x512 .f32) : FVec F S256x512 .f32 :=
  addf (addf (matmul dot_S256x256_S256x512_S256x512_1_0_0_1_n_n none (kq k q) (p1 s) (constant S256x512 .f32 0#32))
    (matmul dot_S256x256_S256x512_S256x512_1_0_0_1_n_n none (kq k q) (p2 s) (constant S256x512 .f32 0#32)))
    (matmul dot_S256x256_S256x512_S256x512_1_0_0_1_n_n none (kq k q) (p3 s) (constant S256x512 .f32 0#32))

/-- The right side of the block's system. -/
def rhs (gc bc : FVec F S128x1 .f32) (k q : FVec F S128x256 .f32) (s : FVec F S256x512 .f32) (v : FVec F S128x512 .f32) : FVec F S128x512 .f32 :=
  mulf (broadcastTo S128x512 bc broadcasts_S128x1_S128x512)
    (subf v (mulf (broadcastTo S128x512 (mulf (exp gc) (fk k)) broadcasts_S128x1_S128x512) (extractStridedSlice S128x512 ![0, 0] (kqs k q s) slices_S256x512_o0_0_S128x512)))

/-- The block's writes, the solution of the system whose inverse is `t`. -/
def vnew (t : FVec F S128x128 .f32) (gc bc : FVec F S128x1 .f32) (k q : FVec F S128x256 .f32) (s : FVec F S256x512 .f32) (v : FVec F S128x512 .f32) : FVec F S128x512 .f32 :=
  mul6w t (rhs gc bc k q s v)

/-- The block's outputs, from the system's inverse `t` and the scores `p`. -/
def outs (t p : FVec F S128x128 .f32) (gc bc : FVec F S128x1 .f32) (k q : FVec F S128x256 .f32) (s : FVec F S256x512 .f32) (v : FVec F S128x512 .f32) : FVec F S128x512 .f32 :=
  addf (mulf (broadcastTo S128x512 (mulf (exp gc) (fq q)) broadcasts_S128x1_S128x512) (extractStridedSlice S128x512 ![128, 0] (kqs k q s) slices_S256x512_o128_0_S128x512))
    (mul6w p (vnew t gc bc k q s v))

/-- The block's decayed writes. -/
def vdec (t : FVec F S128x128 .f32) (gc bc : FVec F S128x1 .f32) (gl : FVec F S1x1 .f32) (k q : FVec F S128x256 .f32) (s : FVec F S256x512 .f32) (v : FVec F S128x512 .f32) : FVec F S128x512 .f32 :=
  mulf (vnew t gc bc k q s v) (broadcastTo S128x512 (mulf (exp (subf (broadcastTo S128x1 gl broadcasts_S1x1_S128x1) gc)) (fk k)) broadcasts_S128x1_S128x512)

/-- The state the block leaves. -/
def next (t : FVec F S128x128 .f32) (gc bc : FVec F S128x1 .f32) (gl : FVec F S1x1 .f32) (k q : FVec F S128x256 .f32) (s : FVec F S256x512 .f32) (v : FVec F S128x512 .f32) : FVec F S256x512 .f32 :=
  let kt : FVec F S256x128 .bf16 := transpose S256x128 [1, 0] (kqK k q) transposes_S128x256_p1_0_S256x128
  let vd : FVec F S128x512 .f32 := vdec t gc bc gl k q s v
  addf (mulf (broadcastTo S256x512 (exp gl) broadcasts_S1x1_S256x512) s)
    (addf (addf (matmul dot_S256x128_S128x512_S256x512_1_0_0_1_n_n none kt (p1 vd) (constant S256x512 .f32 0#32))
      (matmul dot_S256x128_S128x512_S256x512_1_0_0_1_n_n none kt (p2 vd) (constant S256x512 .f32 0#32)))
      (matmul dot_S256x128_S128x512_S256x512_1_0_0_1_n_n none kt (p3 vd) (constant S256x512 .f32 0#32)))

end Cert.Blk

end
-- ==== Proof.Lower.lean ====
/- The inverse of a unit lower triangular matrix by forward elimination inside 16-blocks and then by doubling the block.
   Nothing here mentions a program. -/
module

public import Idealize.ShloMosaic.Lib.Pointwise
public import Mathlib.Data.Matrix.Mul

@[expose] public section

noncomputable section

namespace Cert.Lower

open Finset

/-- Forward elimination on one column: step `k` takes `a · k` times entry `k` off the column. -/
def elim (a : ℕ → ℕ → ℝ) (x0 : ℕ → ℝ) : ℕ → ℕ → ℝ
  | 0 => x0
  | k + 1 => fun r => elim a x0 k r - a r k * elim a x0 k k

/-- From step `r` on entry `r` no longer changes. -/
theorem elim_done (a : ℕ → ℕ → ℝ) (ha : ∀ r k, r ≤ k → a r k = 0) (x0 : ℕ → ℝ) (r d : ℕ) :
    elim a x0 (r + d) r = elim a x0 r r := by
  induction d with
  | zero => rfl
  | succ d ih => show elim a x0 (r + d + 1) r = _; rw [elim]; dsimp only; rw [ha r (r + d) (by omega), ih]; ring

/-- After `n` steps the column solves `x + a x = x0` (the first `n` columns of `a`). -/
theorem elim_solves (a : ℕ → ℕ → ℝ) (ha : ∀ r k, r ≤ k → a r k = 0) (x0 : ℕ → ℝ) (n r : ℕ) :
    elim a x0 n r + ∑ k ∈ range n, a r k * elim a x0 n k = x0 r := by
  have h1 : ∀ n, elim a x0 n r = x0 r - ∑ k ∈ range n, a r k * elim a x0 k k := by
    intro n
    induction n with
    | zero => simp [elim]
    | succ n ih => rw [elim]; dsimp only; rw [ih, sum_range_succ]; ring
  have h2 : ∑ k ∈ range n, a r k * elim a x0 n k = ∑ k ∈ range n, a r k * elim a x0 k k := by
    refine sum_congr rfl fun k hk => ?_
    have hk' := mem_range.mp hk
    obtain ⟨d, rfl⟩ : ∃ d, n = k + d := ⟨n - k, by omega⟩
    rw [elim_done a ha]
  rw [h1 n, h2]; ring

abbrev Mat := Matrix (Fin 128) (Fin 128) ℝ

/-- The part of `A` inside the diagonal blocks of size `s`. -/
def blk (s : ℕ) (A : Mat) : Mat := fun i j => if i.val / s = j.val / s then A i j else 0

/-- The part of `A` that joining the blocks of size `s` in pairs adds. -/
def off (s : ℕ) (A : Mat) : Mat :=
  fun i j => if i.val / (2 * s) = j.val / (2 * s) ∧ j.val / s < i.val / s then A i j else 0

/-- `T` inverts the diagonal blocks of size `s` of `1 + A`, and is itself zero outside them. -/
structure Inv (s : ℕ) (A T : Mat) : Prop where
  mul : (1 + blk s A) * T = 1
  supp : ∀ i j : Fin 128, i.val / s ≠ j.val / s → T i j = 0

theorem blk_add_off (s : ℕ) (A : Mat) (hA : ∀ i j : Fin 128, i ≤ j → A i j = 0) (hs : 0 < s) :
    blk (2 * s) A = blk s A + off s A := by
  ext i j
  simp only [blk, off, Matrix.add_apply]
  have hd : ∀ x : ℕ, x / (2 * s) = x / s / 2 := fun x => by rw [mul_comm, Nat.div_div_eq_div_mul]
  rw [hd, hd]
  rcases lt_trichotomy (i.val / s) (j.val / s) with h | h | h
  · have hij : i ≤ j := by
      by_contra hc
      have : j.val ≤ i.val := by have := Fin.lt_def.mp (not_le.mp hc); omega
      have := Nat.div_le_div_right (c := s) this; omega
    simp [hA i j hij]
  · simp [h]
  · have h1 : ¬ i.val / s = j.val / s := by omega
    simp [h1, h]

/-- One doubling step. -/
theorem Inv.double {s : ℕ} {A T : Mat} (h : Inv s A T) (hA : ∀ i j : Fin 128, i ≤ j → A i j = 0) (hs : 0 < s) :
    Inv (2 * s) A (T - T * (off s A * T)) := by
  have hd : ∀ x : ℕ, x / (2 * s) = x / s / 2 := fun x => by rw [mul_comm, Nat.div_div_eq_div_mul]
  have h0 : off s A * (T * off s A) = 0 := by
    ext i j
    rw [Matrix.mul_apply]
    refine sum_eq_zero fun k _ => ?_
    by_cases hk : i.val / (2 * s) = k.val / (2 * s) ∧ k.val / s < i.val / s
    · have : (T * off s A) k j = 0 := by
        rw [Matrix.mul_apply]
        refine sum_eq_zero fun l _ => ?_
        by_cases hl : k.val / s = l.val / s
        · have : off s A l j = 0 := by
            simp only [off]
            rw [if_neg]
            rw [hd, hd] at *
            omega
          rw [this, mul_zero]
        · rw [h.supp k l hl, zero_mul]
      rw [this, mul_zero]
    · simp only [off]; rw [if_neg hk, zero_mul]
  refine ⟨?_, ?_⟩
  · rw [blk_add_off s A hA hs]
    have e : (1 + (blk s A + off s A)) * (T - T * (off s A * T))
        = (1 + blk s A) * T + off s A * T - ((1 + blk s A) * T) * (off s A * T)
          - (off s A * (T * off s A)) * T := by
      noncomm_ring
    rw [e, h0, h.mul]; simp
  · intro i j hij
    have hij' : i.val / s ≠ j.val / s := fun he => hij (by rw [hd, hd, he])
    rw [Matrix.sub_apply, h.supp i j hij', Matrix.mul_apply, zero_sub, neg_eq_zero]
    refine sum_eq_zero fun k _ => ?_
    by_cases hk : i.val / s = k.val / s
    · have : (off s A * T) k j = 0 := by
        rw [Matrix.mul_apply]
        refine sum_eq_zero fun l _ => ?_
        by_cases hl : l.val / s = j.val / s
        · have : off s A k l = 0 := by
            simp only [off]
            rw [if_neg]
            rw [hd, hd] at *
            rw [hk, ← hl] at hij
            exact fun hc => hij hc.1
          rw [this, zero_mul]
        · rw [h.supp l j hl, mul_zero]
      rw [this, mul_zero]
    · rw [h.supp i k hk, zero_mul]

/-- The entries of `A` in the 16-block of column `c`, by row and column inside the block. -/
def blkCol (A : Mat) (c : Fin 128) (r k : ℕ) : ℝ :=
  if h : 16 * (c.val / 16) + r < 128 ∧ 16 * (c.val / 16) + k < 128 then A ⟨_, h.1⟩ ⟨_, h.2⟩ else 0

/-- The 16-blocks' inverses, laid on the diagonal. -/
def base (A : Mat) : Mat := fun i j =>
  if j.val / 16 = i.val / 16 then elim (blkCol A j) (fun r => if j.val % 16 = r then 1 else 0) 15 (i.val % 16) else 0

/-- Forward elimination inverts the 16-blocks. -/
theorem base_inv (A : Mat) (hA : ∀ i j : Fin 128, i ≤ j → A i j = 0) : Inv 16 A (base A) := by
  refine ⟨?_, fun i j h => if_neg (Ne.symm h)⟩
  ext i j
  rw [add_mul, one_mul, Matrix.add_apply, Matrix.mul_apply]
  by_cases hij : j.val / 16 = i.val / 16
  · have ha : ∀ r k, r ≤ k → blkCol A j r k = 0 := by
      intro r k hrk
      unfold blkCol
      split
      · exact hA _ _ (by simpa [Fin.le_def] using hrk)
      · rfl
    have hs := elim_solves (blkCol A j) ha (fun r => if j.val % 16 = r then 1 else 0) 15 (i.val % 16)
    have e1 : ∑ k : Fin 128, blk 16 A i k * base A k j
        = ∑ k ∈ range 16, blkCol A j (i.val % 16) k
            * elim (blkCol A j) (fun r => if j.val % 16 = r then 1 else 0) 15 k := by
      have hf : ∀ k : Fin 128, blk 16 A i k * base A k j
          = if j.val / 16 = k.val / 16 then blkCol A j (i.val % 16) (k.val % 16)
              * elim (blkCol A j) (fun r => if j.val % 16 = r then 1 else 0) 15 (k.val % 16) else 0 := by
        intro k
        simp only [blk, base]
        by_cases hk : j.val / 16 = k.val / 16
        · have hk2 : i.val / 16 = k.val / 16 := by omega
          rw [if_pos hk2, if_pos hk, if_pos hk]
          congr 1
          unfold blkCol
          have hi := i.isLt
          have hkk := k.isLt
          rw [dif_pos ⟨by omega, by omega⟩]
          congr 1 <;> apply Fin.ext <;> simp only <;> omega
        · rw [if_neg hk, if_neg hk, mul_zero]
      rw [sum_congr rfl fun k _ => hf k, ← sum_filter]
      have hj := j.isLt
      refine sum_bij' (fun k _ => k.val % 16) (fun k hk => ⟨16 * (j.val / 16) + k % 16, by omega⟩) ?_ ?_ ?_ ?_ ?_
      · intro k _; simp [Nat.mod_lt]
      · intro k hk; simp only [mem_filter, mem_univ, true_and]; omega
      · intro k hk
        have := (mem_filter.mp hk).2
        apply Fin.ext; simp only; omega
      · intro k hk; have := mem_range.mp hk; simp only; omega
      · intro k _; rfl
    rw [e1, sum_range_succ, ha _ 15 (by omega), zero_mul, add_zero]
    simp only [base]
    rw [if_pos hij, hs, Matrix.one_apply]
    congr 1
    rw [Fin.ext_iff, eq_iff_iff]; omega
  · have : ∑ k : Fin 128, blk 16 A i k * base A k j = 0 := by
      refine sum_eq_zero fun k _ => ?_
      simp only [blk, base]
      by_cases hk : i.val / 16 = k.val / 16
      · rw [if_neg (c := j.val / 16 = k.val / 16) (by omega), mul_zero]
      · rw [if_neg hk, zero_mul]
    rw [this]
    simp only [base]
    rw [if_neg hij, Matrix.one_apply, if_neg (by rintro rfl; exact hij rfl), add_zero]

/-- The whole inverse: 16-blocks, then three doublings. -/
def inv (A : Mat) : Mat :=
  let t := base A
  let t := t - t * (off 16 A * t)
  let t := t - t * (off 32 A * t)
  t - t * (off 64 A * t)

/-- It inverts `1 + A` for strictly lower triangular `A`. -/
theorem inv_spec (A : Mat) (hA : ∀ i j : Fin 128, i ≤ j → A i j = 0) : (1 + A) * inv A = 1 := by
  have h := (((base_inv A hA).double hA (by norm_num)).double hA (by norm_num)).double hA (by norm_num)
  have hb : blk (2 * (2 * (2 * 16))) A = A := by
    ext i j
    simp only [blk]
    rw [if_pos]
    have := i.isLt; have := j.isLt; omega
  have := h.mul
  rw [hb] at this
  exact this

end Cert.Lower

end
-- ==== Proof.Ideal1.lean ====
/- The block functions over the extended reals: where their operands hold real numbers, so do they, and the real
   functions are stated. This module: products of split factors, masks, and the inverse of a unit lower triangular
   block. -/
module

public import proofs.«01_k».proof.Proof.Block
public import proofs.«01_k».proof.Proof.Lower
public import Idealize.ShloMosaic.Lib.Pointwise
public import Idealize.ShloMosaic.Lib.MatmulPlain
public import Idealize.ShloMosaic.Lib.WordCmp

@[expose] public section

set_option maxRecDepth 16384

noncomputable section

namespace Cert.Blk

open Idealize.ShloMosaic Cert.KernelIdeal Cert.KernelIdeal.Gen Idealize.ShloMosaic.Pointwise Idealize.ShloMosaic.WordCmp

/-- A matrix over the extended reals that holds real numbers. -/
def Is {m n : ℕ} {φ : FTy} (x : FVec Ideal ⟨2, ![m, n]⟩ φ) (f : Fin m → Fin n → ℝ) : Prop :=
  ∀ i j, x (ix2 i j) = ((f i j : ℝ) : EReal)

theorem Is.of_eq {m n : ℕ} {φ : FTy} {x : FVec Ideal ⟨2, ![m, n]⟩ φ} {f g : Fin m → Fin n → ℝ} (h : Is x f) (e : ∀ i j, f i j = g i j) :
    Is x g := fun i j => by rw [h i j, e i j]

/-- Sums of real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real numbers. -/
theorem sum_mul_coe {n : ℕ} {x y : Fin n → EReal} {f g : Fin n → ℝ} (hx : ∀ i, x i = (f i : EReal)) (hy : ∀ i, y i = (g i : EReal)) :
    ∑ i, x i * y i = ((∑ i, f i * g i : ℝ) : EReal) := by
  rw [coe_sum]
  exact Finset.sum_congr rfl fun i _ => by rw [hx, hy, EReal.coe_mul]

/-! ### Split factors -/

theorem p1_is {m n : ℕ} {x : FVec Ideal ⟨2, ![m, n]⟩ .f32} {f : Fin m → Fin n → ℝ} (h : Is x f) : Is (p1 x) f := h

theorem p2_is {m n : ℕ} {x : FVec Ideal ⟨2, ![m, n]⟩ .f32} {f : Fin m → Fin n → ℝ} (h : Is x f) : Is (p2 x) (fun _ _ => 0) := by
  intro i j
  show x (ix2 i j) - x (ix2 i j) = _
  rw [h i j, ← EReal.coe_sub, sub_self]

theorem p3_is {m n : ℕ} {x : FVec Ideal ⟨2, ![m, n]⟩ .f32} {f : Fin m → Fin n → ℝ} (h : Is x f) : Is (p3 x) (fun _ _ => 0) := by
  intro i j
  show (x (ix2 i j) - x (ix2 i j)) - (x (ix2 i j) - x (ix2 i j)) = _
  rw [h i j, ← EReal.coe_sub, sub_self, ← EReal.coe_sub, sub_self]

/-- The stacked left factor: the matrix three times, then nothing. -/
theorem lhs6_is {x : FVec Ideal S128x128 .f32} {f : Fin 128 → Fin 128 → ℝ} (h : Is x f) :
    Is (lhs6 x) (fun i k => if k.val < 384 then f i ⟨k.val % 128, Nat.mod_lt _ (by norm_num)⟩ else 0) := by
  intro i k
  have hk := k.isLt
  pointwise [lhs6]
  split_ifs <;> (first
    | exact (p1_is h _ _).trans (congrArg Real.toEReal ((congrArg (fun a => f i a) (Fin.ext (by dsimp only; omega))).trans (if_pos (by omega)).symm))
    | exact (p2_is h _ _).trans (congrArg Real.toEReal (if_neg (by omega)).symm)
    | exact (p3_is h _ _).trans (congrArg Real.toEReal (if_neg (by omega)).symm))

/-- The stacked right factor: the matrix, then nothing for as far as the left factor goes. -/
theorem rhs6_is {y : FVec Ideal S128x128 .f32} {g : Fin 128 → Fin 128 → ℝ} (h : Is y g) :
    Is (rhs6 y) (fun k j => if k.val < 128 ∨ 384 ≤ k.val ∧ k.val < 512 ∨ 640 ≤ k.val then g ⟨k.val % 128, Nat.mod_lt _ (by norm_num)⟩ j else 0) := by
  intro k j
  have hk := k.isLt
  pointwise [rhs6]
  split_ifs <;> (first
    | exact (p1_is h _ _).trans (congrArg Real.toEReal ((congrArg (fun a => g a j) (Fin.ext (by dsimp only; omega))).trans (if_pos (by omega)).symm))
    | exact (p2_is h _ _).trans (congrArg Real.toEReal (if_neg (by omega)).symm)
    | exact (p3_is h _ _).trans (congrArg Real.toEReal (if_neg (by omega)).symm))

theorem rhs6w_is {y : FVec Ideal S128x512 .f32} {g : Fin 128 → Fin 512 → ℝ} (h : Is y g) :
    Is (rhs6w y) (fun k j => if k.val < 128 ∨ 384 ≤ k.val ∧ k.val < 512 ∨ 640 ≤ k.val then g ⟨k.val % 128, Nat.mod_lt _ (by norm_num)⟩ j else 0) := by
  intro k j
  have hk := k.isLt
  pointwise [rhs6w]
  split_ifs <;> (first
    | exact (p1_is h _ _).trans (congrArg Real.toEReal ((congrArg (fun a => g a j) (Fin.ext (by dsimp only; omega))).trans (if_pos (by omega)).symm))
    | exact (p2_is h _ _).trans (congrArg Real.toEReal (if_neg (by omega)).symm)
    | exact (p3_is h _ _).trans (congrArg Real.toEReal (if_neg (by omega)).symm))

/-- Only the product of the leading parts is left. -/
theorem sum6 (f g : Fin 128 → ℝ) :
    ∑ k : Fin 768, (if k.val < 384 then f ⟨k.val % 128, Nat.mod_lt _ (by norm_num)⟩ else 0)
      * (if k.val < 128 ∨ 384 ≤ k.val ∧ k.val < 512 ∨ 640 ≤ k.val then g ⟨k.val % 128, Nat.mod_lt _ (by norm_num)⟩ else 0) = ∑ k : Fin 128, f k * g k := by
  rw [Fin.sum_univ_add (a := 128) (b := 640)]
  rw [Finset.sum_eq_zero (s := (Finset.univ : Finset (Fin 640))), add_zero]
  · refine Finset.sum_congr rfl fun k _ => ?_
    have hk := k.isLt
    have e : (⟨(Fin.castAdd 640 k).val % 128, Nat.mod_lt _ (by norm_num)⟩ : Fin 128) = k := Fin.ext (Nat.mod_eq_of_lt hk)
    rw [e, if_pos (by show k.val < 384; omega), if_pos (by left; exact hk)]
  · intro k _
    have hk := k.isLt
    by_cases h1 : (Fin.natAdd 128 k).val < 384
    · rw [if_neg (c := _ ∨ _) (by have : (Fin.natAdd 128 k).val = 128 + k.val := rfl; omega), mul_zero]
    · rw [if_neg h1, zero_mul]

theorem mul6_is {x y : FVec Ideal S128x128 .f32} {f g : Fin 128 → Fin 128 → ℝ} (hx : Is x f) (hy : Is y g) :
    Is (mul6 x y) (fun i j => ∑ k, f i k * g k j) := by
  intro i j
  pointwise [mul6]
  rw [sum_mul_coe (fun k => lhs6_is hx i k) (fun k => rhs6_is hy k j), sum6 (f i) (fun k => g k j)]

theorem mul6w_is {x : FVec Ideal S128x128 .f32} {y : FVec Ideal S128x512 .f32} {f : Fin 128 → Fin 128 → ℝ} {g : Fin 128 → Fin 512 → ℝ}
    (hx : Is x f) (hy : Is y g) : Is (mul6w x y) (fun i j => ∑ k, f i k * g k j) := by
  intro i j
  pointwise [mul6w]
  rw [sum_mul_coe (fun k => lhs6_is hx i k) (fun k => rhs6w_is hy k j), sum6 (f i) (fun k => g k j)]

/-! ### Masks -/

/-- Choice by a mask that holds a proposition. -/
theorem select_at {s : Shape} {α : Type} {c : IVec s 1} {x y : s.Idx → α} {i : s.Idx} {p : Prop} [Decidable p]
    (h : c i = BitVec.ofBool (decide p)) : select c x y i = if p then x i else y i := by
  show Scalar.select (c i) (x i) (y i) = _
  rw [h]
  by_cases hp : p <;> simp [hp, Scalar.select]

/-- Floor division of one word. -/
def fdivS (x n : BitVec 32) : BitVec 32 := fdiv (s := ⟨0, ![]⟩) (fun _ => x) n (fun a => a.elim0)

theorem fdiv_at {s : Shape} (x : IVec s 32) (n : BitVec 32) (i : s.Idx) : fdiv x n i = fdivS (x i) n := rfl

theorem fdivS_16 : ∀ j : Fin 128, fdivS (BitVec.ofNat 32 j) 16#32 = BitVec.ofNat 32 (j / 16) := by decide +kernel
theorem fdivS_32 : ∀ j : Fin 128, fdivS (BitVec.ofNat 32 j) 32#32 = BitVec.ofNat 32 (j / 32) := by decide +kernel
theorem fdivS_64 : ∀ j : Fin 128, fdivS (BitVec.ofNat 32 j) 64#32 = BitVec.ofNat 32 (j / 64) := by decide +kernel
theorem fdivS_128 : ∀ j : Fin 128, fdivS (BitVec.ofNat 32 j) 128#32 = BitVec.ofNat 32 (j / 128) := by decide +kernel

theorem rI_at (i j : Fin 128) : rI (ix2 i j) = BitVec.ofNat 32 i.val := by pointwise [rI]
theorem cI_at (i j : Fin 128) : cI (ix2 i j) = BitVec.ofNat 32 j.val := by pointwise [cI]
theorem lane_at (i : Fin 16) (j : Fin 128) : lane16 (ix2 i j) = BitVec.ofNat 32 j.val := by pointwise [lane16]
theorem row_at (i : Fin 16) (j : Fin 128) : row16 (ix2 i j) = BitVec.ofNat 32 i.val := by pointwise [row16]

theorem lane_mask (b : ℕ) (hb : b < 128) (i : Fin 16) (j : Fin 128) :
    cmpi .eq (fdiv lane16 16#32) (broadcast S16x128 (BitVec.ofNat 32 b)) (ix2 i j) = BitVec.ofBool (decide (j.val / 16 = b)) := by
  show IntOp.cmpi .eq (fdiv lane16 16#32 (ix2 i j)) (BitVec.ofNat 32 b) = _
  rw [fdiv_at, lane_at, fdivS_16, cmpi_eq_ofNat (by have := j.isLt; norm_num; omega) (by norm_num; omega)]

/-! ### The inverse -/

/-- Entries of a matrix by row and column number. -/
def at2 {m n : ℕ} (f : Fin m → Fin n → ℝ) (i j : ℕ) : ℝ := if h : i < m ∧ j < n then f ⟨i, h.1⟩ ⟨j, h.2⟩ else 0

theorem putDiag_at (b : ℕ) (hb : b < 8) (o : Fin 2 → ℕ) (ho : o = ![16 * b, 0]) (h : S128x128.Slices o S16x128) (a : FVec Ideal S128x128 .f32)
    (ac : FVec Ideal S16x128 .f32) (i : Fin 16) (j : Fin 128) :
    putDiag (BitVec.ofNat 32 b) o h a ac (ix2 i j) = if j.val / 16 = b then a (ix2 ⟨16 * b + i.val, by omega⟩ j) else ac (ix2 i j) := by
  subst ho
  unfold putDiag
  rw [select_at (lane_mask b (by omega) i j)]
  congr 1
  pointwise []

theorem compact_is {a : FVec Ideal S128x128 .f32} {A : Fin 128 → Fin 128 → ℝ} (h : Is a A) :
    Is (compact a) (fun r j => A ⟨16 * (j.val / 16) + r.val, by omega⟩ j) := by
  intro r j
  have hj := j.isLt
  unfold compact
  rw [putDiag_at 7 (by norm_num) _ rfl, putDiag_at 6 (by norm_num) _ rfl, putDiag_at 5 (by norm_num) _ rfl, putDiag_at 4 (by norm_num) _ rfl,
    putDiag_at 3 (by norm_num) _ rfl, putDiag_at 2 (by norm_num) _ rfl, putDiag_at 1 (by norm_num) _ rfl, putDiag_at 0 (by norm_num) _ rfl]
  split_ifs <;> first | (exfalso; omega) | exact (h _ _).trans (congrArg (fun a => ((A a j : ℝ) : EReal)) (Fin.ext (by dsimp only; omega)))

/-- The lane of column `k` of lane `j`'s block. -/
theorem gcol_idx : ∀ (k : Fin 16) (j : Fin 128),
    (Scalar.select (IntOp.cmpi .slt (fdivS (BitVec.ofNat 32 j) 16#32 * 16#32 + BitVec.ofNat 32 k) 0#32)
      (fdivS (BitVec.ofNat 32 j) 16#32 * 16#32 + BitVec.ofNat 32 k + 128#32) (fdivS (BitVec.ofNat 32 j) 16#32 * 16#32 + BitVec.ofNat 32 k)).toNat % 128
      = 16 * (j.val / 16) + k.val := by decide +kernel

theorem gcol_at (k : Fin 16) (ac : FVec Ideal S16x128 .f32) (i : Fin 16) (j : Fin 128) :
    gcol (BitVec.ofNat 32 k.val) ac (ix2 i j) = ac (ix2 i ⟨16 * (j.val / 16) + k.val, by omega⟩) := by
  pointwise [gcol]
  exact congrArg (fun a => ac (ix2 i a)) (Fin.ext (by dsimp only; rw [fdiv_at, lane_at]; exact gcol_idx k j))

theorem step16_is (k : Fin 16) (o : Fin 2 → ℕ) (ho : o = ![k.val, 0]) (h : S16x128.Slices o S1x128) {ac tc : FVec Ideal S16x128 .f32}
    {A T : Fin 16 → Fin 128 → ℝ} (ha : Is ac A) (ht : Is tc T) :
    Is (step16 (BitVec.ofNat 32 k.val) o h ac tc) (fun r j => T r j - A r ⟨16 * (j.val / 16) + k.val, by omega⟩ * T k j) := by
  subst ho
  intro r j
  have e : broadcastTo S16x128 (extractStridedSlice S1x128 ![k.val, 0] tc h) broadcasts_S1x128_S16x128 (ix2 r j) = tc (ix2 k j) := by
    pointwise []
  show tc (ix2 r j) - gcol (BitVec.ofNat 32 k.val) ac (ix2 r j) * broadcastTo S16x128 (extractStridedSlice S1x128 ![k.val, 0] tc h) broadcasts_S1x128_S16x128 (ix2 r j) = _
  rw [e, gcol_at, ha, ht, ht, ← EReal.coe_mul, ← EReal.coe_sub]

/-- The remainder of a lane's number by 16 against a row's number. -/
theorem fmod16_at : ∀ (i : Fin 16) (j : Fin 128), cmpi .eq (fmod16 lane16) row16 (ix2 i j) = BitVec.ofBool (decide (j.val % 16 = i.val)) := by
  intro i j
  have key : ∀ (i : Fin 16) (j : Fin 128), IntOp.cmpi .eq (fmod16 (fun _ => BitVec.ofNat 32 j.val) (ix2 (0 : Fin 16) (0 : Fin 128))) (BitVec.ofNat 32 i.val) = BitVec.ofBool (decide (j.val % 16 = i.val)) := by
    decide +kernel
  refine Eq.trans ?_ (key i j)
  show IntOp.cmpi .eq (fmod16 lane16 (ix2 i j)) (row16 (ix2 i j)) = _
  rw [row_at]
  congr 1
  have e := lane_at i j
  unfold fmod16
  pointwise []

theorem eye16_is : Is (eye16 (F := Ideal)) (fun r j => if j.val % 16 = r.val then 1 else 0) := by
  intro r j
  unfold eye16
  rw [select_at (fmod16_at r j)]
  pointwise []
  split_ifs <;> rfl

open Cert.Lower in
/-- After `n` steps of elimination on the compact form. -/
theorem elim16_is {ac : FVec Ideal S16x128 .f32} {A : Fin 128 → Fin 128 → ℝ} (ha : Is ac (fun r j => A ⟨16 * (j.val / 16) + r.val, by omega⟩ j)) :
    Is (elim16 ac) (fun r j => elim (blkCol A j) (fun r => if j.val % 16 = r then 1 else 0) 15 r.val) := by
  have st : ∀ (n : Fin 16) (o : Fin 2 → ℕ) (ho : o = ![n.val, 0]) (h : S16x128.Slices o S1x128) (tc : FVec Ideal S16x128 .f32),
      Is tc (fun r j => elim (blkCol A j) (fun r => if j.val % 16 = r then 1 else 0) n.val r.val) →
      Is (step16 (BitVec.ofNat 32 n.val) o h ac tc) (fun r j => elim (blkCol A j) (fun r => if j.val % 16 = r then 1 else 0) (n.val + 1) r.val) := by
    intro n o ho h tc ht
    refine (step16_is n o ho h ha ht).of_eq fun r j => ?_
    have hj := j.isLt
    show _ = elim (blkCol A j) _ n.val r.val - blkCol A j r.val n.val * elim (blkCol A j) _ n.val n.val
    congr 2
    unfold blkCol
    rw [dif_pos ⟨by omega, by omega⟩]
    congr 1
    apply Fin.ext
    dsimp only
    omega
  unfold elim16
  exact st 14 _ rfl _ _ <| st 13 _ rfl _ _ <| st 12 _ rfl _ _ <| st 11 _ rfl _ _ <| st 10 _ rfl _ _ <| st 9 _ rfl _ _ <| st 8 _ rfl _ _ <| st 7 _ rfl _ _ <|
    st 6 _ rfl _ _ <| st 5 _ rfl _ _ <| st 4 _ rfl _ _ <| st 3 _ rfl _ _ <| st 2 _ rfl _ _ <| st 1 _ rfl _ _ <| st 0 _ rfl _ _ eye16_is

/-- A value in either case. -/
theorem dite_of {p : Prop} [Decidable p] {α : Type} {x : p → α} {y : ¬p → α} {z : α} (h1 : ∀ h, x h = z) (h2 : ∀ h, y h = z) :
    (if h : p then x h else y h) = z := by
  split
  · exact h1 _
  · exact h2 _

theorem keepDiag_at (b : ℕ) (hb : b < 8) (tc : FVec Ideal S16x128 .f32) (i : Fin 16) (j : Fin 128) :
    keepDiag (BitVec.ofNat 32 b) tc (ix2 i j) = if j.val / 16 = b then tc (ix2 i j) else 0 := by
  unfold keepDiag
  rw [select_at (lane_mask b (by omega) i j)]
  congr 1
  pointwise []

open Cert.Lower in
theorem spread_is {tc : FVec Ideal S16x128 .f32} {A : Fin 128 → Fin 128 → ℝ}
    (ht : Is tc (fun r j => elim (blkCol A j) (fun r => if j.val % 16 = r then 1 else 0) 15 r.val)) : Is (spread tc) (base A) := by
  intro i j
  have hi := i.isLt
  have kd : ∀ (b : ℕ) (hb : b < 8) (r : Fin 16), 16 * b + r.val = i.val → keepDiag (BitVec.ofNat 32 b) tc (ix2 r j) = ((base A i j : ℝ) : EReal) := by
    intro b hb r hr
    rw [keepDiag_at b hb, ht]
    have e1 : i.val / 16 = b := by omega
    have e2 : i.val % 16 = r.val := by omega
    unfold base
    rw [e1, e2]
    split_ifs <;> rfl
  pointwise [spread]
  exact dite_of (fun _ => kd 0 (by norm_num) _ (by show 16 * 0 + (i.val) = i.val; omega)) fun _ => dite_of (fun _ => kd 1 (by norm_num) _ (by show 16 * 1 + (i.val - 16) = i.val; omega)) fun _ =>
    dite_of (fun _ => kd 2 (by norm_num) _ (by show 16 * 2 + (i.val - 16 - 16) = i.val; omega)) fun _ => dite_of (fun _ => kd 3 (by norm_num) _ (by show 16 * 3 + (i.val - 16 - 16 - 16) = i.val; omega)) fun _ =>
    dite_of (fun _ => kd 4 (by norm_num) _ (by show 16 * 4 + (i.val - 16 - 16 - 16 - 16) = i.val; omega)) fun _ => dite_of (fun _ => kd 5 (by norm_num) _ (by show 16 * 5 + (i.val - 16 - 16 - 16 - 16 - 16) = i.val; omega)) fun _ =>
    dite_of (fun _ => kd 6 (by norm_num) _ (by show 16 * 6 + (i.val - 16 - 16 - 16 - 16 - 16 - 16) = i.val; omega)) fun _ => kd 7 (by norm_num) _ (by show 16 * 7 + (i.val - 16 - 16 - 16 - 16 - 16 - 16 - 16) = i.val; omega)

open Cert.Lower in
theorem offdiag_is (s : ℕ) (s1 s2 : BitVec 32) (h1 : ∀ j : Fin 128, fdivS (BitVec.ofNat 32 j) s1 = BitVec.ofNat 32 (j / s))
    (h2 : ∀ j : Fin 128, fdivS (BitVec.ofNat 32 j) s2 = BitVec.ofNat 32 (j / (2 * s))) {a : FVec Ideal S128x128 .f32} {A : Fin 128 → Fin 128 → ℝ} (ha : Is a A) :
    Is (offdiag s1 s2 a) (off s A) := by
  intro i j
  have hi : ∀ (k : Fin 128) (n : ℕ), k.val / n < 2 ^ 31 := fun k n => lt_of_le_of_lt (Nat.div_le_self _ _) (lt_trans k.isLt (by norm_num))
  have m : andi (cmpi .eq (fdiv rI s2) (fdiv cI s2)) (cmpi .sgt (fdiv rI s1) (fdiv cI s1)) (ix2 i j)
      = BitVec.ofBool (decide (i.val / (2 * s) = j.val / (2 * s) ∧ j.val / s < i.val / s)) := by
    show IntOp.andi (IntOp.cmpi .eq (fdiv rI s2 (ix2 i j)) (fdiv cI s2 (ix2 i j))) (IntOp.cmpi .sgt (fdiv rI s1 (ix2 i j)) (fdiv cI s1 (ix2 i j))) = _
    rw [fdiv_at, fdiv_at, fdiv_at, fdiv_at, rI_at, cI_at, h1, h1, h2, h2, cmpi_eq_ofNat (lt_trans (hi _ _) (by norm_num)) (lt_trans (hi _ _) (by norm_num)),
      cmpi_sgt_ofNat (hi _ _) (hi _ _)]
    by_cases a : i.val / (2 * s) = j.val / (2 * s) <;> by_cases b : j.val / s < i.val / s <;> simp [a, b, IntOp.andi]
  unfold offdiag
  rw [select_at m, ha]
  unfold off
  pointwise []
  split_ifs <;> rfl

open Cert.Lower in
theorem double_is (s : ℕ) (s1 s2 : BitVec 32) (h1 : ∀ j : Fin 128, fdivS (BitVec.ofNat 32 j) s1 = BitVec.ofNat 32 (j / s))
    (h2 : ∀ j : Fin 128, fdivS (BitVec.ofNat 32 j) s2 = BitVec.ofNat 32 (j / (2 * s))) {a t : FVec Ideal S128x128 .f32} {A T : Mat} (ha : Is a A) (ht : Is t T) :
    Is (double s1 s2 a t) (T - T * (off s A * T)) := by
  intro i j
  have m := mul6_is ht (mul6_is (offdiag_is s s1 s2 h1 h2 ha) ht) i j
  show t (ix2 i j) - mul6 t (mul6 (offdiag s1 s2 a) t) (ix2 i j) = _
  rw [m, ht, ← EReal.coe_sub]
  rfl

open Cert.Lower in
/-- The kernel's inverse is the real one. -/
theorem inverse_is {a : FVec Ideal S128x128 .f32} {A : Mat} (ha : Is a A) : Is (inverse a) (Lower.inv A) := by
  unfold inverse Lower.inv
  exact double_is 64 _ _ fdivS_64 fdivS_128 ha (double_is 32 _ _ fdivS_32 fdivS_64 ha (double_is 16 _ _ fdivS_16 fdivS_32 ha
    (spread_is (elim16_is (compact_is ha)))))

end Cert.Blk
end
-- ==== Proof.Ideal2.lean ====
/- The block functions over the extended reals, second part: running sums, rows, the block's system, its outputs and its
   new state, as real functions of the codes, factors, decays and step sizes. -/
module

public import proofs.«01_k».proof.Proof.Ideal1

@[expose] public section

set_option maxRecDepth 16384

noncomputable section

namespace Cert.Blk

open Idealize.ShloMosaic Cert.KernelIdeal Cert.KernelIdeal.Gen Idealize.ShloMosaic.Pointwise Idealize.ShloMosaic.WordCmp

/-- The mask of the entries at or below the diagonal. -/
theorem ge_mask (i j : Fin 128) : cmpi .sge rI cI (ix2 i j) = BitVec.ofBool (decide (j.val ≤ i.val)) := by
  show IntOp.cmpi .sge (rI (ix2 i j)) (cI (ix2 i j)) = _
  rw [rI_at, cI_at, cmpi_sge_ofNat (lt_trans i.isLt (by norm_num)) (lt_trans j.isLt (by norm_num))]

/-- The mask of the entries below the diagonal. -/
theorem gt_mask (i j : Fin 128) : cmpi .sgt rI cI (ix2 i j) = BitVec.ofBool (decide (j.val < i.val)) := by
  show IntOp.cmpi .sgt (rI (ix2 i j)) (cI (ix2 i j)) = _
  rw [rI_at, cI_at, cmpi_sgt_ofNat (lt_trans i.isLt (by norm_num)) (lt_trans j.isLt (by norm_num))]

/-- The mask of the entries at or above the diagonal. -/
theorem le_mask (i j : Fin 128) : cmpi .sle rI cI (ix2 i j) = BitVec.ofBool (decide (i.val ≤ j.val)) := by
  show IntOp.cmpi .sle (rI (ix2 i j)) (cI (ix2 i j)) = _
  rw [rI_at, cI_at, cmpi_sle_ofNat (lt_trans i.isLt (by norm_num)) (lt_trans j.isLt (by norm_num))]

/-- The mask of one lane. -/
theorem lane_eq (n : ℕ) (hn : n < 128) (i j : Fin 128) : cmpi .eq cI (broadcast S128x128 (BitVec.ofNat 32 n)) (ix2 i j) = BitVec.ofBool (decide (j.val = n)) := by
  show IntOp.cmpi .eq (cI (ix2 i j)) (BitVec.ofNat 32 n) = _
  rw [cI_at, cmpi_eq_ofNat (lt_trans j.isLt (by norm_num)) (lt_trans hn (by norm_num))]

/-! ### Running sums -/

/-- The ones at and above the diagonal. -/
def triu : FVec Ideal S128x128 .bf16 := truncf .bf16 (select (cmpi .sle rI cI) (broadcast S128x128 (Scalar.ofBits .f32 0x3F800000#32)) (broadcast S128x128 (Scalar.ofBits .f32 0x00000000#32)) : FVec Ideal S128x128 .f32) bitsLt_bf16_f32

theorem triu_is : Is triu (fun i j => if i.val ≤ j.val then 1 else 0) := by
  intro i j
  show select (cmpi .sle rI cI) (broadcast S128x128 (Scalar.ofBits .f32 0x3F800000#32)) (broadcast S128x128 (Scalar.ofBits .f32 0x00000000#32) : FVec Ideal S128x128 .f32) (ix2 i j) = _
  rw [select_at (le_mask i j)]
  pointwise []
  split_ifs <;> rfl

theorem cum_is {g : Vec Ideal S1x4x128 .f32} {G : Fin 4 → Fin 128 → ℝ} (hg : ∀ b i, g (ix3 0 b i) = ((G b i : ℝ) : EReal)) :
    Is (cum g) (fun b i => ∑ j, G b j * (if j.val ≤ i.val then 1 else 0)) := by
  intro b i
  have hx : Is (φ := .f32) (shapeCast S4x128 g shapeCasts_S1x4x128_S4x128 : FVec Ideal S4x128 .f32) G := by
    intro b i
    pointwise []
    exact hg b i
  show matmul dot_S4x128_S128x128_S4x128_1_0_0_1_n_n none (p1 _) triu (constant S4x128 .f32 0#32) (ix2 b i)
    + matmul dot_S4x128_S128x128_S4x128_1_0_0_1_n_n none (p2 _) triu (constant S4x128 .f32 0#32) (ix2 b i)
    + matmul dot_S4x128_S128x128_S4x128_1_0_0_1_n_n none (p3 _) triu (constant S4x128 .f32 0#32) (ix2 b i) = _
  pointwise []
  rw [sum_mul_coe (fun k => p1_is hx b k) (fun k => triu_is k i), sum_mul_coe (fun k => p2_is hx b k) (fun k => triu_is k i),
    sum_mul_coe (fun k => p3_is hx b k) (fun k => triu_is k i)]
  simp

theorem colmat_g {g b : Vec Ideal S1x4x128 .f32} (n : Fin 4) (i : Fin 128) :
    colmat g b (ix2 i ⟨n.val, by omega⟩) = cum g (ix2 n i) := by
  have := n.isLt
  pointwise [colmat]

theorem colmat_b {g b : Vec Ideal S1x4x128 .f32} (n : Fin 4) (i : Fin 128) :
    colmat g b (ix2 i ⟨4 + n.val, by omega⟩) = b (ix3 0 n i) := by
  have := n.isLt
  pointwise [colmat]

/-! ### The block -/

/-- What a batch's block reads, as real functions. -/
structure Real1 (gc bc : FVec Ideal S128x1 .f32) (gr fr : FVec Ideal S1x128 .f32) (gl : FVec Ideal S1x1 .f32) (k q : FVec Ideal S128x256 .f32)
    (G B FK FQ : Fin 128 → ℝ) (K Q : Fin 128 → Fin 256 → ℝ) : Prop where
  gc : Is gc (fun i _ => G i)
  bc : Is bc (fun i _ => B i)
  gr : Is gr (fun _ j => G j)
  fr : Is fr (fun _ j => FK j)
  gl : Is gl (fun _ _ => G 127)
  fk : Is (fk k) (fun i _ => FK i)
  fq : Is (fq q) (fun i _ => FQ i)
  kc : Is (codes k) K
  qc : Is (codes q) Q

theorem dots_is {φ₁ φ₂ : FTy} {x y : FVec Ideal S128x256 φ₁} {x' y' : FVec Ideal S128x256 φ₂} {f g : Fin 128 → Fin 256 → ℝ}
    (hx : Is x f) (hy : Is y g) (hx' : Is x' f) (hy' : Is y' g) : Is (dots x y x' y') (fun i j => ∑ a, f i a * g j a) := by
  intro i j
  have e1 : matmul dot_S128x256_S128x256_S128x128_1_1_0_0_n_n none x y (constant S128x128 .f32 0#32) (ix2 i j) = ((∑ a, f i a * g j a : ℝ) : EReal) := by
    pointwise []
    exact sum_mul_coe (fun k => hx i k) (fun k => hy j k)
  have e2 : matmul dot_S128x256_S128x256_S128x128_1_1_0_0_n_n none x' y' (constant S128x128 .f32 0#32) (ix2 i j) = ((∑ a, f i a * g j a : ℝ) : EReal) := by
    pointwise []
    exact sum_mul_coe (fun k => hx' i k) (fun k => hy' j k)
  unfold dots
  show Scalar.select _ _ _ = _
  rw [e1, e2]
  unfold Scalar.select
  split <;> rfl

theorem decays_is {gc : FVec Ideal S128x1 .f32} {gr : FVec Ideal S1x128 .f32} {G : Fin 128 → ℝ} (hc : Is gc (fun i _ => G i)) (hr : Is gr (fun _ j => G j)) :
    Is (decays gc gr) (fun i j => if j.val ≤ i.val then Real.exp (G i - G j) else 0) := by
  intro i j
  have e1 : subf (broadcastTo S128x128 gc broadcasts_S128x1_S128x128) (broadcastTo S128x128 gr broadcasts_S1x128_S128x128) (ix2 i j) = ((G i - G j : ℝ) : EReal) := by
    pointwise []
    rw [hc, hr, EReal.coe_sub]
  unfold decays
  rw [select_at (ge_mask i j)]
  show (if _ then Ideal.exp (select (cmpi .sge rI cI) _ _ (ix2 i j)) else _) = _
  rw [select_at (ge_mask i j), e1]
  pointwise []
  split_ifs <;> rfl

section
variable {gc bc : FVec Ideal S128x1 .f32} {gr fr : FVec Ideal S1x128 .f32} {gl : FVec Ideal S1x1 .f32} {k q : FVec Ideal S128x256 .f32}
    {G B FK FQ : Fin 128 → ℝ} {K Q : Fin 128 → Fin 256 → ℝ}

theorem kqK_is (h : Real1 gc bc gr fr gl k q G B FK FQ K Q) : Is (kqK k q) K := by
  intro i a
  pointwise [kqK, kq]
  exact h.kc i a

theorem kqQ_is (h : Real1 gc bc gr fr gl k q G B FK FQ K Q) : Is (kqQ k q) Q := by
  intro i a
  pointwise [kqQ, kq]
  exact h.qc i a

/-- The block's strictly lower triangular matrix. -/
def sysR (G B FK : Fin 128 → ℝ) (K : Fin 128 → Fin 256 → ℝ) : Cert.Lower.Mat := fun i j =>
  if j.val < i.val then B i * ((∑ a, K i a * K j a) * FK i * FK j) * Real.exp (G i - G j) else 0

theorem sysA_is (h : Real1 gc bc gr fr gl k q G B FK FQ K Q) : Is (sysA gc bc gr fr k q) (sysR G B FK K) := by
  intro i j
  unfold sysA
  rw [select_at (gt_mask i j)]
  have d := dots_is h.kc h.kc (kqK_is h) (kqK_is h) i j
  have e := decays_is h.gc h.gr i j
  pointwise []
  rw [d, e, h.bc, h.fk, h.fr]
  unfold sysR
  split_ifs with h1
  · simp only [← EReal.coe_mul]
    rw [if_pos h1.le]
  · rfl

/-- The scores. -/
def scoR (G FK FQ : Fin 128 → ℝ) (K Q : Fin 128 → Fin 256 → ℝ) (i j : Fin 128) : ℝ :=
  if j.val ≤ i.val then (∑ a, Q i a * K j a) * FQ i * FK j * Real.exp (G i - G j) else 0

theorem score_is (h : Real1 gc bc gr fr gl k q G B FK FQ K Q) : Is (score gc gr fr k q) (scoR G FK FQ K Q) := by
  intro i j
  have d := dots_is h.qc h.kc (kqQ_is h) (kqK_is h) i j
  have e := decays_is h.gc h.gr i j
  pointwise [score]
  rw [d, e, h.fq, h.fr]
  unfold scoR
  simp only [← EReal.coe_mul]
  congr 1
  split_ifs
  · rfl
  · exact mul_zero _

/-- Codes stacked, keys over queries. -/
theorem kq_is (h : Real1 gc bc gr fr gl k q G B FK FQ K Q) : Is (kq k q) (fun i a => if h : i.val < 128 then K ⟨i.val, h⟩ a else Q ⟨i.val - 128, by omega⟩ a) := by
  intro i a
  pointwise [kq]
  split_ifs <;> first | exact h.kc _ a | exact h.qc _ a

theorem kqs_is (h : Real1 gc bc gr fr gl k q G B FK FQ K Q) {s : FVec Ideal S256x512 .f32} {S : Fin 256 → Fin 512 → ℝ} (hs : Is s S) :
    Is (kqs k q s) (fun i c => ∑ a, (if h : i.val < 128 then K ⟨i.val, h⟩ a else Q ⟨i.val - 128, by omega⟩ a) * S a c) := by
  intro i c
  pointwise [kqs]
  rw [sum_mul_coe (fun a => kq_is h i a) (fun a => p1_is hs a c), sum_mul_coe (fun a => kq_is h i a) (fun a => p2_is hs a c),
    sum_mul_coe (fun a => kq_is h i a) (fun a => p3_is hs a c)]
  simp

/-- The right side of the block's system. -/
def rhsR (G B FK : Fin 128 → ℝ) (K : Fin 128 → Fin 256 → ℝ) (S : Fin 256 → Fin 512 → ℝ) (V : Fin 128 → Fin 512 → ℝ) (i : Fin 128) (c : Fin 512) : ℝ :=
  B i * (V i c - Real.exp (G i) * FK i * ∑ a, K i a * S a c)

theorem rhs_is (h : Real1 gc bc gr fr gl k q G B FK FQ K Q) {s : FVec Ideal S256x512 .f32} {S : Fin 256 → Fin 512 → ℝ} (hs : Is s S)
    {v : FVec Ideal S128x512 .f32} {V : Fin 128 → Fin 512 → ℝ} (hv : Is v V) : Is (rhs gc bc k q s v) (rhsR G B FK K S V) := by
  intro i c
  have e : kqs k q s (ix2 ⟨i.val, by omega⟩ c) = ((∑ a, K i a * S a c : ℝ) : EReal) := by
    rw [kqs_is h hs]
    congr 1
    exact Finset.sum_congr rfl fun a _ => by rw [dif_pos i.isLt]
  pointwise [rhs]
  rw [h.bc, h.gc, h.fk, hv, e, Ideal.exp_coe]
  simp only [← EReal.coe_mul, ← EReal.coe_sub]
  rfl

/-- The block's writes. -/
def newR (G B FK : Fin 128 → ℝ) (K : Fin 128 → Fin 256 → ℝ) (S : Fin 256 → Fin 512 → ℝ) (V : Fin 128 → Fin 512 → ℝ) (i : Fin 128) (c : Fin 512) : ℝ :=
  ∑ j, Cert.Lower.inv (sysR G B FK K) i j * rhsR G B FK K S V j c

theorem vnew_is (h : Real1 gc bc gr fr gl k q G B FK FQ K Q) {s : FVec Ideal S256x512 .f32} {S : Fin 256 → Fin 512 → ℝ} (hs : Is s S)
    {v : FVec Ideal S128x512 .f32} {V : Fin 128 → Fin 512 → ℝ} (hv : Is v V) :
    Is (vnew (inverse (sysA gc bc gr fr k q)) gc bc k q s v) (newR G B FK K S V) :=
  mul6w_is (inverse_is (sysA_is h)) (rhs_is h hs hv)

/-- The block's outputs. -/
def outR (G B FK FQ : Fin 128 → ℝ) (K Q : Fin 128 → Fin 256 → ℝ) (S : Fin 256 → Fin 512 → ℝ) (V : Fin 128 → Fin 512 → ℝ) (i : Fin 128) (c : Fin 512) : ℝ :=
  Real.exp (G i) * FQ i * (∑ a, Q i a * S a c) + ∑ j, scoR G FK FQ K Q i j * newR G B FK K S V j c

theorem outs_is (h : Real1 gc bc gr fr gl k q G B FK FQ K Q) {s : FVec Ideal S256x512 .f32} {S : Fin 256 → Fin 512 → ℝ} (hs : Is s S)
    {v : FVec Ideal S128x512 .f32} {V : Fin 128 → Fin 512 → ℝ} (hv : Is v V) :
    Is (outs (inverse (sysA gc bc gr fr k q)) (score gc gr fr k q) gc bc k q s v) (outR G B FK FQ K Q S V) := by
  intro i c
  have e : kqs k q s (ix2 ⟨128 + i.val, by omega⟩ c) = ((∑ a, Q i a * S a c : ℝ) : EReal) := by
    rw [kqs_is h hs]
    congr 1
    exact Finset.sum_congr rfl fun a _ => by
      rw [dif_neg (by dsimp only; omega)]
      congr 2
      exact Fin.ext (by dsimp only; omega)
  have m := mul6w_is (score_is h) (vnew_is h hs hv) i c
  pointwise [outs]
  rw [m, h.gc, h.fq, e, Ideal.exp_coe]
  simp only [← EReal.coe_mul, ← EReal.coe_add]
  rfl

/-- The state the block leaves. -/
def nextR (G B FK : Fin 128 → ℝ) (K : Fin 128 → Fin 256 → ℝ) (S : Fin 256 → Fin 512 → ℝ) (V : Fin 128 → Fin 512 → ℝ) (a : Fin 256) (c : Fin 512) : ℝ :=
  Real.exp (G 127) * S a c + ∑ j, K j a * (newR G B FK K S V j c * (Real.exp (G 127 - G j) * FK j))

theorem next_is (h : Real1 gc bc gr fr gl k q G B FK FQ K Q) {s : FVec Ideal S256x512 .f32} {S : Fin 256 → Fin 512 → ℝ} (hs : Is s S)
    {v : FVec Ideal S128x512 .f32} {V : Fin 128 → Fin 512 → ℝ} (hv : Is v V) :
    Is (next (inverse (sysA gc bc gr fr k q)) gc bc gl k q s v) (nextR G B FK K S V) := by
  intro a c
  have d : Is (vdec (inverse (sysA gc bc gr fr k q)) gc bc gl k q s v) (fun j c => newR G B FK K S V j c * (Real.exp (G 127 - G j) * FK j)) := by
    intro j c
    have m := vnew_is h hs hv j c
    pointwise [vdec]
    rw [m, h.gc, h.fk, h.gl, ← EReal.coe_sub, Ideal.exp_coe]
    simp only [← EReal.coe_mul]
  pointwise [next]
  rw [sum_mul_coe (fun j => kqK_is h j a) (fun j => p1_is d j c), sum_mul_coe (fun j => kqK_is h j a) (fun j => p2_is d j c),
    sum_mul_coe (fun j => kqK_is h j a) (fun j => p3_is d j c), h.gl, hs, Ideal.exp_coe]
  simp only [← EReal.coe_mul, ← EReal.coe_add]
  congr 1
  simp [nextR]

end

end Cert.Blk
end
-- ==== Proof.Quant.lean ====
/- The quantiser in real numbers, and the kernel's search for the scale: the exponent it finds is that of max|x| / 448. -/
module

public import proofs.«01_k».proof.Proof.Ideal2

@[expose] public section

set_option maxRecDepth 16384

noncomputable section

namespace Cert.Quant

open Idealize.ShloMosaic

/-- The exponent of a positive number: the `n` with `2^n ≤ y < 2^(n+1)`. -/
def lg (y : ℝ) : ℤ := if h : 0 < y then Classical.choose (exists_mem_Ico_zpow h (one_lt_two (α := ℝ))) else 0

theorem zpow_le_iff {y : ℝ} (h : 0 < y) (n : ℤ) : (2 : ℝ) ^ n ≤ y ↔ n ≤ lg y := by
  have e := Classical.choose_spec (exists_mem_Ico_zpow h (one_lt_two (α := ℝ)))
  have d : lg y = Classical.choose (exists_mem_Ico_zpow h (one_lt_two (α := ℝ))) := dif_pos h
  rw [← d] at e
  constructor
  · intro hn
    have := (zpow_lt_zpow_iff_right₀ (one_lt_two (α := ℝ))).1 (lt_of_le_of_lt hn e.2)
    omega
  · intro hn
    exact ((zpow_le_zpow_iff_right₀ (one_lt_two (α := ℝ))).2 hn).trans e.1

theorem lt_zpow_iff {y : ℝ} (h : 0 < y) (n : ℤ) : y < (2 : ℝ) ^ n ↔ lg y < n := by
  rw [← not_le, zpow_le_iff h, not_le]

/-- The largest absolute value of a token. -/
def top (X : Fin 256 → ℝ) : ℝ := Finset.univ.sup' ⟨0, Finset.mem_univ _⟩ fun k => |X k|

/-- The float nearest 1 / 448. -/
def c448 : ℝ := 9586981 * (2 : ℝ) ^ (-32 : ℤ)

/-- The token's scale: the smallest power of two above max|x| / 448, and 1 for a token of zeros. -/
def scaleR (X : Fin 256 → ℝ) : ℝ := if top X = 0 then 1 else (2 : ℝ) ^ (lg (top X * c448) + 1)

/-- A token of zeros, or one whose max|x| / 448 is a normal float of moderate size. -/
def Ok (X : Fin 256 → ℝ) : Prop := top X = 0 ∨ ((2 : ℝ) ^ (-126 : ℤ) ≤ top X * c448 ∧ top X * c448 < (2 : ℝ) ^ (120 : ℤ))

/-- The token's codes. -/
def codeR (X : Fin 256 → ℝ) (k : Fin 256) : ℝ := min 448 (max (-448) (X k * (scaleR X)⁻¹))

/-- The float nearest 1e-6. -/
def epsR : ℝ := 8796093 * (2 : ℝ) ^ (-43 : ℤ)

/-- One over the token's L2 norm. -/
def normR (X : Fin 256 → ℝ) : ℝ := (√(∑ k, X k * X k + epsR))⁻¹

/-- The biased exponent of `y`. -/
def E (y : ℝ) : ℕ := if y = 0 then 0 else (lg y + 127).toNat

theorem top_nonneg (X : Fin 256 → ℝ) : 0 ≤ top X :=
  (abs_nonneg (X 0)).trans (Finset.le_sup' (fun k => |X k|) (Finset.mem_univ 0))

theorem c448_pos : 0 < c448 := by unfold c448; positivity

theorem scaleR_pos (X : Fin 256 → ℝ) : 0 < scaleR X := by
  unfold scaleR; split_ifs <;> positivity

/-! ### Constants as reals -/

theorem shl_fields : ∀ m : BitVec 8, ((m.zeroExtend 32 <<< (23#32)).extractLsb' 23 8 = m) ∧
    ((m.zeroExtend 32 <<< (23#32)).extractLsb' 0 23 = 0#23) ∧ ((m.zeroExtend 32 <<< (23#32)).extractLsb' 31 1 = 0#1) := by
  decide +kernel

/-- The float whose biased exponent is `m` and whose other bits are zero. -/
theorem ofBits_shl (m : ℕ) (h1 : 1 ≤ m) (h2 : m ≤ 254) :
    Ideal.ofBits .f32 (IntOp.shli .vector (BitVec.ofNat 32 m) 23#32) = (((2 : ℝ) ^ ((m : ℤ) - 127) : ℝ) : EReal) := by
  obtain ⟨a, b, c⟩ := shl_fields (BitVec.ofNat 8 m)
  have e : (BitVec.ofNat 8 m).zeroExtend 32 = BitVec.ofNat 32 m := by
    apply BitVec.eq_of_toNat_eq
    simp; omega
  have hm : (BitVec.ofNat 8 m).toNat = m := by simp; omega
  rw [e] at a b c
  show Ideal.ieee 8 23 (BitVec.ofNat 32 m <<< (23#32)) = _
  unfold Ideal.ieee
  simp only [a, b, c, hm]
  rw [if_neg (by omega), if_neg (by omega)]
  simp only [BitVec.toNat_zero]
  congr 1
  norm_num
  rw [show ((8388608 : ℝ)) = (2 : ℝ) ^ (23 : ℤ) by norm_num, ← zpow_add₀ (by norm_num)]
  congr 1
  ring

theorem ofBits_shl_255 : Ideal.ofBits .f32 (IntOp.shli .vector (BitVec.ofNat 32 255) 23#32) = ⊤ := by
  show Ideal.ieee 8 23 (BitVec.ofNat 32 255 <<< (23#32)) = _
  unfold Ideal.ieee
  rfl

theorem c448_coe : Ideal.ofBits .f32 0x3B124925#32 = (c448 : EReal) := by
  simp [Ideal.ofBits, Ideal.ieee, c448]
theorem eps_coe : Ideal.ofBits .f32 0x358637BD#32 = (epsR : EReal) := by
  simp [Ideal.ofBits, Ideal.ieee, epsR]
theorem hi_coe : Ideal.ofBits .f32 0x43E00000#32 = ((448 : ℝ) : EReal) := by
  simp [Ideal.ofBits, Ideal.ieee]
  norm_num
  rw [← EReal.coe_mul]
  norm_num
theorem lo_coe : Ideal.ofBits .f32 0xC3E00000#32 = ((-448 : ℝ) : EReal) := by
  simp [Ideal.ofBits, Ideal.ieee]
  norm_num
  rw [← EReal.coe_mul]
  norm_num
theorem sixteenth_coe : Ideal.ofBits .f32 0x3D800000#32 = ((1/16 : ℝ) : EReal) := by
  simp [Ideal.ofBits, Ideal.ieee]
  norm_num
  rw [← EReal.coe_mul]
  norm_num
theorem neginf_coe : Ideal.ofBits .f32 0xFF800000#32 = ⊥ := by
  simp [Ideal.ofBits, Ideal.ieee]
theorem inf_coe : Ideal.ofBits .f32 0x7F800000#32 = ⊤ := by
  simp [Ideal.ofBits, Ideal.ieee]

/-! ### The largest absolute value -/

theorem absf_coe (r : ℝ) : (FloatOps.absf (F := Ideal) (φ := .f32) (r : EReal)) = ((|r| : ℝ) : EReal) := by
  show max (r : EReal) (-(r : EReal)) = _
  rw [← EReal.coe_neg, ← EReal.coe_strictMono.monotone.map_max]
  rfl

/-- The running maximum from minus infinity is the largest absolute value. -/
theorem fold_top {x : Fin 256 → EReal} {X : Fin 256 → ℝ} (h : ∀ k, x k = X k) :
    Finset.fold max (Ideal.ofBits .f32 0xFF800000#32) (fun k => FloatOps.absf (F := Ideal) (φ := .f32) (x k)) Finset.univ = ((top X : ℝ) : EReal) := by
  rw [neginf_coe]
  apply le_antisymm
  · rw [Finset.fold_max_le]
    refine ⟨bot_le, fun k _ => ?_⟩
    rw [h, absf_coe, EReal.coe_le_coe_iff]
    exact Finset.le_sup' (fun k => |X k|) (Finset.mem_univ k)
  · obtain ⟨k, -, hk⟩ := Finset.exists_mem_eq_sup' (s := Finset.univ) ⟨(0 : Fin 256), Finset.mem_univ _⟩ fun k => |X k|
    rw [Finset.le_fold_max]
    refine .inr ⟨k, Finset.mem_univ _, ?_⟩
    rw [h, absf_coe, EReal.coe_le_coe_iff]
    exact le_of_eq hk

/-! ### The exponent -/

variable {Y : ℝ}

/-- The numbers the search is run on. -/
def Good (Y : ℝ) : Prop := Y = 0 ∨ ((2 : ℝ) ^ (-126 : ℤ) ≤ Y ∧ Y < (2 : ℝ) ^ (120 : ℤ))

theorem good_log (h0 : Y ≠ 0) (h : Good Y) : 0 < Y ∧ -126 ≤ lg Y ∧ lg Y < 120 := by
  obtain h | ⟨h1, h2⟩ := h
  · exact absurd h h0
  have hp : 0 < Y := lt_of_lt_of_le (by positivity) h1
  refine ⟨hp, ?_, ?_⟩
  · exact (zpow_le_iff hp _).1 h1
  · exact (lt_zpow_iff hp _).1 h2

theorem E_le (h : Good Y) : E Y ≤ 246 := by
  unfold E
  split_ifs with h0
  · omega
  · have := good_log h0 h
    omega

/-- A power of two is at most `Y` exactly if its biased exponent is at most that of `Y`. -/
theorem le_iff (h : Good Y) (m : ℕ) (h1 : 1 ≤ m) (h2 : m ≤ 255) :
    Ideal.ofBits .f32 (IntOp.shli .vector (BitVec.ofNat 32 m) 23#32) ≤ ((Y : ℝ) : EReal) ↔ m ≤ E Y := by
  have hE := E_le h
  obtain rfl | h3 : m = 255 ∨ m ≤ 254 := by omega
  · rw [ofBits_shl_255]
    constructor
    · intro h; exact absurd (top_le_iff.1 h) (EReal.coe_ne_top Y)
    · omega
  rw [ofBits_shl m h1 h3, EReal.coe_le_coe_iff]
  unfold E
  split_ifs with h0
  · constructor
    · intro h
      have : (0 : ℝ) < (2 : ℝ) ^ ((m : ℤ) - 127) := by positivity
      linarith
    · omega
  · have := good_log h0 h
    rw [zpow_le_iff this.1]
    omega

end Cert.Quant

namespace Cert.Blk

open Cert.KernelIdeal Cert.KernelIdeal.Gen Idealize.ShloMosaic Idealize.ShloMosaic.Pointwise Idealize.ShloMosaic.WordCmp Cert.Quant

theorem probe_step {y : FVec Ideal S128x128 .f32} {eb : IVec S128x128 32} {i j : Fin 128} {Y : ℝ} (hy : y (ix2 i j) = ((Y : ℝ) : EReal)) (h : Good Y)
    (s : ℕ) (h1 : 1 ≤ s) (hd : ∀ c, 2 * s * c ≤ 246 → 2 * s * c + s ≤ 255)
    (he : ∃ c, eb (ix2 i j) = BitVec.ofNat 32 (2 * s * c) ∧ 2 * s * c ≤ E Y ∧ E Y < 2 * s * c + 2 * s) :
    ∃ c, probe y (BitVec.ofNat 32 s) eb (ix2 i j) = BitVec.ofNat 32 (s * c) ∧ s * c ≤ E Y ∧ E Y < s * c + s := by
  obtain ⟨c, e1, e2, e3⟩ := he
  have hE := E_le h
  have hc := hd c (by omega)
  have hp : probe y (BitVec.ofNat 32 s) eb (ix2 i j) = if 2 * s * c + s ≤ E Y then BitVec.ofNat 32 (2 * s * c + s) else BitVec.ofNat 32 (2 * s * c) := by
    have ha : IntOp.addi (BitVec.ofNat 32 (2 * s * c)) (BitVec.ofNat 32 s) = BitVec.ofNat 32 (2 * s * c + s) := (BitVec.ofNat_add _ _).symm
    pointwise [probe]
    rw [e1, ha, hy]
    exact if_congr (le_iff h _ (by omega) hc) rfl rfl
  rw [hp]
  split_ifs with hh
  · exact ⟨2 * c + 1, by congr 1; ring, by linarith, by linarith⟩
  · exact ⟨2 * c, by congr 1; ring, by linarith, by linarith⟩

/-- The search finds the biased exponent. -/
theorem biased_at {y : FVec Ideal S128x128 .f32} {i j : Fin 128} {Y : ℝ} (hy : y (ix2 i j) = ((Y : ℝ) : EReal)) (h : Good Y) :
    biased y (ix2 i j) = BitVec.ofNat 32 (E Y) := by
  have hE := E_le h
  obtain ⟨c, e1, e2, e3⟩ := probe_step hy h 1 (by omega) (by omega) (probe_step hy h 2 (by omega) (by omega) (probe_step hy h 4 (by omega) (by omega)
    (probe_step hy h 8 (by omega) (by omega) (probe_step hy h 16 (by omega) (by omega) (probe_step hy h 32 (by omega) (by omega)
    (probe_step hy h 64 (by omega) (by omega) (probe_step hy h 128 (by omega) (by omega) (eb := broadcast S128x128 0#32) ⟨0, rfl, by omega, by omega⟩)))))))
  refine (e1 : biased y (ix2 i j) = _).trans ?_
  congr 1
  omega

theorem amax_at {x : FVec Ideal S128x256 .f32} {X : Fin 128 → Fin 256 → ℝ} (h : Is x X) (i j : Fin 128) :
    amax x (ix2 i j) = ((top (X i) * c448 : ℝ) : EReal) := by
  pointwise [amax]
  rw [c448_coe, fold_top (h i), EReal.coe_mul]

theorem ok_good {X : Fin 256 → ℝ} (h : Ok X) : Good (top X * c448) := by
  obtain h | h := h
  · exact .inl (by rw [h, zero_mul])
  · exact .inr h

/-- The exponent of the scale, and the scale as a power of two. -/
theorem scale_exp {X : Fin 256 → ℝ} (h : Ok X) :
    ∃ m : ℕ, 1 ≤ m ∧ m ≤ 253 ∧ (2 : ℝ) ^ ((m : ℤ) - 127) = scaleR X ∧
      IntOp.addi (Scalar.select (IntOp.cmpi CmpIPredicate.eq (BitVec.ofNat 32 (E (top X * c448))) 0#32) (0#32)
        (IntOp.subi (BitVec.ofNat 32 (E (top X * c448))) 126#32)) 127#32 = BitVec.ofNat 32 m ∧
      IntOp.subi 127#32 (Scalar.select (IntOp.cmpi CmpIPredicate.eq (BitVec.ofNat 32 (E (top X * c448))) 0#32) (0#32)
        (IntOp.subi (BitVec.ofNat 32 (E (top X * c448))) 126#32)) = BitVec.ofNat 32 (254 - m) := by
  have hg := ok_good h
  by_cases h0 : top X = 0
  · refine ⟨127, by omega, by omega, ?_, ?_, ?_⟩
    · simp [scaleR, h0]
    · simp only [h0, zero_mul, E, if_true]; rfl
    · simp only [h0, zero_mul, E, if_true]; rfl
  · have hy : top X * c448 ≠ 0 := mul_ne_zero h0 c448_pos.ne'
    obtain ⟨-, l1, l2⟩ := good_log hy hg
    have hE : (E (top X * c448) : ℤ) = lg (top X * c448) + 127 := by
      unfold E; rw [if_neg hy]; omega
    have hX : (2 : ℝ) ^ (((E (top X * c448) + 1 : ℕ) : ℤ) - 127) = scaleR X := by
      unfold scaleR
      rw [if_neg h0]
      congr 1
      push_cast
      omega
    generalize E (top X * c448) = e at *
    obtain rfl | he : e = 0 ∨ 1 ≤ e := by omega
    · exfalso
      obtain h | ⟨h, -⟩ := hg
      · exact hy h
      · omega
    refine ⟨e + 1, by omega, by omega, hX, ?_, ?_⟩
    · rw [show IntOp.cmpi CmpIPredicate.eq (BitVec.ofNat 32 e) 0#32 = 0#1 from by
        rw [show (0#32) = BitVec.ofNat 32 0 from rfl, cmpi_eq_ofNat (by omega) (by omega)]
        rw [decide_eq_false (by omega)]; rfl]
      show BitVec.ofNat 32 e - 126#32 + 127#32 = _
      apply BitVec.eq_of_toNat_eq
      simp; omega
    · rw [show IntOp.cmpi CmpIPredicate.eq (BitVec.ofNat 32 e) 0#32 = 0#1 from by
        rw [show (0#32) = BitVec.ofNat 32 0 from rfl, cmpi_eq_ofNat (by omega) (by omega)]
        rw [decide_eq_false (by omega)]; rfl]
      show 127#32 - (BitVec.ofNat 32 e - 126#32) = _
      apply BitVec.eq_of_toNat_eq
      simp; omega

variable {x : FVec Ideal S128x256 .f32} {X : Fin 128 → Fin 256 → ℝ}

/-- The kernel's scale. -/
theorem scale_is (h : Is x X) (ho : ∀ i, Ok (X i)) : Is (scale x) fun i _ => scaleR (X i) := by
  intro i j
  obtain ⟨m, m1, m2, e1, e2, -⟩ := scale_exp (ho i)
  pointwise [scale, expo]
  rw [biased_at (amax_at h i 0) (ok_good (ho i)), e2, ofBits_shl m m1 (by omega), e1]

/-- The kernel's reciprocal of the scale. -/
theorem invScale_is (h : Is x X) (ho : ∀ i, Ok (X i)) : Is (invScale x) fun i _ => (scaleR (X i))⁻¹ := by
  intro i j
  obtain ⟨m, m1, m2, e1, -, e2⟩ := scale_exp (ho i)
  pointwise [invScale, expo]
  rw [biased_at (amax_at h i 0) (ok_good (ho i)), e2, ofBits_shl (254 - m) (by omega) (by omega), ← e1, ← zpow_neg]
  congr 2
  omega

/-- The kernel's codes. -/
theorem codes_is (h : Is x X) (ho : ∀ i, Ok (X i)) : Is (codes x) fun i k => codeR (X i) k := by
  intro i k
  pointwise [codes]
  rw [hi_coe, lo_coe, h i k, invScale_is h ho i 0, ← EReal.coe_mul]
  unfold codeR
  rw [EReal.coe_strictMono.monotone.map_min, EReal.coe_strictMono.monotone.map_max]

theorem normR_div {z : EReal} {Z : Fin 256 → ℝ} (hz : z = ((∑ k, Z k * Z k + epsR : ℝ) : EReal)) : Ideal.div 1 (Ideal.sqrt z) = ((normR Z : ℝ) : EReal) := by
  have hp : 0 < ∑ k, Z k * Z k + epsR := add_pos_of_nonneg_of_pos (Finset.sum_nonneg fun k _ => mul_self_nonneg _) (by unfold epsR; positivity)
  rw [hz]
  show Ideal.div 1 (if _ < 0 then ⊥ else _) = _
  rw [if_neg (not_lt.2 hp.le)]
  unfold Ideal.div
  rw [if_neg (by exact_mod_cast (Real.sqrt_pos.2 hp).ne'), one_mul, ← EReal.coe_inv]
  rfl

/-- The kernel's reciprocal norm. -/
theorem rnorm_is (h : Is x X) : Is (rnorm x) fun i _ => normR (X i) := by
  intro i j
  pointwise [rnorm]
  apply normR_div
  rw [eps_coe, EReal.coe_add, coe_sum]
  congr 1
  exact Finset.sum_congr rfl fun k _ => by rw [h i k, ← EReal.coe_mul]

/-- The key factor. -/
theorem fk_is (h : Is x X) (ho : ∀ i, Ok (X i)) : Is (fk x) fun i _ => scaleR (X i) * normR (X i) := by
  intro i j
  pointwise [fk]
  rw [scale_is h ho i, rnorm_is h i, ← EReal.coe_mul]

/-- The query factor. -/
theorem fq_is (h : Is x X) (ho : ∀ i, Ok (X i)) : Is (fq x) fun i _ => scaleR (X i) * normR (X i) * (1/16) := by
  intro i j
  pointwise [fq]
  rw [scale_is h ho i, rnorm_is h i, sixteenth_coe, ← EReal.coe_mul, ← EReal.coe_mul]

/-! ### The rows of scales and factors -/

theorem putLane_at (n : ℕ) (hn : n < 128) {z : FVec Ideal S128x1 .f32} {st : FVec Ideal S128x128 .f32} (i j : Fin 128) :
    putLane (BitVec.ofNat 32 n) z st (ix2 i j) = if j.val = n then z (ix2 i 0) else st (ix2 i j) := by
  unfold putLane
  rw [select_at (lane_eq n hn i j)]
  pointwise []

/-- Row `b` of the transposed lanes is batch `b`'s key scale, row `4 + b` its query scale, row `8 + b` its key factor. -/
theorem statt_at (k q : Fin 4 → FVec Ideal S128x256 .f32) (b : Fin 4) (i : Fin 128) :
    statt (k 0) (q 0) (k 1) (q 1) (k 2) (q 2) (k 3) (q 3) (ix2 ⟨b.val, by omega⟩ i) = scale (k b) (ix2 i 0) ∧
    statt (k 0) (q 0) (k 1) (q 1) (k 2) (q 2) (k 3) (q 3) (ix2 ⟨4 + b.val, by omega⟩ i) = scale (q b) (ix2 i 0) ∧
    statt (k 0) (q 0) (k 1) (q 1) (k 2) (q 2) (k 3) (q 3) (ix2 ⟨8 + b.val, by omega⟩ i) = fk (k b) (ix2 i 0) := by
  have h (r : Fin 128) : statt (k 0) (q 0) (k 1) (q 1) (k 2) (q 2) (k 3) (q 3) (ix2 r i) =
      putStats 3#32 7#32 11#32 (k 3) (q 3) (putStats 2#32 6#32 10#32 (k 2) (q 2) (putStats 1#32 5#32 9#32 (k 1) (q 1)
        (putStats 0#32 4#32 8#32 (k 0) (q 0) (broadcast S128x128 (Scalar.ofBits .f32 0x00000000#32))))) (ix2 i r) := by
    pointwise [statt]
  simp only [h, putStats]
  refine ⟨?_, ?_, ?_⟩ <;>
  · rw [putLane_at 11 (by omega), putLane_at 7 (by omega), putLane_at 3 (by omega), putLane_at 10 (by omega), putLane_at 6 (by omega), putLane_at 2 (by omega),
      putLane_at 9 (by omega), putLane_at 5 (by omega), putLane_at 1 (by omega), putLane_at 8 (by omega), putLane_at 4 (by omega), putLane_at 0 (by omega)]
    fin_cases b <;> simp

end Cert.Blk
-- ==== Proof.Delta.lean ====
/- The gated delta rule over the reals, and its block ("WY") form: a run of tokens at once. Nothing here mentions a
   program. -/
module

public import Idealize.ShloMosaic.Lib.Pointwise

@[expose] public section

noncomputable section

namespace Cert.Delta

open Finset

variable {K V : Type} [Fintype K] [Fintype V]

/-- The state after `t` tokens of the gated delta rule started from `S0`: decay by `exp g`, then write the key's
    residual `β (v − k·S)` back along the key. -/
def state (g β : ℕ → ℝ) (kn : ℕ → K → ℝ) (v : ℕ → V → ℝ) (S0 : K → V → ℝ) : ℕ → K → V → ℝ
  | 0 => S0
  | t + 1 => fun a c =>
      Real.exp (g t) * state g β kn v S0 t a c
        + kn t a * (β t * (v t c - ∑ a', kn t a' * (Real.exp (g t) * state g β kn v S0 t a' c)))

/-- The output at token `t`: the query against the state after that token's write. -/
def out (g β : ℕ → ℝ) (kn qn : ℕ → K → ℝ) (v : ℕ → V → ℝ) (S0 : K → V → ℝ) (t : ℕ) (c : V) : ℝ :=
  ∑ a, qn t a * state g β kn v S0 (t + 1) a c

/-- The log-decay accumulated over the `t` tokens from `s` on. -/
def decay (g : ℕ → ℝ) (s t : ℕ) : ℝ := ∑ j ∈ range t, g (s + j)

theorem decay_succ (g : ℕ → ℝ) (s t : ℕ) : decay g s (t + 1) = decay g s t + g (s + t) := by
  simp [decay, sum_range_succ]

/-- The block form of the state: if `u` solves the unit lower triangular system of the run of `N` tokens from `s`,
    the state after `t ≤ N` of them is the decayed start plus the decayed writes. -/
theorem state_block (g β : ℕ → ℝ) (kn : ℕ → K → ℝ) (v : ℕ → V → ℝ) (S0 : K → V → ℝ) (s N : ℕ) (u : ℕ → V → ℝ)
    (hu : ∀ i < N, ∀ c, u i c + ∑ j ∈ range i, β (s + i) * (∑ a, kn (s + i) a * kn (s + j) a)
        * Real.exp (decay g s (i + 1) - decay g s (j + 1)) * u j c
      = β (s + i) * (v (s + i) c - Real.exp (decay g s (i + 1)) * ∑ a, kn (s + i) a * state g β kn v S0 s a c)) :
    ∀ t ≤ N, ∀ a c, state g β kn v S0 (s + t) a c
      = Real.exp (decay g s t) * state g β kn v S0 s a c
        + ∑ j ∈ range t, Real.exp (decay g s t - decay g s (j + 1)) * kn (s + j) a * u j c := by
  intro t
  induction t with
  | zero => intro _ a c; simp [decay]
  | succ t ih =>
    intro ht a c
    have ih' := ih (by omega)
    have hE : ∀ a, Real.exp (g (s + t)) * state g β kn v S0 (s + t) a c
        = Real.exp (decay g s (t + 1)) * state g β kn v S0 s a c
          + ∑ j ∈ range t, Real.exp (decay g s (t + 1) - decay g s (j + 1)) * kn (s + j) a * u j c := by
      intro a
      rw [ih' a c, mul_add, ← mul_assoc, ← Real.exp_add, mul_sum, decay_succ]
      congr 1
      · rw [add_comm]
      · refine sum_congr rfl fun j _ => ?_
        rw [← mul_assoc, ← mul_assoc, ← Real.exp_add]
        congr 3; ring
    have hU : β (s + t) * (v (s + t) c - ∑ a', kn (s + t) a' * (Real.exp (g (s + t)) * state g β kn v S0 (s + t) a' c))
        = u t c := by
      have h := hu t (by omega) c
      have h2 : ∑ a', kn (s + t) a' * (Real.exp (g (s + t)) * state g β kn v S0 (s + t) a' c)
          = Real.exp (decay g s (t + 1)) * (∑ a, kn (s + t) a * state g β kn v S0 s a c)
            + ∑ j ∈ range t, (∑ a, kn (s + t) a * kn (s + j) a)
                * Real.exp (decay g s (t + 1) - decay g s (j + 1)) * u j c := by
        simp only [hE, mul_add, sum_add_distrib, mul_sum]
        congr 1
        · refine sum_congr rfl fun a _ => by ring
        · rw [sum_comm]
          refine sum_congr rfl fun j _ => ?_
          rw [sum_mul, sum_mul]
          refine sum_congr rfl fun a _ => by ring
      have h3 : ∑ j ∈ range t, β (s + t) * (∑ a, kn (s + t) a * kn (s + j) a)
            * Real.exp (decay g s (t + 1) - decay g s (j + 1)) * u j c
          = β (s + t) * ∑ j ∈ range t, (∑ a, kn (s + t) a * kn (s + j) a)
                * Real.exp (decay g s (t + 1) - decay g s (j + 1)) * u j c := by
        rw [mul_sum]; refine sum_congr rfl fun j _ => by ring
      rw [h2]; rw [h3] at h; linarith
    show state g β kn v S0 (s + t + 1) a c = _
    rw [state]; dsimp only; rw [hU, hE a, sum_range_succ, sub_self, Real.exp_zero]
    ring

/-- The block form of the outputs. -/
theorem out_block (g β : ℕ → ℝ) (kn qn : ℕ → K → ℝ) (v : ℕ → V → ℝ) (S0 : K → V → ℝ) (s N : ℕ) (u : ℕ → V → ℝ)
    (hu : ∀ i < N, ∀ c, u i c + ∑ j ∈ range i, β (s + i) * (∑ a, kn (s + i) a * kn (s + j) a)
        * Real.exp (decay g s (i + 1) - decay g s (j + 1)) * u j c
      = β (s + i) * (v (s + i) c - Real.exp (decay g s (i + 1)) * ∑ a, kn (s + i) a * state g β kn v S0 s a c))
    (i : ℕ) (hi : i < N) (c : V) :
    out g β kn qn v S0 (s + i) c
      = Real.exp (decay g s (i + 1)) * (∑ a, qn (s + i) a * state g β kn v S0 s a c)
        + ∑ j ∈ range (i + 1), (∑ a, qn (s + i) a * kn (s + j) a)
            * Real.exp (decay g s (i + 1) - decay g s (j + 1)) * u j c := by
  have h := state_block g β kn v S0 s N u hu (i + 1) (by omega)
  unfold out
  rw [add_assoc]
  simp only [h, mul_add, sum_add_distrib, mul_sum]
  congr 1
  · refine sum_congr rfl fun a _ => by ring
  · rw [sum_comm]
    refine sum_congr rfl fun j _ => ?_
    rw [sum_mul, sum_mul]
    refine sum_congr rfl fun a _ => by ring

end Cert.Delta

end
-- ==== Proof.Spec.lean ====
/- What both programs are to compute, in real numbers: the real inputs, each token's codes and scale, the normalised keys
   and queries, and the gated delta rule's states and outputs. -/
module

public import proofs.«01_k».proof.Proof.Quant
public import proofs.«01_k».proof.Proof.Delta

@[expose] public section

noncomputable section

namespace Cert.Spec

open Idealize.ShloMosaic Cert.Quant

/-- The inputs as real numbers: by batch, token, head, then lane. -/
structure Nums where
  q : Fin 4 → ℕ → Fin 6 → Fin 256 → ℝ
  k : Fin 4 → ℕ → Fin 6 → Fin 256 → ℝ
  v : Fin 4 → ℕ → Fin 6 → Fin 512 → ℝ
  g : Fin 4 → ℕ → Fin 6 → ℝ
  β : Fin 4 → ℕ → Fin 6 → ℝ
  s : Fin 4 → Fin 6 → Fin 256 → Fin 512 → ℝ

/-- The arguments hold the real numbers `N`, and each token of the queries and keys is within the quantiser's reach. -/
structure Holds (N : Nums) (A0 A1 : (⟨4, ![4, 3072, 6, 256]⟩ : Shape).Idx → EReal) (A2 : (⟨4, ![4, 3072, 6, 512]⟩ : Shape).Idx → EReal)
    (A3 A4 : (⟨3, ![4, 3072, 6]⟩ : Shape).Idx → EReal) (A5 : (⟨4, ![4, 6, 256, 512]⟩ : Shape).Idx → EReal) : Prop where
  q : ∀ b (t : Fin 3072) h k, A0 (ix4 b t h k) = ((N.q b t.val h k : ℝ) : EReal)
  k : ∀ b (t : Fin 3072) h k, A1 (ix4 b t h k) = ((N.k b t.val h k : ℝ) : EReal)
  v : ∀ b (t : Fin 3072) h k, A2 (ix4 b t h k) = ((N.v b t.val h k : ℝ) : EReal)
  g : ∀ b (t : Fin 3072) h, A3 (ix3 b t h) = ((N.g b t.val h : ℝ) : EReal)
  b : ∀ b (t : Fin 3072) h, A4 (ix3 b t h) = ((N.β b t.val h : ℝ) : EReal)
  s : ∀ b h a c, A5 (ix4 b h a c) = ((N.s b h a c : ℝ) : EReal)
  okq : ∀ b (t : Fin 3072) h, Ok (N.q b t.val h)
  okk : ∀ b (t : Fin 3072) h, Ok (N.k b t.val h)

/-- A token's normalised key: its codes times its scale and its inverse norm. -/
def kn (N : Nums) (b : Fin 4) (h : Fin 6) (t : ℕ) (a : Fin 256) : ℝ := codeR (N.k b t h) a * (scaleR (N.k b t h) * normR (N.k b t h))
/-- A token's normalised query, divided by the square root of the key width. -/
def qn (N : Nums) (b : Fin 4) (h : Fin 6) (t : ℕ) (a : Fin 256) : ℝ := codeR (N.q b t h) a * (scaleR (N.q b t h) * normR (N.q b t h) * (1/16))

/-- A head's state after `t` tokens. -/
def st (N : Nums) (b : Fin 4) (h : Fin 6) (t : ℕ) : Fin 256 → Fin 512 → ℝ :=
  Delta.state (fun t => N.g b t h) (fun t => N.β b t h) (kn N b h) (fun t => N.v b t h) (N.s b h) t
/-- A head's output for token `t`. -/
def out (N : Nums) (b : Fin 4) (h : Fin 6) (t : ℕ) : Fin 512 → ℝ :=
  Delta.out (fun t => N.g b t h) (fun t => N.β b t h) (kn N b h) (qn N b h) (fun t => N.v b t h) (N.s b h) t

end Cert.Spec

end
-- ==== Proof.Point.lean ====
/- One grid point of the kernel, batch by batch: the block functions at the point's loads. -/
module

public import proofs.«01_k».proof.Proof.Block
public import proofs.«01_k».proof.Proof.Gen.KernelIdeal.Frame.Runs

@[expose] public section

set_option maxRecDepth 16384

noncomputable section

namespace Cert.Blk

open Idealize.ShloMosaic Cert.KernelIdeal Cert.KernelIdeal.Gen

variable {F : FTy → Type} [FloatOps F]

/-- What a batch's block reads out of the point's rows: the column of its running decay, of its step sizes, its running
    decay as a row, the key factors as a row, the block's whole decay. -/
structure Rows (F : FTy → Type) [FloatOps F] where
  gc : FVec F S128x1 .f32
  bc : FVec F S128x1 .f32
  gr : FVec F S1x128 .f32
  fr : FVec F S1x128 .f32
  gl : FVec F S1x1 .f32

/-- The rows of one batch, at its offsets. -/
def rows (oc ob og oL of : Fin 2 → ℕ) (hc : S128x128.Slices oc S128x1) (hb : S128x128.Slices ob S128x1) (hg : S4x128.Slices og S1x128)
    (hL : S4x128.Slices oL S1x1) (hf : S128x128.Slices of S1x128) (cu : FVec F S4x128 .f32) (cm st : FVec F S128x128 .f32) : Rows F where
  gc := extractStridedSlice S128x1 oc cm hc
  bc := extractStridedSlice S128x1 ob cm hb
  gr := extractStridedSlice S1x128 og cu hg
  fr := extractStridedSlice S1x128 of st hf
  gl := extractStridedSlice S1x1 oL cu hL

def rows0 (cu : FVec F S4x128 .f32) (cm st : FVec F S128x128 .f32) : Rows F :=
  rows _ _ _ _ _ slices_S128x128_o0_0_S128x1 slices_S128x128_o0_4_S128x1 slices_S4x128_o0_0_S1x128 slices_S4x128_o0_127_S1x1 slices_S128x128_o8_0_S1x128 cu cm st
def rows1 (cu : FVec F S4x128 .f32) (cm st : FVec F S128x128 .f32) : Rows F :=
  rows _ _ _ _ _ slices_S128x128_o0_1_S128x1 slices_S128x128_o0_5_S128x1 slices_S4x128_o1_0_S1x128 slices_S4x128_o1_127_S1x1 slices_S128x128_o9_0_S1x128 cu cm st
def rows2 (cu : FVec F S4x128 .f32) (cm st : FVec F S128x128 .f32) : Rows F :=
  rows _ _ _ _ _ slices_S128x128_o0_2_S128x1 slices_S128x128_o0_6_S128x1 slices_S4x128_o2_0_S1x128 slices_S4x128_o2_127_S1x1 slices_S128x128_o10_0_S1x128 cu cm st
def rows3 (cu : FVec F S4x128 .f32) (cm st : FVec F S128x128 .f32) : Rows F :=
  rows _ _ _ _ _ slices_S128x128_o0_3_S128x1 slices_S128x128_o0_7_S128x1 slices_S4x128_o3_0_S1x128 slices_S4x128_o3_127_S1x1 slices_S128x128_o11_0_S1x128 cu cm st

/-- The values block as f32. -/
def loadV (v : Vec F S1x1x128x512 .bf16) : FVec F S128x512 .f32 :=
  extf .f32 (shapeCast S128x512 v shapeCasts_S1x1x128x512_S128x512 : FVec F S128x512 .bf16) bitsLt_bf16_f32
/-- One batch's state as a matrix. -/
def loadS (s : Vec F S1x256x512 .f32) : FVec F S256x512 .f32 := shapeCast S256x512 s shapeCasts_S1x256x512_S256x512

/-- The codes a batch stores. -/
def codesP (x : FVec F S128x256 .f32) : FVec F S1x1x128x256 .fp8e4m3 :=
  shapeCast S1x1x128x256 (codes x) shapeCasts_S128x256_S1x1x128x256
/-- The outputs a batch stores. -/
def outP (t p : FVec F S128x128 .f32) (r : Rows F) (k q : FVec F S128x256 .f32) (s : Vec F S1x256x512 .f32) (v : Vec F S1x1x128x512 .bf16) : FVec F S1x1x128x512 .bf16 :=
  shapeCast S1x1x128x512 (truncf .bf16 (outs t p r.gc r.bc k q (loadS s) (loadV v)) bitsLt_bf16_f32 : FVec F S128x512 .bf16) shapeCasts_S128x512_S1x1x128x512
/-- The state a batch stores. -/
def nextP (t : FVec F S128x128 .f32) (r : Rows F) (k q : FVec F S128x256 .f32) (s : Vec F S1x256x512 .f32) (v : Vec F S1x1x128x512 .bf16) : FVec F S1x256x512 .f32 :=
  shapeCast S1x256x512 (next t r.gc r.bc r.gl k q (loadS s) (loadV v)) shapeCasts_S256x512_S1x256x512

/-- The key scales a point stores. -/
def ksP (st : FVec F S128x128 .f32) : FVec F S1x4x128 .f32 :=
  shapeCast S1x4x128 (extractStridedSlice S4x128 ![0, 0] st slices_S128x128_o0_0_S4x128) shapeCasts_S4x128_S1x4x128
/-- The query scales a point stores. -/
def qsP (st : FVec F S128x128 .f32) : FVec F S1x4x128 .f32 :=
  shapeCast S1x4x128 (extractStridedSlice S4x128 ![4, 0] st slices_S128x128_o4_0_S4x128) shapeCasts_S4x128_S1x4x128

/-- The loads of the point. -/
structure Loads (F : FTy → Type) [FloatOps F] where
  q0 : Vec F S1x1x128x256 .bf16
  q1 : Vec F S1x1x128x256 .bf16
  q2 : Vec F S1x1x128x256 .bf16
  q3 : Vec F S1x1x128x256 .bf16
  k0 : Vec F S1x1x128x256 .bf16
  k1 : Vec F S1x1x128x256 .bf16
  k2 : Vec F S1x1x128x256 .bf16
  k3 : Vec F S1x1x128x256 .bf16
  v0 : Vec F S1x1x128x512 .bf16
  v1 : Vec F S1x1x128x512 .bf16
  v2 : Vec F S1x1x128x512 .bf16
  v3 : Vec F S1x1x128x512 .bf16
  g : Vec F S1x4x128 .f32
  b : Vec F S1x4x128 .f32

/-- What the point's batches compute from: keys and queries as f32, values, and the rows. -/
@[ext] structure Pt (F : FTy → Type) [FloatOps F] where
  q0 : FVec F S128x256 .f32
  q1 : FVec F S128x256 .f32
  q2 : FVec F S128x256 .f32
  q3 : FVec F S128x256 .f32
  k0 : FVec F S128x256 .f32
  k1 : FVec F S128x256 .f32
  k2 : FVec F S128x256 .f32
  k3 : FVec F S128x256 .f32
  v0 : Vec F S1x1x128x512 .bf16
  v1 : Vec F S1x1x128x512 .bf16
  v2 : Vec F S1x1x128x512 .bf16
  v3 : Vec F S1x1x128x512 .bf16
  cu : FVec F S4x128 .f32
  cm : FVec F S128x128 .f32
  st : FVec F S128x128 .f32
  t0 : FVec F S128x128 .f32
  t1 : FVec F S128x128 .f32
  t2 : FVec F S128x128 .f32
  t3 : FVec F S128x128 .f32
  p0 : FVec F S128x128 .f32
  p1 : FVec F S128x128 .f32
  p2 : FVec F S128x128 .f32
  p3 : FVec F S128x128 .f32

/-- Scales and factors of the point's four batches. -/
def Loads.st (l : Loads F) : FVec F S128x128 .f32 :=
  statt (load32 l.k0) (load32 l.q0) (load32 l.k1) (load32 l.q1) (load32 l.k2) (load32 l.q2) (load32 l.k3) (load32 l.q3)

/-- The inverse of one batch's system. -/
def Rows.inv (r : Rows F) (k q : FVec F S128x256 .f32) : FVec F S128x128 .f32 := inverse (sysA r.gc r.bc r.gr r.fr k q)
/-- One batch's scores. -/
def Rows.sco (r : Rows F) (k q : FVec F S128x256 .f32) : FVec F S128x128 .f32 := score r.gc r.gr r.fr k q

/-- The point of its loads. -/
def Loads.pt (l : Loads F) : Pt F where
  q0 := load32 l.q0
  q1 := load32 l.q1
  q2 := load32 l.q2
  q3 := load32 l.q3
  k0 := load32 l.k0
  k1 := load32 l.k1
  k2 := load32 l.k2
  k3 := load32 l.k3
  v0 := l.v0
  v1 := l.v1
  v2 := l.v2
  v3 := l.v3
  cu := cum l.g
  cm := colmat l.g l.b
  st := l.st
  t0 := (rows0 (cum l.g) (colmat l.g l.b) l.st).inv (load32 l.k0) (load32 l.q0)
  t1 := (rows1 (cum l.g) (colmat l.g l.b) l.st).inv (load32 l.k1) (load32 l.q1)
  t2 := (rows2 (cum l.g) (colmat l.g l.b) l.st).inv (load32 l.k2) (load32 l.q2)
  t3 := (rows3 (cum l.g) (colmat l.g l.b) l.st).inv (load32 l.k3) (load32 l.q3)
  p0 := (rows0 (cum l.g) (colmat l.g l.b) l.st).sco (load32 l.k0) (load32 l.q0)
  p1 := (rows1 (cum l.g) (colmat l.g l.b) l.st).sco (load32 l.k1) (load32 l.q1)
  p2 := (rows2 (cum l.g) (colmat l.g l.b) l.st).sco (load32 l.k2) (load32 l.q2)
  p3 := (rows3 (cum l.g) (colmat l.g l.b) l.st).sco (load32 l.k3) (load32 l.q3)

/-- The pieces stored into the output window. -/
def piecesO (l : Pt F) (s0 s1 s2 s3 : Vec F S1x256x512 .f32) : List (View.Piece (Elt F) S4x1x128x512 .bf16) :=
  [⟨Rect.unit (s := S4x1x128x512) ![3, 0, 0, 0] S1x1x128x512.size inb_S4x1x128x512_S1x1x128x512_3_0_0_0, outP l.t3 l.p3 (rows3 l.cu l.cm l.st) l.k3 l.q3 s3 l.v3⟩,
   ⟨Rect.unit (s := S4x1x128x512) ![2, 0, 0, 0] S1x1x128x512.size inb_S4x1x128x512_S1x1x128x512_2_0_0_0, outP l.t2 l.p2 (rows2 l.cu l.cm l.st) l.k2 l.q2 s2 l.v2⟩,
   ⟨Rect.unit (s := S4x1x128x512) ![1, 0, 0, 0] S1x1x128x512.size inb_S4x1x128x512_S1x1x128x512_1_0_0_0, outP l.t1 l.p1 (rows1 l.cu l.cm l.st) l.k1 l.q1 s1 l.v1⟩,
   ⟨Rect.unit (s := S4x1x128x512) ![0, 0, 0, 0] S1x1x128x512.size inb_S4x1x128x512_S1x1x128x512_0_0_0_0, outP l.t0 l.p0 (rows0 l.cu l.cm l.st) l.k0 l.q0 s0 l.v0⟩]

/-- The pieces stored into the carried state. -/
def piecesS (l : Pt F) (s0 s1 s2 s3 : Vec F S1x256x512 .f32) : List (View.Piece (Elt F) S4x256x512 .f32) :=
  [⟨Rect.unit (s := S4x256x512) ![3, 0, 0] S1x256x512.size inb_S4x256x512_S1x256x512_3_0_0, nextP l.t3 (rows3 l.cu l.cm l.st) l.k3 l.q3 s3 l.v3⟩,
   ⟨Rect.unit (s := S4x256x512) ![2, 0, 0] S1x256x512.size inb_S4x256x512_S1x256x512_2_0_0, nextP l.t2 (rows2 l.cu l.cm l.st) l.k2 l.q2 s2 l.v2⟩,
   ⟨Rect.unit (s := S4x256x512) ![1, 0, 0] S1x256x512.size inb_S4x256x512_S1x256x512_1_0_0, nextP l.t1 (rows1 l.cu l.cm l.st) l.k1 l.q1 s1 l.v1⟩,
   ⟨Rect.unit (s := S4x256x512) ![0, 0, 0] S1x256x512.size inb_S4x256x512_S1x256x512_0_0_0, nextP l.t0 (rows0 l.cu l.cm l.st) l.k0 l.q0 s0 l.v0⟩]

/-- The pieces stored into a window of codes. -/
def piecesC (x0 x1 x2 x3 : FVec F S128x256 .f32) : List (View.Piece (Elt F) S4x1x128x256 .fp8e4m3) :=
  [⟨Rect.unit (s := S4x1x128x256) ![3, 0, 0, 0] S1x1x128x256.size inb_S4x1x128x256_S1x1x128x256_3_0_0_0, codesP x3⟩,
   ⟨Rect.unit (s := S4x1x128x256) ![2, 0, 0, 0] S1x1x128x256.size inb_S4x1x128x256_S1x1x128x256_2_0_0_0, codesP x2⟩,
   ⟨Rect.unit (s := S4x1x128x256) ![1, 0, 0, 0] S1x1x128x256.size inb_S4x1x128x256_S1x1x128x256_1_0_0_0, codesP x1⟩,
   ⟨Rect.unit (s := S4x1x128x256) ![0, 0, 0, 0] S1x1x128x256.size inb_S4x1x128x256_S1x1x128x256_0_0_0_0, codesP x0⟩]

/-- The piece stored into a window of scales. -/
def pieceR (x : FVec F S1x4x128 .f32) : List (View.Piece (Elt F) S1x4x128 .f32) :=
  [⟨Rect.unit (s := S1x4x128) ![0, 0, 0] S1x4x128.size inb_S1x4x128_S1x4x128_0_0_0, x⟩]

/-- A batch's load of a window of keys or queries. -/
def ldQ (b : ℕ) (h : ∀ a : Fin 4, (![b, 0, 0, 0] : Fin 4 → ℕ) a + S1x1x128x256.size a ≤ S4x1x128x256.size a)
    (a : Memref sig .tc .vmem S4x1x128x256 .bf16) (ha : a.IsWhole) (x : Vec F S4x1x128x256 .bf16) : Vec F S1x1x128x256 .bf16 :=
  View.readAt (Elt F) a.view (Rect.unit (s := S4x1x128x256) ![b, 0, 0, 0] S1x1x128x256.size h).toLoadRect (ha.unread x)
/-- A batch's load of the window of values. -/
def ldV (b : ℕ) (h : ∀ a : Fin 4, (![b, 0, 0, 0] : Fin 4 → ℕ) a + S1x1x128x512.size a ≤ S4x1x128x512.size a)
    (a : Memref sig .tc .vmem S4x1x128x512 .bf16) (ha : a.IsWhole) (x : Vec F S4x1x128x512 .bf16) : Vec F S1x1x128x512 .bf16 :=
  View.readAt (Elt F) a.view (Rect.unit (s := S4x1x128x512) ![b, 0, 0, 0] S1x1x128x512.size h).toLoadRect (ha.unread x)
/-- The load of a window of rows. -/
def ldR (a : Memref sig .tc .vmem S1x4x128 .f32) (ha : a.IsWhole) (x : Vec F S1x4x128 .f32) : Vec F S1x4x128 .f32 :=
  View.readAt (Elt F) a.view (Rect.unit (s := S1x4x128) ![0, 0, 0] S1x4x128.size inb_S1x4x128_S1x4x128_0_0_0).toLoadRect (ha.unread x)
/-- A batch's load of the carried state. -/
def ldS (b : ℕ) (h : ∀ a : Fin 3, (![b, 0, 0] : Fin 3 → ℕ) a + S1x256x512.size a ≤ S4x256x512.size a)
    (a : Memref sig .tc .vmem S4x256x512 .f32) (ha : a.IsWhole) (x : Vec F S4x256x512 .f32) : Vec F S1x256x512 .f32 :=
  View.readAt (Elt F) a.view (Rect.unit (s := S4x256x512) ![b, 0, 0] S1x256x512.size h).toLoadRect (ha.unread x)

/-- The point's loads from its windows. -/
def loads (arg2 : Memref sig .tc .vmem S4x1x128x256 .bf16) (harg2 : arg2.IsWhole) (arg3 : Memref sig .tc .vmem S4x1x128x256 .bf16) (harg3 : arg3.IsWhole)
    (arg4 : Memref sig .tc .vmem S4x1x128x512 .bf16) (harg4 : arg4.IsWhole) (arg5 : Memref sig .tc .vmem S1x4x128 .f32) (harg5 : arg5.IsWhole)
    (arg6 : Memref sig .tc .vmem S1x4x128 .f32) (harg6 : arg6.IsWhole)
    (x0 x1 : Vec F S4x1x128x256 .bf16) (x2 : Vec F S4x1x128x512 .bf16) (x3 x4 : Vec F S1x4x128 .f32) : Loads F where
  q0 := ldQ 0 inb_S4x1x128x256_S1x1x128x256_0_0_0_0 arg2 harg2 x0
  q1 := ldQ 1 inb_S4x1x128x256_S1x1x128x256_1_0_0_0 arg2 harg2 x0
  q2 := ldQ 2 inb_S4x1x128x256_S1x1x128x256_2_0_0_0 arg2 harg2 x0
  q3 := ldQ 3 inb_S4x1x128x256_S1x1x128x256_3_0_0_0 arg2 harg2 x0
  k0 := ldQ 0 inb_S4x1x128x256_S1x1x128x256_0_0_0_0 arg3 harg3 x1
  k1 := ldQ 1 inb_S4x1x128x256_S1x1x128x256_1_0_0_0 arg3 harg3 x1
  k2 := ldQ 2 inb_S4x1x128x256_S1x1x128x256_2_0_0_0 arg3 harg3 x1
  k3 := ldQ 3 inb_S4x1x128x256_S1x1x128x256_3_0_0_0 arg3 harg3 x1
  v0 := ldV 0 inb_S4x1x128x512_S1x1x128x512_0_0_0_0 arg4 harg4 x2
  v1 := ldV 1 inb_S4x1x128x512_S1x1x128x512_1_0_0_0 arg4 harg4 x2
  v2 := ldV 2 inb_S4x1x128x512_S1x1x128x512_2_0_0_0 arg4 harg4 x2
  v3 := ldV 3 inb_S4x1x128x512_S1x1x128x512_3_0_0_0 arg4 harg4 x2
  g := ldR arg5 harg5 x3
  b := ldR arg6 harg6 x4

end Cert.Blk

end
-- ==== Proof.Step.lean ====
/- One block of 128 tokens against the token-by-token rule: if a block starts from the state after `s` tokens, its outputs
   are those of tokens `s .. s+127` and it leaves the state after `s + 128` tokens. -/
module

public import proofs.«01_k».proof.Proof.Delta
public import proofs.«01_k».proof.Proof.Ideal2

@[expose] public section

set_option maxRecDepth 16384

noncomputable section

namespace Cert.Blk

open Cert.Delta Finset

/-- A sum over the first `i` of 128 indices. -/
theorem sum_lt (i : ℕ) (hi : i ≤ 128) (f : ℕ → ℝ) : ∑ j : Fin 128, (if j.val < i then f j.val else 0) = ∑ j ∈ range i, f j := by
  rw [Fin.sum_univ_eq_sum_range (fun j => if j < i then f j else 0) 128, ← sum_filter]
  congr 1
  ext j
  simp
  omega

/-- What a block of tokens from `s` on is given. -/
structure Tokens (g β : ℕ → ℝ) (kn qn : ℕ → Fin 256 → ℝ) (v : ℕ → Fin 512 → ℝ) (S0 : Fin 256 → Fin 512 → ℝ) (s : ℕ)
    (G B FK FQ : Fin 128 → ℝ) (K Q : Fin 128 → Fin 256 → ℝ) (S : Fin 256 → Fin 512 → ℝ) (V : Fin 128 → Fin 512 → ℝ) : Prop where
  hG : ∀ i, G i = decay g s (i.val + 1)
  hB : ∀ i, B i = β (s + i.val)
  hK : ∀ i a, K i a * FK i = kn (s + i.val) a
  hQ : ∀ i a, Q i a * FQ i = qn (s + i.val) a
  hV : ∀ i c, V i c = v (s + i.val) c
  hS : ∀ a c, S a c = state g β kn v S0 s a c

variable {g β : ℕ → ℝ} {kn qn : ℕ → Fin 256 → ℝ} {v : ℕ → Fin 512 → ℝ} {S0 : Fin 256 → Fin 512 → ℝ} {s : ℕ}
    {G B FK FQ : Fin 128 → ℝ} {K Q : Fin 128 → Fin 256 → ℝ} {S : Fin 256 → Fin 512 → ℝ} {V : Fin 128 → Fin 512 → ℝ}

/-- The block's writes, numbered. -/
def writes (G B FK : Fin 128 → ℝ) (K : Fin 128 → Fin 256 → ℝ) (S : Fin 256 → Fin 512 → ℝ) (V : Fin 128 → Fin 512 → ℝ) (i : ℕ) (c : Fin 512) : ℝ :=
  if h : i < 128 then newR G B FK K S V ⟨i, h⟩ c else 0

theorem writes_val (i : Fin 128) (c : Fin 512) : writes G B FK K S V i.val c = newR G B FK K S V i c := dif_pos i.isLt

theorem Tokens.dotK (h : Tokens g β kn qn v S0 s G B FK FQ K Q S V) (i j : Fin 128) :
    (∑ a, K i a * K j a) * FK i * FK j = ∑ a, kn (s + i.val) a * kn (s + j.val) a := by
  rw [sum_mul, sum_mul]
  exact sum_congr rfl fun a _ => by rw [← h.hK, ← h.hK]; ring

theorem Tokens.dotQ (h : Tokens g β kn qn v S0 s G B FK FQ K Q S V) (i j : Fin 128) :
    (∑ a, Q i a * K j a) * FQ i * FK j = ∑ a, qn (s + i.val) a * kn (s + j.val) a := by
  rw [sum_mul, sum_mul]
  exact sum_congr rfl fun a _ => by rw [← h.hK, ← h.hQ]; ring

theorem Tokens.rhs (h : Tokens g β kn qn v S0 s G B FK FQ K Q S V) (i : Fin 128) (c : Fin 512) :
    rhsR G B FK K S V i c = β (s + i.val) * (v (s + i.val) c - Real.exp (decay g s (i.val + 1)) * ∑ a, kn (s + i.val) a * state g β kn v S0 s a c) := by
  have e : FK i * ∑ a, K i a * S a c = ∑ a, kn (s + i.val) a * state g β kn v S0 s a c := by
    rw [mul_sum]
    exact sum_congr rfl fun a _ => by rw [← h.hK, ← h.hS]; ring
  unfold rhsR
  rw [h.hB, h.hV, h.hG, mul_assoc, e]

/-- The block's writes solve the unit lower triangular system of its tokens. -/
theorem Tokens.solves (h : Tokens g β kn qn v S0 s G B FK FQ K Q S V) : ∀ i < 128, ∀ c, writes G B FK K S V i c
      + ∑ j ∈ range i, β (s + i) * (∑ a, kn (s + i) a * kn (s + j) a) * Real.exp (decay g s (i + 1) - decay g s (j + 1)) * writes G B FK K S V j c
    = β (s + i) * (v (s + i) c - Real.exp (decay g s (i + 1)) * ∑ a, kn (s + i) a * state g β kn v S0 s a c) := by
  intro i hi c
  have sp := Cert.Lower.inv_spec (sysR G B FK K) (fun i j hij => if_neg (not_lt.2 hij))
  have e : (1 + sysR G B FK K).mulVec (fun j => newR G B FK K S V j c) ⟨i, hi⟩ = rhsR G B FK K S V ⟨i, hi⟩ c := by
    have : (fun j => newR G B FK K S V j c) = (Cert.Lower.inv (sysR G B FK K)).mulVec (fun j => rhsR G B FK K S V j c) := rfl
    rw [this, Matrix.mulVec_mulVec, sp, Matrix.one_mulVec]
  rw [h.rhs ⟨i, hi⟩ c] at e
  rw [← e, Matrix.add_mulVec, Matrix.one_mulVec, Pi.add_apply]
  congr 1
  · exact writes_val ⟨i, hi⟩ c
  · rw [← sum_lt i hi.le]
    show _ = ∑ j, sysR G B FK K ⟨i, hi⟩ j * newR G B FK K S V j c
    refine sum_congr rfl fun j _ => ?_
    unfold sysR
    rw [writes_val, ite_mul, zero_mul]
    refine if_congr Iff.rfl ?_ rfl
    rw [h.dotK, h.hB, h.hG, h.hG]

/-- The block's outputs are those of its tokens. -/
theorem Tokens.out (h : Tokens g β kn qn v S0 s G B FK FQ K Q S V) (i : Fin 128) (c : Fin 512) :
    outR G B FK FQ K Q S V i c = Delta.out g β kn qn v S0 (s + i.val) c := by
  rw [out_block g β kn qn v S0 s 128 _ h.solves i.val i.isLt c, ← sum_lt (i.val + 1) (by omega)]
  have e : FQ i * ∑ a, Q i a * S a c = ∑ a, qn (s + i.val) a * state g β kn v S0 s a c := by
    rw [mul_sum]
    exact sum_congr rfl fun a _ => by rw [← h.hQ, ← h.hS]; ring
  unfold outR
  rw [h.hG, mul_assoc, e]
  congr 1
  · refine sum_congr rfl fun j _ => ?_
    unfold scoR
    rw [writes_val, ite_mul, zero_mul]
    refine if_congr (by omega) ?_ rfl
    rw [h.dotQ, h.hG, h.hG]

/-- The block leaves the state after its tokens. -/
theorem Tokens.next (h : Tokens g β kn qn v S0 s G B FK FQ K Q S V) (a : Fin 256) (c : Fin 512) :
    nextR G B FK K S V a c = state g β kn v S0 (s + 128) a c := by
  rw [state_block g β kn v S0 s 128 _ h.solves 128 le_rfl a c, ← sum_lt 128 le_rfl]
  unfold nextR
  rw [h.hG, h.hS]
  congr 1
  refine sum_congr rfl fun j _ => ?_
  rw [if_pos j.isLt, writes_val, h.hG, ← h.hK]
  show _ * (_ * (Real.exp (decay g s 128 - _) * _)) = _
  ring

end Cert.Blk

end
-- ==== Proof.PointVal.lean ====
/- One grid point's stores and loads at an index, batch by batch. -/
module

public import proofs.«01_k».proof.Proof.Point
public import proofs.«01_k».proof.Proof.Quant
public import proofs.«01_k».proof.Proof.Step
public import Idealize.ShloMosaic.Lib.Pipeline.Value

@[expose] public section

set_option maxRecDepth 16384

noncomputable section

namespace Cert.Blk

open Idealize.ShloMosaic Cert.KernelIdeal Cert.KernelIdeal.Gen Idealize.ShloMosaic.Pointwise Cert.Quant

/-- An index whose two leading coordinates have one value. -/
theorem eta4 {n d : ℕ} (x : (⟨4, ![1, 1, n, d]⟩ : Shape).Idx) : ∃ (i : Fin n) (c : Fin d), x = ix4 0 0 i c := by
  refine ⟨x 2, x 3, ?_⟩
  have h0 : (x 0).val < 1 := (x 0).isLt
  have h1 : (x 1).val < 1 := (x 1).isLt
  funext a
  apply Fin.ext
  fin_cases a
  · show (x 0).val = 0
    omega
  · show (x 1).val = 0
    omega
  · rfl
  · rfl

/-- An index whose leading coordinate has one value. -/
theorem eta3 {n d : ℕ} (x : (⟨3, ![1, n, d]⟩ : Shape).Idx) : ∃ (i : Fin n) (c : Fin d), x = ix3 0 i c := by
  refine ⟨x 1, x 2, ?_⟩
  have h0 : (x 0).val < 1 := (x 0).isLt
  funext a
  apply Fin.ext
  fin_cases a
  · show (x 0).val = 0
    omega
  · rfl
  · rfl

/-- Four batches' stores, read at an index: each holds its own batch. -/
theorem canon4 {n d : ℕ} {e : EltTy} (G : (⟨4, ![4, 1, n, d]⟩ : Shape).Idx → Elt Ideal e)
    (h0 h1 h2 h3) (w0 w1 w2 w3 : (⟨4, ![1, 1, n, d]⟩ : Shape).Idx → Elt Ideal e)
    (e0 : ∀ i c, w0 (ix4 0 0 i c) = G (ix4 0 0 i c)) (e1 : ∀ i c, w1 (ix4 0 0 i c) = G (ix4 1 0 i c))
    (e2 : ∀ i c, w2 (ix4 0 0 i c) = G (ix4 2 0 i c)) (e3 : ∀ i c, w3 (ix4 0 0 i c) = G (ix4 3 0 i c)) :
    View.canon (Val := Elt Ideal) (s := ⟨4, ![4, 1, n, d]⟩) (e := e)
      [⟨Rect.unit ![3, 0, 0, 0] ![1, 1, n, d] h3, w3⟩, ⟨Rect.unit ![2, 0, 0, 0] ![1, 1, n, d] h2, w2⟩,
       ⟨Rect.unit ![1, 0, 0, 0] ![1, 1, n, d] h1, w1⟩, ⟨Rect.unit ![0, 0, 0, 0] ![1, 1, n, d] h0, w0⟩] = G := by
  funext y
  have key (b : Fin 4) (hb) (w : (⟨4, ![1, 1, n, d]⟩ : Shape).Idx → Elt Ideal e) (ew : ∀ i c, w (ix4 0 0 i c) = G (ix4 b 0 i c))
      (x : (⟨4, ![1, 1, n, d]⟩ : Shape).Idx) : w x = G ((Rect.unit (s := ⟨4, ![4, 1, n, d]⟩) ![b.val, 0, 0, 0] ![1, 1, n, d] hb).emb x) := by
    obtain ⟨i, c, rfl⟩ := eta4 x
    rw [ew]
    congr 1
    funext a
    apply Fin.ext
    fin_cases a
    · show b.val = b.val + 1 * 0
      omega
    · rfl
    · show i.val = 0 + 1 * i.val
      omega
    · show c.val = 0 + 1 * c.val
      omega
  refine View.canon_apply_of_pieces G _ ?_ y ?_
  · intro p hp
    simp only [List.mem_cons, List.not_mem_nil, or_false] at hp
    obtain rfl | rfl | rfl | rfl := hp
    · exact key 3 h3 w3 e3
    · exact key 2 h2 w2 e2
    · exact key 1 h1 w1 e1
    · exact key 0 h0 w0 e0
  · have hy1 : (y 1).val < 1 := (y 1).isLt
    have hy2 : (y 2).val < n := (y 2).isLt
    have hy3 : (y 3).val < d := (y 3).isLt
    have hmem (b : ℕ) (hb) (hyb : (y 0).val = b) : y ∈ (Rect.unit (s := ⟨4, ![4, 1, n, d]⟩) ![b, 0, 0, 0] ![1, 1, n, d] hb).set := by
      rw [Rect.mem_set_unit]
      intro a
      fin_cases a <;> simp <;> omega
    have hy0 : (y 0).val < 4 := (y 0).isLt
    obtain h | h | h | h : (y 0).val = 0 ∨ (y 0).val = 1 ∨ (y 0).val = 2 ∨ (y 0).val = 3 := by omega
    · exact ⟨_, (.tail _ (.tail _ (.tail _ (.head _)))), hmem 0 h0 h⟩
    · exact ⟨_, (.tail _ (.tail _ (.head _))), hmem 1 h1 h⟩
    · exact ⟨_, (.tail _ (.head _)), hmem 2 h2 h⟩
    · exact ⟨_, (.head _), hmem 3 h3 h⟩

/-- The same of the carried state: four batches' stores, read at an index: each holds its own batch. -/
theorem canon3 {n d : ℕ} {e : EltTy} (G : (⟨3, ![4, n, d]⟩ : Shape).Idx → Elt Ideal e)
    (h0 h1 h2 h3) (w0 w1 w2 w3 : (⟨3, ![1, n, d]⟩ : Shape).Idx → Elt Ideal e)
    (e0 : ∀ i c, w0 (ix3 0 i c) = G (ix3 0 i c)) (e1 : ∀ i c, w1 (ix3 0 i c) = G (ix3 1 i c))
    (e2 : ∀ i c, w2 (ix3 0 i c) = G (ix3 2 i c)) (e3 : ∀ i c, w3 (ix3 0 i c) = G (ix3 3 i c)) :
    View.canon (Val := Elt Ideal) (s := ⟨3, ![4, n, d]⟩) (e := e)
      [⟨Rect.unit ![3, 0, 0] ![1, n, d] h3, w3⟩, ⟨Rect.unit ![2, 0, 0] ![1, n, d] h2, w2⟩,
       ⟨Rect.unit ![1, 0, 0] ![1, n, d] h1, w1⟩, ⟨Rect.unit ![0, 0, 0] ![1, n, d] h0, w0⟩] = G := by
  funext y
  have key (b : Fin 4) (hb) (w : (⟨3, ![1, n, d]⟩ : Shape).Idx → Elt Ideal e) (ew : ∀ i c, w (ix3 0 i c) = G (ix3 b i c))
      (x : (⟨3, ![1, n, d]⟩ : Shape).Idx) : w x = G ((Rect.unit (s := ⟨3, ![4, n, d]⟩) ![b.val, 0, 0] ![1, n, d] hb).emb x) := by
    obtain ⟨i, c, rfl⟩ := eta3 x
    rw [ew]
    congr 1
    funext a
    apply Fin.ext
    fin_cases a
    · show b.val = b.val + 1 * 0
      omega
    · show i.val = 0 + 1 * i.val
      omega
    · show c.val = 0 + 1 * c.val
      omega
  refine View.canon_apply_of_pieces G _ ?_ y ?_
  · intro p hp
    simp only [List.mem_cons, List.not_mem_nil, or_false] at hp
    obtain rfl | rfl | rfl | rfl := hp
    · exact key 3 h3 w3 e3
    · exact key 2 h2 w2 e2
    · exact key 1 h1 w1 e1
    · exact key 0 h0 w0 e0
  · have hy1 : (y 1).val < n := (y 1).isLt
    have hy2 : (y 2).val < d := (y 2).isLt
    have hmem (b : ℕ) (hb) (hyb : (y 0).val = b) : y ∈ (Rect.unit (s := ⟨3, ![4, n, d]⟩) ![b, 0, 0] ![1, n, d] hb).set := by
      rw [Rect.mem_set_unit]
      intro a
      fin_cases a <;> simp <;> omega
    have hy0 : (y 0).val < 4 := (y 0).isLt
    obtain h | h | h | h : (y 0).val = 0 ∨ (y 0).val = 1 ∨ (y 0).val = 2 ∨ (y 0).val = 3 := by omega
    · exact ⟨_, (.tail _ (.tail _ (.tail _ (.head _)))), hmem 0 h0 h⟩
    · exact ⟨_, (.tail _ (.tail _ (.head _))), hmem 1 h1 h⟩
    · exact ⟨_, (.tail _ (.head _)), hmem 2 h2 h⟩
    · exact ⟨_, (.head _), hmem 3 h3 h⟩

/-! ### Loads at an index -/

theorem ldQ_at (b : Fin 4) (h) (a : Memref sig .tc .vmem S4x1x128x256 .bf16) (ha : a.IsWhole) (x : Vec Ideal S4x1x128x256 .bf16) (i : Fin 128) (k : Fin 256) :
    ldQ b.val h a ha x (ix4 0 0 i k) = x (ix4 b 0 i k) := by
  unfold ldQ
  rw [View.readAt_eq_ld, ha.read_unread]
  show x _ = _
  congr 1
  funext a
  apply Fin.ext
  fin_cases a
  · show b.val + 1 * 0 = b.val
    omega
  · rfl
  · show 0 + 1 * i.val = i.val
    omega
  · show 0 + 1 * k.val = k.val
    omega

theorem ldV_at (b : Fin 4) (h) (a : Memref sig .tc .vmem S4x1x128x512 .bf16) (ha : a.IsWhole) (x : Vec Ideal S4x1x128x512 .bf16) (i : Fin 128) (k : Fin 512) :
    ldV b.val h a ha x (ix4 0 0 i k) = x (ix4 b 0 i k) := by
  unfold ldV
  rw [View.readAt_eq_ld, ha.read_unread]
  show x _ = _
  congr 1
  funext a
  apply Fin.ext
  fin_cases a
  · show b.val + 1 * 0 = b.val
    omega
  · rfl
  · show 0 + 1 * i.val = i.val
    omega
  · show 0 + 1 * k.val = k.val
    omega

theorem ldS_at (b : Fin 4) (h) (a : Memref sig .tc .vmem S4x256x512 .f32) (ha : a.IsWhole) (x : Vec Ideal S4x256x512 .f32) (i : Fin 256) (k : Fin 512) :
    ldS b.val h a ha x (ix3 0 i k) = x (ix3 b i k) := by
  unfold ldS
  rw [View.readAt_eq_ld, ha.read_unread]
  show x _ = _
  congr 1
  funext a
  apply Fin.ext
  fin_cases a
  · show b.val + 1 * 0 = b.val
    omega
  · show 0 + 1 * i.val = i.val
    omega
  · show 0 + 1 * k.val = k.val
    omega

theorem zero3 : (![0, 0, 0] : Fin 3 → ℕ) = fun _ => 0 := by decide

theorem ldR_eq (a : Memref sig .tc .vmem S1x4x128 .f32) (ha : a.IsWhole) (x : Vec Ideal S1x4x128 .f32) : ldR a ha x = x := by
  unfold ldR
  rw [View.readAt_eq_ld, ha.read_unread, View.ld_unit_zero (S := S1x4x128) zero3]

theorem pieceR_canon (x : FVec Ideal S1x4x128 .f32) : View.canon (Val := Elt Ideal) (pieceR x) = x := by
  unfold pieceR
  rw [View.canon_unit_zero zero3]

/-! ### What a point computes -/

/-- The real numbers a point's loads hold: queries, keys, values, decays and step sizes of its four batches. -/
structure Reals (l : Loads Ideal) (X Y : Fin 4 → Fin 128 → Fin 256 → ℝ) (V : Fin 4 → Fin 128 → Fin 512 → ℝ) (g B : Fin 4 → Fin 128 → ℝ) : Prop where
  q0 : Is (load32 l.q0) (X 0)
  q1 : Is (load32 l.q1) (X 1)
  q2 : Is (load32 l.q2) (X 2)
  q3 : Is (load32 l.q3) (X 3)
  k0 : Is (load32 l.k0) (Y 0)
  k1 : Is (load32 l.k1) (Y 1)
  k2 : Is (load32 l.k2) (Y 2)
  k3 : Is (load32 l.k3) (Y 3)
  v0 : Is (loadV l.v0) (V 0)
  v1 : Is (loadV l.v1) (V 1)
  v2 : Is (loadV l.v2) (V 2)
  v3 : Is (loadV l.v3) (V 3)
  hg : ∀ b i, l.g (ix3 0 b i) = ((g b i : ℝ) : EReal)
  hb : ∀ b i, l.b (ix3 0 b i) = ((B b i : ℝ) : EReal)
  okq : ∀ b i, Ok (X b i)
  okk : ∀ b i, Ok (Y b i)

/-- The running decay of a block. -/
def runG (g : Fin 128 → ℝ) (i : Fin 128) : ℝ := ∑ j, g j * (if j.val ≤ i.val then 1 else 0)
/-- A key's factor. -/
def facK (Y : Fin 128 → Fin 256 → ℝ) (i : Fin 128) : ℝ := scaleR (Y i) * normR (Y i)
/-- A query's factor. -/
def facQ (X : Fin 128 → Fin 256 → ℝ) (i : Fin 128) : ℝ := scaleR (X i) * normR (X i) * (1/16)

/-- The rows of scales and factors, read by batch. -/
theorem st_at (l : Loads Ideal) (b : Fin 4) (i : Fin 128) :
    l.st (ix2 ⟨b.val, by omega⟩ i) = scale (load32 (![l.k0, l.k1, l.k2, l.k3] b)) (ix2 i 0) ∧
    l.st (ix2 ⟨4 + b.val, by omega⟩ i) = scale (load32 (![l.q0, l.q1, l.q2, l.q3] b)) (ix2 i 0) ∧
    l.st (ix2 ⟨8 + b.val, by omega⟩ i) = fk (load32 (![l.k0, l.k1, l.k2, l.k3] b)) (ix2 i 0) :=
  statt_at (fun b => load32 (![l.k0, l.k1, l.k2, l.k3] b)) (fun b => load32 (![l.q0, l.q1, l.q2, l.q3] b)) b i

/-- A slice of a matrix at an index. -/
theorem slice_at {m n p q : ℕ} {φ : FTy} (x : FVec Ideal ⟨2, ![m, n]⟩ φ) (o0 o1 : ℕ) (h) (i : Fin p) (j : Fin q) (r : Fin m) (t : Fin n)
    (hr : r.val = o0 + i.val) (ht : t.val = o1 + j.val) :
    extractStridedSlice (⟨2, ![p, q]⟩ : Shape) ![o0, o1] x h (ix2 i j) = x (ix2 r t) := by
  show x _ = x _
  congr 1
  funext a
  apply Fin.ext
  fin_cases a
  · exact hr.symm
  · exact ht.symm

/-- One batch's block functions are given the reals of its tokens. -/
theorem real1 {l : Loads Ideal} {X Y V g B} (h : Reals l X Y V g B) (b : Fin 4) (hc hb hg hL hf) {k q : FVec Ideal S128x256 .f32} (hk : Is k (Y b)) (hq : Is q (X b))
    (ek : k = load32 (![l.k0, l.k1, l.k2, l.k3] b))
    (r : Rows Ideal) (hr : r = rows ![0, b.val] ![0, 4 + b.val] ![b.val, 0] ![b.val, 127] ![8 + b.val, 0] hc hb hg hL hf (cum l.g) (colmat l.g l.b) l.st) :
    Real1 r.gc r.bc r.gr r.fr r.gl k q (runG (g b)) (B b) (facK (Y b)) (facQ (X b)) (fun i => codeR (Y b i)) (fun i => codeR (X b i)) := by
  have hcu := cum_is h.hg
  subst hr
  constructor
  · intro i j
    obtain rfl : j = 0 := Subsingleton.elim _ _
    exact (slice_at (colmat l.g l.b) _ _ hc i 0 i ⟨b.val, by omega⟩ (by simp) (by simp)).trans ((colmat_g b i).trans (hcu b i))
  · intro i j
    obtain rfl : j = 0 := Subsingleton.elim _ _
    exact (slice_at (colmat l.g l.b) _ _ hb i 0 i ⟨4 + b.val, by omega⟩ (by simp) (by simp)).trans ((colmat_b b i).trans (h.hb b i))
  · intro i j
    obtain rfl : i = 0 := Subsingleton.elim _ _
    exact (slice_at (cum l.g) _ _ hg 0 j b j (by simp) (by simp)).trans (hcu b j)
  · intro i j
    obtain rfl : i = 0 := Subsingleton.elim _ _
    refine (slice_at l.st _ _ hf 0 j ⟨8 + b.val, by omega⟩ j (by simp) (by simp)).trans ((st_at l b j).2.2.trans ?_)
    rw [← ek]
    exact fk_is hk (h.okk b) j 0
  · intro i j
    obtain rfl : i = 0 := Subsingleton.elim _ _
    obtain rfl : j = 0 := Subsingleton.elim _ _
    exact (slice_at (cum l.g) _ _ hL 0 0 b 127 (by simp) (by simp)).trans (hcu b 127)
  · exact fk_is hk (h.okk b)
  · exact fq_is hq (h.okq b)
  · exact codes_is hk (h.okk b)
  · exact codes_is hq (h.okq b)

section batch
variable {l : Loads Ideal} {X Y : Fin 4 → Fin 128 → Fin 256 → ℝ} {V : Fin 4 → Fin 128 → Fin 512 → ℝ} {g B : Fin 4 → Fin 128 → ℝ}

theorem r0 (h : Reals l X Y V g B) : Real1 (rows0 (cum l.g) (colmat l.g l.b) l.st).gc (rows0 (cum l.g) (colmat l.g l.b) l.st).bc (rows0 (cum l.g) (colmat l.g l.b) l.st).gr
    (rows0 (cum l.g) (colmat l.g l.b) l.st).fr (rows0 (cum l.g) (colmat l.g l.b) l.st).gl (load32 l.k0) (load32 l.q0) (runG (g 0)) (B 0) (facK (Y 0)) (facQ (X 0))
    (fun i => codeR (Y 0 i)) (fun i => codeR (X 0 i)) :=
  real1 h 0 _ _ _ _ _ h.k0 h.q0 rfl (rows0 (cum l.g) (colmat l.g l.b) l.st) rfl
theorem r1 (h : Reals l X Y V g B) : Real1 (rows1 (cum l.g) (colmat l.g l.b) l.st).gc (rows1 (cum l.g) (colmat l.g l.b) l.st).bc (rows1 (cum l.g) (colmat l.g l.b) l.st).gr
    (rows1 (cum l.g) (colmat l.g l.b) l.st).fr (rows1 (cum l.g) (colmat l.g l.b) l.st).gl (load32 l.k1) (load32 l.q1) (runG (g 1)) (B 1) (facK (Y 1)) (facQ (X 1))
    (fun i => codeR (Y 1 i)) (fun i => codeR (X 1 i)) :=
  real1 h 1 _ _ _ _ _ h.k1 h.q1 rfl (rows1 (cum l.g) (colmat l.g l.b) l.st) rfl
theorem r2 (h : Reals l X Y V g B) : Real1 (rows2 (cum l.g) (colmat l.g l.b) l.st).gc (rows2 (cum l.g) (colmat l.g l.b) l.st).bc (rows2 (cum l.g) (colmat l.g l.b) l.st).gr
    (rows2 (cum l.g) (colmat l.g l.b) l.st).fr (rows2 (cum l.g) (colmat l.g l.b) l.st).gl (load32 l.k2) (load32 l.q2) (runG (g 2)) (B 2) (facK (Y 2)) (facQ (X 2))
    (fun i => codeR (Y 2 i)) (fun i => codeR (X 2 i)) :=
  real1 h 2 _ _ _ _ _ h.k2 h.q2 rfl (rows2 (cum l.g) (colmat l.g l.b) l.st) rfl
theorem r3 (h : Reals l X Y V g B) : Real1 (rows3 (cum l.g) (colmat l.g l.b) l.st).gc (rows3 (cum l.g) (colmat l.g l.b) l.st).bc (rows3 (cum l.g) (colmat l.g l.b) l.st).gr
    (rows3 (cum l.g) (colmat l.g l.b) l.st).fr (rows3 (cum l.g) (colmat l.g l.b) l.st).gl (load32 l.k3) (load32 l.q3) (runG (g 3)) (B 3) (facK (Y 3)) (facQ (X 3))
    (fun i => codeR (Y 3 i)) (fun i => codeR (X 3 i)) :=
  real1 h 3 _ _ _ _ _ h.k3 h.q3 rfl (rows3 (cum l.g) (colmat l.g l.b) l.st) rfl

/-- The outputs of a batch, in real numbers. -/
def outB (X Y : Fin 4 → Fin 128 → Fin 256 → ℝ) (V : Fin 4 → Fin 128 → Fin 512 → ℝ) (g B : Fin 4 → Fin 128 → ℝ) (S : Fin 4 → Fin 256 → Fin 512 → ℝ)
    (b : Fin 4) : Fin 128 → Fin 512 → ℝ :=
  outR (runG (g b)) (B b) (facK (Y b)) (facQ (X b)) (fun i => codeR (Y b i)) (fun i => codeR (X b i)) (S b) (V b)
/-- The state a batch leaves, in real numbers. -/
def nextB (Y : Fin 4 → Fin 128 → Fin 256 → ℝ) (V : Fin 4 → Fin 128 → Fin 512 → ℝ) (g B : Fin 4 → Fin 128 → ℝ) (S : Fin 4 → Fin 256 → Fin 512 → ℝ)
    (b : Fin 4) : Fin 256 → Fin 512 → ℝ :=
  nextR (runG (g b)) (B b) (facK (Y b)) (fun i => codeR (Y b i)) (S b) (V b)

/-- The states the four batches start from. -/
structure States (s0 s1 s2 s3 : Vec Ideal S1x256x512 .f32) (S : Fin 4 → Fin 256 → Fin 512 → ℝ) : Prop where
  s0 : ∀ a c, s0 (ix3 0 a c) = ((S 0 a c : ℝ) : EReal)
  s1 : ∀ a c, s1 (ix3 0 a c) = ((S 1 a c : ℝ) : EReal)
  s2 : ∀ a c, s2 (ix3 0 a c) = ((S 2 a c : ℝ) : EReal)
  s3 : ∀ a c, s3 (ix3 0 a c) = ((S 3 a c : ℝ) : EReal)

theorem loadS_is {s : Vec Ideal S1x256x512 .f32} {S : Fin 256 → Fin 512 → ℝ} (h : ∀ a c, s (ix3 0 a c) = ((S a c : ℝ) : EReal)) : Is (loadS s) S := by
  intro a c
  pointwise [loadS]
  exact h a c

theorem outP_at (t p : FVec Ideal S128x128 .f32) (r : Rows Ideal) (k q : FVec Ideal S128x256 .f32) (s : Vec Ideal S1x256x512 .f32) (v : Vec Ideal S1x1x128x512 .bf16)
    (i : Fin 128) (c : Fin 512) : outP t p r k q s v (ix4 0 0 i c) = outs t p r.gc r.bc k q (loadS s) (loadV v) (ix2 i c) := by
  pointwise [outP]

theorem nextP_at (t : FVec Ideal S128x128 .f32) (r : Rows Ideal) (k q : FVec Ideal S128x256 .f32) (s : Vec Ideal S1x256x512 .f32) (v : Vec Ideal S1x1x128x512 .bf16)
    (i : Fin 256) (c : Fin 512) : nextP t r k q s v (ix3 0 i c) = next t r.gc r.bc r.gl k q (loadS s) (loadV v) (ix2 i c) := by
  pointwise [nextP]

theorem codesP_at (x : FVec Ideal S128x256 .f32) (i : Fin 128) (c : Fin 256) : codesP x (ix4 0 0 i c) = codes x (ix2 i c) := by
  pointwise [codesP]

variable {s0 s1 s2 s3 : Vec Ideal S1x256x512 .f32} {S : Fin 4 → Fin 256 → Fin 512 → ℝ}

/-- The output window after a point. -/
theorem out_canon (h : Reals l X Y V g B) (hs : States s0 s1 s2 s3 S) :
    View.canon (Val := Elt Ideal) (piecesO l.pt s0 s1 s2 s3) = fun y => ((outB X Y V g B S (y 0) (y 2) (y 3) : ℝ) : EReal) :=
  canon4 (n := 128) (d := 512) (e := .bf16) _ _ _ _ _ _ _ _ _
    (fun i c => (outP_at _ _ _ _ _ _ _ i c).trans (outs_is (r0 h) (loadS_is hs.s0) h.v0 i c))
    (fun i c => (outP_at _ _ _ _ _ _ _ i c).trans (outs_is (r1 h) (loadS_is hs.s1) h.v1 i c))
    (fun i c => (outP_at _ _ _ _ _ _ _ i c).trans (outs_is (r2 h) (loadS_is hs.s2) h.v2 i c))
    (fun i c => (outP_at _ _ _ _ _ _ _ i c).trans (outs_is (r3 h) (loadS_is hs.s3) h.v3 i c))

/-- The carried state after a point. -/
theorem state_canon (h : Reals l X Y V g B) (hs : States s0 s1 s2 s3 S) :
    View.canon (Val := Elt Ideal) (piecesS l.pt s0 s1 s2 s3) = fun y => ((nextB Y V g B S (y 0) (y 1) (y 2) : ℝ) : EReal) :=
  canon3 (n := 256) (d := 512) (e := .f32) _ _ _ _ _ _ _ _ _
    (fun i c => (nextP_at _ _ _ _ _ _ i c).trans (next_is (r0 h) (loadS_is hs.s0) h.v0 i c))
    (fun i c => (nextP_at _ _ _ _ _ _ i c).trans (next_is (r1 h) (loadS_is hs.s1) h.v1 i c))
    (fun i c => (nextP_at _ _ _ _ _ _ i c).trans (next_is (r2 h) (loadS_is hs.s2) h.v2 i c))
    (fun i c => (nextP_at _ _ _ _ _ _ i c).trans (next_is (r3 h) (loadS_is hs.s3) h.v3 i c))

/-- The window of key codes after a point. -/
theorem kcodes_canon (h : Reals l X Y V g B) :
    View.canon (Val := Elt Ideal) (piecesC l.pt.k0 l.pt.k1 l.pt.k2 l.pt.k3) = fun y => ((codeR (Y (y 0) (y 2)) (y 3) : ℝ) : EReal) :=
  canon4 (n := 128) (d := 256) (e := .fp8e4m3) _ _ _ _ _ _ _ _ _
    (fun i c => (codesP_at _ i c).trans (codes_is h.k0 (h.okk 0) i c)) (fun i c => (codesP_at _ i c).trans (codes_is h.k1 (h.okk 1) i c))
    (fun i c => (codesP_at _ i c).trans (codes_is h.k2 (h.okk 2) i c)) (fun i c => (codesP_at _ i c).trans (codes_is h.k3 (h.okk 3) i c))

/-- The window of query codes after a point. -/
theorem qcodes_canon (h : Reals l X Y V g B) :
    View.canon (Val := Elt Ideal) (piecesC l.pt.q0 l.pt.q1 l.pt.q2 l.pt.q3) = fun y => ((codeR (X (y 0) (y 2)) (y 3) : ℝ) : EReal) :=
  canon4 (n := 128) (d := 256) (e := .fp8e4m3) _ _ _ _ _ _ _ _ _
    (fun i c => (codesP_at _ i c).trans (codes_is h.q0 (h.okq 0) i c)) (fun i c => (codesP_at _ i c).trans (codes_is h.q1 (h.okq 1) i c))
    (fun i c => (codesP_at _ i c).trans (codes_is h.q2 (h.okq 2) i c)) (fun i c => (codesP_at _ i c).trans (codes_is h.q3 (h.okq 3) i c))

theorem kb_is (h : Reals l X Y V g B) (b : Fin 4) : Is (load32 (![l.k0, l.k1, l.k2, l.k3] b)) (Y b) := by
  fin_cases b
  exacts [h.k0, h.k1, h.k2, h.k3]
theorem qb_is (h : Reals l X Y V g B) (b : Fin 4) : Is (load32 (![l.q0, l.q1, l.q2, l.q3] b)) (X b) := by
  fin_cases b
  exacts [h.q0, h.q1, h.q2, h.q3]

/-- The window of key scales after a point. -/
theorem kscales_at (h : Reals l X Y V g B) (b : Fin 4) (i : Fin 128) :
    View.canon (Val := Elt Ideal) (pieceR (ksP l.pt.st)) (ix3 0 b i) = ((scaleR (Y b i) : ℝ) : EReal) := by
  rw [pieceR_canon]
  have e : ksP l.pt.st (ix3 0 b i) = extractStridedSlice S4x128 ![0, 0] l.pt.st slices_S128x128_o0_0_S4x128 (ix2 b i) := by
    unfold ksP
    generalize extractStridedSlice S4x128 ![0, 0] l.pt.st slices_S128x128_o0_0_S4x128 = z
    pointwise []
  rw [e]
  exact (slice_at l.st _ _ _ b i ⟨b.val, by omega⟩ i (by simp) (by simp)).trans ((st_at l b i).1.trans (scale_is (kb_is h b) (h.okk b) i 0))

/-- The window of query scales after a point. -/
theorem qscales_at (h : Reals l X Y V g B) (b : Fin 4) (i : Fin 128) :
    View.canon (Val := Elt Ideal) (pieceR (qsP l.pt.st)) (ix3 0 b i) = ((scaleR (X b i) : ℝ) : EReal) := by
  rw [pieceR_canon]
  have e : qsP l.pt.st (ix3 0 b i) = extractStridedSlice S4x128 ![4, 0] l.pt.st slices_S128x128_o4_0_S4x128 (ix2 b i) := by
    unfold qsP
    generalize extractStridedSlice S4x128 ![4, 0] l.pt.st slices_S128x128_o4_0_S4x128 = z
    pointwise []
  rw [e]
  exact (slice_at l.st _ _ _ b i ⟨4 + b.val, by omega⟩ i (by simp) (by simp)).trans ((st_at l b i).2.1.trans (scale_is (qb_is h b) (h.okq b) i 0))

end batch

end Cert.Blk

end
-- ==== Proof.PointCases.lean ====
/- One grid point from its input blocks, and how later stores hide earlier ones. -/
module

public import proofs.«01_k».proof.Proof.PointVal
public import proofs.«01_k».proof.Proof.Gen.KernelIdeal.Frame

@[expose] public section

set_option maxRecDepth 65536
set_option maxHeartbeats 400000

noncomputable section

namespace Cert.Blk

open Idealize.ShloMosaic Cert.KernelIdeal Cert.KernelIdeal.Gen Idealize.ShloMosaic.Pointwise Cert.Quant

/-- The real numbers a point's input blocks hold. -/
structure Inputs (x0 x1 : Vec Ideal S4x1x128x256 .bf16) (x2 : Vec Ideal S4x1x128x512 .bf16) (x3 x4 : Vec Ideal S1x4x128 .f32)
    (X Y : Fin 4 → Fin 128 → Fin 256 → ℝ) (V : Fin 4 → Fin 128 → Fin 512 → ℝ) (g B : Fin 4 → Fin 128 → ℝ) : Prop where
  q : ∀ b i k, x0 (ix4 b 0 i k) = ((X b i k : ℝ) : EReal)
  k : ∀ b i k, x1 (ix4 b 0 i k) = ((Y b i k : ℝ) : EReal)
  v : ∀ b i k, x2 (ix4 b 0 i k) = ((V b i k : ℝ) : EReal)
  g : ∀ b i, x3 (ix3 0 b i) = ((g b i : ℝ) : EReal)
  b : ∀ b i, x4 (ix3 0 b i) = ((B b i : ℝ) : EReal)
  okq : ∀ b i, Ok (X b i)
  okk : ∀ b i, Ok (Y b i)

theorem load32_is {x : Vec Ideal S1x1x128x256 .bf16} {X : Fin 128 → Fin 256 → ℝ} (h : ∀ i k, x (ix4 0 0 i k) = ((X i k : ℝ) : EReal)) : Is (load32 x) X := by
  intro i k
  pointwise [load32]
  exact h i k

theorem loadV_is {x : Vec Ideal S1x1x128x512 .bf16} {X : Fin 128 → Fin 512 → ℝ} (h : ∀ i k, x (ix4 0 0 i k) = ((X i k : ℝ) : EReal)) : Is (loadV x) X := by
  intro i k
  pointwise [loadV]
  exact h i k

/-- A point's loads of its input blocks. -/
theorem Inputs.reals {x0 x1 : Vec Ideal S4x1x128x256 .bf16} {x2 : Vec Ideal S4x1x128x512 .bf16} {x3 x4 : Vec Ideal S1x4x128 .f32} {X Y V g B} (h : Inputs x0 x1 x2 x3 x4 X Y V g B)
    (arg2 : Memref sig .tc .vmem S4x1x128x256 .bf16) (harg2 : arg2.IsWhole) (arg3 : Memref sig .tc .vmem S4x1x128x256 .bf16) (harg3 : arg3.IsWhole)
    (arg4 : Memref sig .tc .vmem S4x1x128x512 .bf16) (harg4 : arg4.IsWhole) (arg5 : Memref sig .tc .vmem S1x4x128 .f32) (harg5 : arg5.IsWhole)
    (arg6 : Memref sig .tc .vmem S1x4x128 .f32) (harg6 : arg6.IsWhole) : Reals (loads arg2 harg2 arg3 harg3 arg4 harg4 arg5 harg5 arg6 harg6 x0 x1 x2 x3 x4) X Y V g B where
  q0 := load32_is fun i k => (ldQ_at 0 _ arg2 harg2 x0 i k).trans (h.q 0 i k)
  k0 := load32_is fun i k => (ldQ_at 0 _ arg3 harg3 x1 i k).trans (h.k 0 i k)
  v0 := loadV_is fun i k => (ldV_at 0 _ arg4 harg4 x2 i k).trans (h.v 0 i k)
  q1 := load32_is fun i k => (ldQ_at 1 _ arg2 harg2 x0 i k).trans (h.q 1 i k)
  k1 := load32_is fun i k => (ldQ_at 1 _ arg3 harg3 x1 i k).trans (h.k 1 i k)
  v1 := loadV_is fun i k => (ldV_at 1 _ arg4 harg4 x2 i k).trans (h.v 1 i k)
  q2 := load32_is fun i k => (ldQ_at 2 _ arg2 harg2 x0 i k).trans (h.q 2 i k)
  k2 := load32_is fun i k => (ldQ_at 2 _ arg3 harg3 x1 i k).trans (h.k 2 i k)
  v2 := loadV_is fun i k => (ldV_at 2 _ arg4 harg4 x2 i k).trans (h.v 2 i k)
  q3 := load32_is fun i k => (ldQ_at 3 _ arg2 harg2 x0 i k).trans (h.q 3 i k)
  k3 := load32_is fun i k => (ldQ_at 3 _ arg3 harg3 x1 i k).trans (h.k 3 i k)
  v3 := loadV_is fun i k => (ldV_at 3 _ arg4 harg4 x2 i k).trans (h.v 3 i k)
  hg := fun b i => (congrFun (ldR_eq arg5 harg5 x3) _).trans (h.g b i)
  hb := fun b i => (congrFun (ldR_eq arg6 harg6 x4) _).trans (h.b b i)
  okq := h.okq
  okk := h.okk

/-- What a point leaves in its windows and in the carried state. -/
structure Leaves (o : Vec Ideal S4x1x128x512 .bf16 × Vec Ideal S4x1x256x512 .f32 × Vec Ideal S4x1x128x256 .fp8e4m3 × Vec Ideal S1x4x128 .f32 × Vec Ideal S4x1x128x256 .fp8e4m3 × Vec Ideal S1x4x128 .f32 × Vec Ideal S4x256x512 .f32)
    (X Y : Fin 4 → Fin 128 → Fin 256 → ℝ) (V : Fin 4 → Fin 128 → Fin 512 → ℝ) (g B : Fin 4 → Fin 128 → ℝ) (S : Fin 4 → Fin 256 → Fin 512 → ℝ) : Prop where
  out : o.1 = fun y => ((outB X Y V g B S (y 0) (y 2) (y 3) : ℝ) : EReal)
  kc : o.2.2.1 = fun y => ((codeR (Y (y 0) (y 2)) (y 3) : ℝ) : EReal)
  ks : ∀ b i, o.2.2.2.1 (ix3 0 b i) = ((scaleR (Y b i) : ℝ) : EReal)
  qc : o.2.2.2.2.1 = fun y => ((codeR (X (y 0) (y 2)) (y 3) : ℝ) : EReal)
  qs : ∀ b i, o.2.2.2.2.2.1 (ix3 0 b i) = ((scaleR (X b i) : ℝ) : EReal)
  st : o.2.2.2.2.2.2 = fun y => ((nextB Y V g B S (y 0) (y 1) (y 2) : ℝ) : EReal)

/-- Stores over others that cover an index hide them. -/
theorem canon_append {s : Shape} {e : EltTy} (L M : List (View.Piece (Elt Ideal) s e)) (y : s.Idx) (h : ∃ p ∈ L, y ∈ p.1.set) :
    View.canon (L ++ M) y = View.canon L y := by
  induction L with
  | nil => obtain ⟨p, hp, -⟩ := h; cases hp
  | cons p L ih =>
    obtain ⟨r, w⟩ := p
    by_cases hy : y ∈ r.set
    · obtain ⟨j, rfl⟩ := r.exists_idx_of_mem hy
      exact (View.canon_cons_emb r w (L ++ M) j).trans (View.canon_cons_emb r w L j).symm
    · refine (View.canon_cons_of_not_mem _ _ hy).trans ((ih ?_).trans (View.canon_cons_of_not_mem _ _ hy).symm)
      obtain ⟨p, hp, hm⟩ := h
      rcases List.mem_cons.1 hp with rfl | hp
      · exact absurd hm hy
      · exact ⟨p, hp, hm⟩

/-- A batch's store leaves the other batches as they were. -/
theorem canon_miss (b : ℕ) (hb) (w : (⟨3, ![1, 256, 512]⟩ : Shape).Idx → Elt Ideal .f32) (L : List (View.Piece (Elt Ideal) S4x256x512 .f32)) (y : S4x256x512.Idx) (hy : (y 0).val ≠ b) :
    View.canon (⟨Rect.unit (s := S4x256x512) ![b, 0, 0] ![1, 256, 512] hb, w⟩ :: L) y = View.canon L y := by
  refine View.canon_cons_of_not_mem _ _ fun hm => hy ?_
  have hm' : y ∈ (Rect.unit (s := S4x256x512) ![b, 0, 0] ![1, 256, 512] hb).set := hm
  rw [Rect.mem_set_unit] at hm'
  have := hm' 0
  have h1 : b ≤ (y 0).val := this.1
  have h2 : (y 0).val < b + 1 := this.2
  omega

/-- Four batches' stores cover the carried state. -/
theorem covers {l : Pt Ideal} {s0 s1 s2 s3 : Vec Ideal S1x256x512 .f32} (y : S4x256x512.Idx) : ∃ p ∈ piecesS l s0 s1 s2 s3, y ∈ p.1.set := by
  have hy1 : (y 1).val < 256 := (y 1).isLt
  have hy2 : (y 2).val < 512 := (y 2).isLt
  have hmem (b : ℕ) (hb) (hyb : (y 0).val = b) : y ∈ (Rect.unit (s := S4x256x512) ![b, 0, 0] ![1, 256, 512] hb).set := by
    rw [Rect.mem_set_unit]
    intro a
    fin_cases a <;> simp <;> omega
  have hy0 : (y 0).val < 4 := (y 0).isLt
  obtain h | h | h | h : (y 0).val = 0 ∨ (y 0).val = 1 ∨ (y 0).val = 2 ∨ (y 0).val = 3 := by omega
  · exact ⟨_, (.tail _ (.tail _ (.tail _ (.head _)))), hmem 0 inb_S4x256x512_S1x256x512_0_0_0 h⟩
  · exact ⟨_, (.tail _ (.tail _ (.head _))), hmem 1 inb_S4x256x512_S1x256x512_1_0_0 h⟩
  · exact ⟨_, (.tail _ (.head _)), hmem 2 inb_S4x256x512_S1x256x512_2_0_0 h⟩
  · exact ⟨_, (.head _), hmem 3 inb_S4x256x512_S1x256x512_3_0_0 h⟩

theorem zero4 : (![0, 0, 0, 0] : Fin 4 → ℕ) = fun _ => 0 := by decide

end Cert.Blk

end
-- ==== Proof.TieA.lean ====
/- Case A of a grid point: the generated run's stored pieces are the block functions at the point's loads. -/
module

public import proofs.«01_k».proof.Proof.Point
public import proofs.«01_k».proof.Proof.Gen.KernelIdeal.Frame.RunA

@[expose] public section

set_option maxRecDepth 65536
set_option maxHeartbeats 1000000

noncomputable section

namespace Cert.Blk.A

open Idealize.ShloMosaic Cert.KernelIdeal Cert.KernelIdeal.Gen Cert.KernelIdeal.Gen.kernelRun0_A.sl

variable {F : FTy → Type} [FloatOps F]

section pt
variable (c : Dev nD) (arg2 : Memref sig .tc .vmem S4x1x128x256 .bf16) (harg2 : arg2.IsWhole) (arg3 : Memref sig .tc .vmem S4x1x128x256 .bf16) (harg3 : arg3.IsWhole)
  (arg4 : Memref sig .tc .vmem S4x1x128x512 .bf16) (harg4 : arg4.IsWhole) (arg5 : Memref sig .tc .vmem S1x4x128 .f32) (harg5 : arg5.IsWhole)
  (arg6 : Memref sig .tc .vmem S1x4x128 .f32) (harg6 : arg6.IsWhole)
  (x0 x1 : Vec F S4x1x128x256 .bf16) (x2 : Vec F S4x1x128x512 .bf16) (x3 x4 : Vec F S1x4x128 .f32)

/-- The point, by the names of the generated run's values. -/
def pt : Pt F where
  q0 := r_10 c arg2 harg2 x0
  q1 := r_31 c arg2 harg2 x0
  q2 := r_51 c arg2 harg2 x0
  q3 := r_72 c arg2 harg2 x0
  k0 := r_2 c arg3 harg3 x1
  k1 := r_21 c arg3 harg3 x1
  k2 := r_41 c arg3 harg3 x1
  k3 := r_63 c arg3 harg3 x1
  v0 := (loads arg2 harg2 arg3 harg3 arg4 harg4 arg5 harg5 arg6 harg6 x0 x1 x2 x3 x4).v0
  v1 := (loads arg2 harg2 arg3 harg3 arg4 harg4 arg5 harg5 arg6 harg6 x0 x1 x2 x3 x4).v1
  v2 := (loads arg2 harg2 arg3 harg3 arg4 harg4 arg5 harg5 arg6 harg6 x0 x1 x2 x3 x4).v2
  v3 := (loads arg2 harg2 arg3 harg3 arg4 harg4 arg5 harg5 arg6 harg6 x0 x1 x2 x3 x4).v3
  cu := r c arg5 harg5 x3
  cm := r_1 c arg5 harg5 arg6 harg6 x3 x4
  st := r_83 c arg2 harg2 arg3 harg3 x0 x1
  t0 := double 64#32 128#32 (r_94 c arg2 harg2 arg3 harg3 arg5 harg5 arg6 harg6 x0 x1 x3 x4) (r_120 c arg2 harg2 arg3 harg3 arg5 harg5 arg6 harg6 x0 x1 x3 x4)
  t1 := r_184 c arg2 harg2 arg3 harg3 arg5 harg5 arg6 harg6 x0 x1 x3 x4
  t2 := double 64#32 128#32 (r_203 c arg2 harg2 arg3 harg3 arg5 harg5 arg6 harg6 x0 x1 x3 x4) (r_232 c arg2 harg2 arg3 harg3 arg5 harg5 arg6 harg6 x0 x1 x3 x4)
  t3 := r_302 c arg2 harg2 arg3 harg3 arg5 harg5 arg6 harg6 x0 x1 x3 x4
  p0 := r_95 c arg2 harg2 arg3 harg3 arg5 harg5 arg6 harg6 x0 x1 x3 x4
  p1 := r_147 c arg2 harg2 arg3 harg3 arg5 harg5 arg6 harg6 x0 x1 x3 x4
  p2 := r_204 c arg2 harg2 arg3 harg3 arg5 harg5 arg6 harg6 x0 x1 x3 x4
  p3 := r_260 c arg2 harg2 arg3 harg3 arg5 harg5 arg6 harg6 x0 x1 x3 x4

/-- Batch 0's system matrix. -/
theorem sys0 : r_94 c arg2 harg2 arg3 harg3 arg5 harg5 arg6 harg6 x0 x1 x3 x4 =
    sysA (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k0 (pt c arg2 harg2 arg3 harg3 arg4 harg4 arg5 harg5 arg6 harg6 x0 x1 x2 x3 x4).q0 := by exact rfl
/-- Its inverse. -/
theorem inv0 : (pt c arg2 harg2 arg3 harg3 arg4 harg4 arg5 harg5 arg6 harg6 x0 x1 x2 x3 x4).t0 = (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k0 (pt c arg2 harg2 arg3 harg3 arg4 harg4 arg5 harg5 arg6 harg6 x0 x1 x2 x3 x4).q0 :=
  (show (pt c arg2 harg2 arg3 harg3 arg4 harg4 arg5 harg5 arg6 harg6 x0 x1 x2 x3 x4).t0 = inverse (r_94 c arg2 harg2 arg3 harg3 arg5 harg5 arg6 harg6 x0 x1 x3 x4) by exact rfl).trans (by rw [sys0]; rfl)
/-- Batch 0's scores. -/
theorem sco0 : (pt c arg2 harg2 arg3 harg3 arg4 harg4 arg5 harg5 arg6 harg6 x0 x1 x2 x3 x4).p0 = (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k0 (pt c arg2 harg2 arg3 harg3 arg4 harg4 arg5 harg5 arg6 harg6 x0 x1 x2 x3 x4).q0 := by exact rfl

/-- Batch 1's system matrix. -/
theorem sys1 : r_146 c arg2 harg2 arg3 harg3 arg5 harg5 arg6 harg6 x0 x1 x3 x4 =
    sysA (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k1 (pt c arg2 harg2 arg3 harg3 arg4 harg4 arg5 harg5 arg6 harg6 x0 x1 x2 x3 x4).q1 := by exact rfl
/-- Its inverse. -/
theorem inv1 : (pt c arg2 harg2 arg3 harg3 arg4 harg4 arg5 harg5 arg6 harg6 x0 x1 x2 x3 x4).t1 = (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k1 (pt c arg2 harg2 arg3 harg3 arg4 harg4 arg5 harg5 arg6 harg6 x0 x1 x2 x3 x4).q1 :=
  (show (pt c arg2 harg2 arg3 harg3 arg4 harg4 arg5 harg5 arg6 harg6 x0 x1 x2 x3 x4).t1 = inverse (r_146 c arg2 harg2 arg3 harg3 arg5 harg5 arg6 harg6 x0 x1 x3 x4) by exact rfl).trans (by rw [sys1]; rfl)
/-- Batch 1's scores. -/
theorem sco1 : (pt c arg2 harg2 arg3 harg3 arg4 harg4 arg5 harg5 arg6 harg6 x0 x1 x2 x3 x4).p1 = (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k1 (pt c arg2 harg2 arg3 harg3 arg4 harg4 arg5 harg5 arg6 harg6 x0 x1 x2 x3 x4).q1 := by exact rfl

/-- Batch 2's system matrix. -/
theorem sys2 : r_203 c arg2 harg2 arg3 harg3 arg5 harg5 arg6 harg6 x0 x1 x3 x4 =
    sysA (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k2 (pt c arg2 harg2 arg3 harg3 arg4 harg4 arg5 harg5 arg6 harg6 x0 x1 x2 x3 x4).q2 := by exact rfl
/-- Its inverse. -/
theorem inv2 : (pt c arg2 harg2 arg3 harg3 arg4 harg4 arg5 harg5 arg6 harg6 x0 x1 x2 x3 x4).t2 = (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k2 (pt c arg2 harg2 arg3 harg3 arg4 harg4 arg5 harg5 arg6 harg6 x0 x1 x2 x3 x4).q2 :=
  (show (pt c arg2 harg2 arg3 harg3 arg4 harg4 arg5 harg5 arg6 harg6 x0 x1 x2 x3 x4).t2 = inverse (r_203 c arg2 harg2 arg3 harg3 arg5 harg5 arg6 harg6 x0 x1 x3 x4) by exact rfl).trans (by rw [sys2]; rfl)
/-- Batch 2's scores. -/
theorem sco2 : (pt c arg2 harg2 arg3 harg3 arg4 harg4 arg5 harg5 arg6 harg6 x0 x1 x2 x3 x4).p2 = (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k2 (pt c arg2 harg2 arg3 harg3 arg4 harg4 arg5 harg5 arg6 harg6 x0 x1 x2 x3 x4).q2 := by exact rfl

/-- Batch 3's system matrix. -/
theorem sys3 : r_259 c arg2 harg2 arg3 harg3 arg5 harg5 arg6 harg6 x0 x1 x3 x4 =
    sysA (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k3 (pt c arg2 harg2 arg3 harg3 arg4 harg4 arg5 harg5 arg6 harg6 x0 x1 x2 x3 x4).q3 := by exact rfl
/-- Its inverse. -/
theorem inv3 : (pt c arg2 harg2 arg3 harg3 arg4 harg4 arg5 harg5 arg6 harg6 x0 x1 x2 x3 x4).t3 = (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k3 (pt c arg2 harg2 arg3 harg3 arg4 harg4 arg5 harg5 arg6 harg6 x0 x1 x2 x3 x4).q3 :=
  (show (pt c arg2 harg2 arg3 harg3 arg4 harg4 arg5 harg5 arg6 harg6 x0 x1 x2 x3 x4).t3 = inverse (r_259 c arg2 harg2 arg3 harg3 arg5 harg5 arg6 harg6 x0 x1 x3 x4) by exact rfl).trans (by rw [sys3]; rfl)
/-- Batch 3's scores. -/
theorem sco3 : (pt c arg2 harg2 arg3 harg3 arg4 harg4 arg5 harg5 arg6 harg6 x0 x1 x2 x3 x4).p3 = (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k3 (pt c arg2 harg2 arg3 harg3 arg4 harg4 arg5 harg5 arg6 harg6 x0 x1 x2 x3 x4).q3 := by exact rfl

/-- The point is the one of its loads. -/
theorem pt_eq : pt c arg2 harg2 arg3 harg3 arg4 harg4 arg5 harg5 arg6 harg6 x0 x1 x2 x3 x4 = (loads arg2 harg2 arg3 harg3 arg4 harg4 arg5 harg5 arg6 harg6 x0 x1 x2 x3 x4).pt := by
  have hcu : (pt c arg2 harg2 arg3 harg3 arg4 harg4 arg5 harg5 arg6 harg6 x0 x1 x2 x3 x4).cu = (loads arg2 harg2 arg3 harg3 arg4 harg4 arg5 harg5 arg6 harg6 x0 x1 x2 x3 x4).pt.cu := by exact rfl
  have hcm : (pt c arg2 harg2 arg3 harg3 arg4 harg4 arg5 harg5 arg6 harg6 x0 x1 x2 x3 x4).cm = (loads arg2 harg2 arg3 harg3 arg4 harg4 arg5 harg5 arg6 harg6 x0 x1 x2 x3 x4).pt.cm := by exact rfl
  have hst : (pt c arg2 harg2 arg3 harg3 arg4 harg4 arg5 harg5 arg6 harg6 x0 x1 x2 x3 x4).st = (loads arg2 harg2 arg3 harg3 arg4 harg4 arg5 harg5 arg6 harg6 x0 x1 x2 x3 x4).pt.st := by exact rfl
  have hk0 : (pt c arg2 harg2 arg3 harg3 arg4 harg4 arg5 harg5 arg6 harg6 x0 x1 x2 x3 x4).k0 = (loads arg2 harg2 arg3 harg3 arg4 harg4 arg5 harg5 arg6 harg6 x0 x1 x2 x3 x4).pt.k0 := by exact rfl
  have hk1 : (pt c arg2 harg2 arg3 harg3 arg4 harg4 arg5 harg5 arg6 harg6 x0 x1 x2 x3 x4).k1 = (loads arg2 harg2 arg3 harg3 arg4 harg4 arg5 harg5 arg6 harg6 x0 x1 x2 x3 x4).pt.k1 := by exact rfl
  have hk2 : (pt c arg2 harg2 arg3 harg3 arg4 harg4 arg5 harg5 arg6 harg6 x0 x1 x2 x3 x4).k2 = (loads arg2 harg2 arg3 harg3 arg4 harg4 arg5 harg5 arg6 harg6 x0 x1 x2 x3 x4).pt.k2 := by exact rfl
  have hk3 : (pt c arg2 harg2 arg3 harg3 arg4 harg4 arg5 harg5 arg6 harg6 x0 x1 x2 x3 x4).k3 = (loads arg2 harg2 arg3 harg3 arg4 harg4 arg5 harg5 arg6 harg6 x0 x1 x2 x3 x4).pt.k3 := by exact rfl
  have hq0 : (pt c arg2 harg2 arg3 harg3 arg4 harg4 arg5 harg5 arg6 harg6 x0 x1 x2 x3 x4).q0 = (loads arg2 harg2 arg3 harg3 arg4 harg4 arg5 harg5 arg6 harg6 x0 x1 x2 x3 x4).pt.q0 := by exact rfl
  have hq1 : (pt c arg2 harg2 arg3 harg3 arg4 harg4 arg5 harg5 arg6 harg6 x0 x1 x2 x3 x4).q1 = (loads arg2 harg2 arg3 harg3 arg4 harg4 arg5 harg5 arg6 harg6 x0 x1 x2 x3 x4).pt.q1 := by exact rfl
  have hq2 : (pt c arg2 harg2 arg3 harg3 arg4 harg4 arg5 harg5 arg6 harg6 x0 x1 x2 x3 x4).q2 = (loads arg2 harg2 arg3 harg3 arg4 harg4 arg5 harg5 arg6 harg6 x0 x1 x2 x3 x4).pt.q2 := by exact rfl
  have hq3 : (pt c arg2 harg2 arg3 harg3 arg4 harg4 arg5 harg5 arg6 harg6 x0 x1 x2 x3 x4).q3 = (loads arg2 harg2 arg3 harg3 arg4 harg4 arg5 harg5 arg6 harg6 x0 x1 x2 x3 x4).pt.q3 := by exact rfl
  refine Pt.ext hq0 hq1 hq2 hq3 hk0 hk1 hk2 hk3 rfl rfl rfl rfl hcu hcm hst
    ((inv0 c arg2 harg2 arg3 harg3 arg4 harg4 arg5 harg5 arg6 harg6 x0 x1 x2 x3 x4).trans (by rw [hcu, hcm, hst, hk0, hq0]; rfl))
    ((inv1 c arg2 harg2 arg3 harg3 arg4 harg4 arg5 harg5 arg6 harg6 x0 x1 x2 x3 x4).trans (by rw [hcu, hcm, hst, hk1, hq1]; rfl))
    ((inv2 c arg2 harg2 arg3 harg3 arg4 harg4 arg5 harg5 arg6 harg6 x0 x1 x2 x3 x4).trans (by rw [hcu, hcm, hst, hk2, hq2]; rfl))
    ((inv3 c arg2 harg2 arg3 harg3 arg4 harg4 arg5 harg5 arg6 harg6 x0 x1 x2 x3 x4).trans (by rw [hcu, hcm, hst, hk3, hq3]; rfl))
    ((sco0 c arg2 harg2 arg3 harg3 arg4 harg4 arg5 harg5 arg6 harg6 x0 x1 x2 x3 x4).trans (by rw [hcu, hcm, hst, hk0, hq0]; rfl))
    ((sco1 c arg2 harg2 arg3 harg3 arg4 harg4 arg5 harg5 arg6 harg6 x0 x1 x2 x3 x4).trans (by rw [hcu, hcm, hst, hk1, hq1]; rfl))
    ((sco2 c arg2 harg2 arg3 harg3 arg4 harg4 arg5 harg5 arg6 harg6 x0 x1 x2 x3 x4).trans (by rw [hcu, hcm, hst, hk2, hq2]; rfl))
    ((sco3 c arg2 harg2 arg3 harg3 arg4 harg4 arg5 harg5 arg6 harg6 x0 x1 x2 x3 x4).trans (by rw [hcu, hcm, hst, hk3, hq3]; rfl))

end pt

section pieces
variable (c : Dev nD) (i : grid0.Coords) (arg2 : Memref sig .tc .vmem S4x1x128x256 .bf16) (harg2 : arg2.IsWhole) (arg3 : Memref sig .tc .vmem S4x1x128x256 .bf16) (harg3 : arg3.IsWhole) (arg4 : Memref sig .tc .vmem S4x1x128x512 .bf16) (harg4 : arg4.IsWhole) (arg5 : Memref sig .tc .vmem S1x4x128 .f32) (harg5 : arg5.IsWhole) (arg6 : Memref sig .tc .vmem S1x4x128 .f32) (harg6 : arg6.IsWhole) (arg7 : Memref sig .tc .vmem S4x1x256x512 .f32) (harg7 : arg7.IsWhole) (arg8 : Memref sig .tc .vmem S4x1x128x512 .bf16) (harg8 : arg8.IsWhole) (arg9 : Memref sig .tc .vmem S4x1x256x512 .f32) (harg9 : arg9.IsWhole) (arg10 : Memref sig .tc .vmem S4x1x128x256 .fp8e4m3) (harg10 : arg10.IsWhole) (arg11 : Memref sig .tc .vmem S1x4x128 .f32) (harg11 : arg11.IsWhole) (arg12 : Memref sig .tc .vmem S4x1x128x256 .fp8e4m3) (harg12 : arg12.IsWhole) (arg13 : Memref sig .tc .vmem S1x4x128 .f32) (harg13 : arg13.IsWhole) (arg14 : Memref sig .tc .vmem S4x256x512 .f32) (harg14 : arg14.IsWhole) (hc0 : cond0_0 i) (hc1 : ¬cond0_1 i)
  (x0 : Vec F S4x1x128x256 .bf16) (x1 : Vec F S4x1x128x256 .bf16) (x2 : Vec F S4x1x128x512 .bf16) (x3 : Vec F S1x4x128 .f32) (x4 : Vec F S1x4x128 .f32) (x5 : Vec F S4x1x256x512 .f32)

/-- The pieces stored into the output window. -/
theorem out_pieces : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).1 = piecesO (loads arg2 harg2 arg3 harg3 arg4 harg4 arg5 harg5 arg6 harg6 x0 x1 x2 x3 x4).pt
    (v2720 c arg7 harg7 arg14 x5) (v4497 c arg2 harg2 arg3 harg3 arg4 harg4 arg5 harg5 arg6 harg6 arg7 harg7 arg14 x0 x1 x2 x3 x4 x5) (v6274 c arg2 harg2 arg3 harg3 arg4 harg4 arg5 harg5 arg6 harg6 arg7 harg7 arg14 x0 x1 x2 x3 x4 x5) (v8051 c arg2 harg2 arg3 harg3 arg4 harg4 arg5 harg5 arg6 harg6 arg7 harg7 arg14 x0 x1 x2 x3 x4 x5) := by
  rw [← pt_eq c]; exact rfl
/-- The pieces stored into the window of key codes. -/
theorem kcodes_pieces : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.1 = piecesC (loads arg2 harg2 arg3 harg3 arg4 harg4 arg5 harg5 arg6 harg6 x0 x1 x2 x3 x4).pt.k0 (loads arg2 harg2 arg3 harg3 arg4 harg4 arg5 harg5 arg6 harg6 x0 x1 x2 x3 x4).pt.k1 (loads arg2 harg2 arg3 harg3 arg4 harg4 arg5 harg5 arg6 harg6 x0 x1 x2 x3 x4).pt.k2 (loads arg2 harg2 arg3 harg3 arg4 harg4 arg5 harg5 arg6 harg6 x0 x1 x2 x3 x4).pt.k3 := by
  rw [← pt_eq c]; exact rfl
/-- The piece stored into the window of key scales. -/
theorem kscales_piece : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.1 = pieceR (ksP (loads arg2 harg2 arg3 harg3 arg4 harg4 arg5 harg5 arg6 harg6 x0 x1 x2 x3 x4).pt.st) := by
  rw [← pt_eq c]; exact rfl
/-- The pieces stored into the window of query codes. -/
theorem qcodes_pieces : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.1 = piecesC (loads arg2 harg2 arg3 harg3 arg4 harg4 arg5 harg5 arg6 harg6 x0 x1 x2 x3 x4).pt.q0 (loads arg2 harg2 arg3 harg3 arg4 harg4 arg5 harg5 arg6 harg6 x0 x1 x2 x3 x4).pt.q1 (loads arg2 harg2 arg3 harg3 arg4 harg4 arg5 harg5 arg6 harg6 x0 x1 x2 x3 x4).pt.q2 (loads arg2 harg2 arg3 harg3 arg4 harg4 arg5 harg5 arg6 harg6 x0 x1 x2 x3 x4).pt.q3 := by
  rw [← pt_eq c]; exact rfl
/-- The piece stored into the window of query scales. -/
theorem qscales_piece : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.1 = pieceR (qsP (loads arg2 harg2 arg3 harg3 arg4 harg4 arg5 harg5 arg6 harg6 x0 x1 x2 x3 x4).pt.st) := by
  rw [← pt_eq c]; exact rfl
/-- The pieces stored into the carried state. -/
theorem state_pieces : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.2.1 = piecesS (loads arg2 harg2 arg3 harg3 arg4 harg4 arg5 harg5 arg6 harg6 x0 x1 x2 x3 x4).pt
    (v2720 c arg7 harg7 arg14 x5) (v4497 c arg2 harg2 arg3 harg3 arg4 harg4 arg5 harg5 arg6 harg6 arg7 harg7 arg14 x0 x1 x2 x3 x4 x5) (v6274 c arg2 harg2 arg3 harg3 arg4 harg4 arg5 harg5 arg6 harg6 arg7 harg7 arg14 x0 x1 x2 x3 x4 x5) (v8051 c arg2 harg2 arg3 harg3 arg4 harg4 arg5 harg5 arg6 harg6 arg7 harg7 arg14 x0 x1 x2 x3 x4 x5) ++ HS0_1 c arg7 harg7 x5 := by
  rw [← pt_eq c]; exact rfl

end pieces

end Cert.Blk.A

end
-- ==== Proof.LeavesA.lean ====
/- The first grid point of a head: what its windows and the carried state hold, as real numbers. -/
module

public import proofs.«01_k».proof.Proof.PointCases
public import proofs.«01_k».proof.Proof.TieA
public import proofs.«01_k».proof.Proof.Gen.KernelIdeal.Frame

@[expose] public section

set_option maxRecDepth 65536
set_option maxHeartbeats 400000

noncomputable section

namespace Cert.Blk.A

open Idealize.ShloMosaic Cert.Blk Cert.KernelIdeal Cert.KernelIdeal.Gen Idealize.ShloMosaic.Pointwise Cert.Quant

section
variable (c : Dev nD) (i : grid0.Coords) (arg2 : Memref sig .tc .vmem S4x1x128x256 .bf16) (harg2 : arg2.IsWhole) (arg3 : Memref sig .tc .vmem S4x1x128x256 .bf16) (harg3 : arg3.IsWhole) (arg4 : Memref sig .tc .vmem S4x1x128x512 .bf16) (harg4 : arg4.IsWhole) (arg5 : Memref sig .tc .vmem S1x4x128 .f32) (harg5 : arg5.IsWhole) (arg6 : Memref sig .tc .vmem S1x4x128 .f32) (harg6 : arg6.IsWhole) (arg7 : Memref sig .tc .vmem S4x1x256x512 .f32) (harg7 : arg7.IsWhole) (arg8 : Memref sig .tc .vmem S4x1x128x512 .bf16) (harg8 : arg8.IsWhole) (arg9 : Memref sig .tc .vmem S4x1x256x512 .f32) (harg9 : arg9.IsWhole) (arg10 : Memref sig .tc .vmem S4x1x128x256 .fp8e4m3) (harg10 : arg10.IsWhole) (arg11 : Memref sig .tc .vmem S1x4x128 .f32) (harg11 : arg11.IsWhole) (arg12 : Memref sig .tc .vmem S4x1x128x256 .fp8e4m3) (harg12 : arg12.IsWhole) (arg13 : Memref sig .tc .vmem S1x4x128 .f32) (harg13 : arg13.IsWhole) (arg14 : Memref sig .tc .vmem S4x256x512 .f32) (harg14 : arg14.IsWhole) (hc0 : cond0_0 i) (hc1 : ¬cond0_1 i)
  (x0 : Vec Ideal S4x1x128x256 .bf16) (x1 : Vec Ideal S4x1x128x256 .bf16) (x2 : Vec Ideal S4x1x128x512 .bf16) (x3 : Vec Ideal S1x4x128 .f32) (x4 : Vec Ideal S1x4x128 .f32) (x5 : Vec Ideal S4x1x256x512 .f32)
  {X Y : Fin 4 → Fin 128 → Fin 256 → ℝ} {V : Fin 4 → Fin 128 → Fin 512 → ℝ} {g B : Fin 4 → Fin 128 → ℝ} {S : Fin 4 → Fin 256 → Fin 512 → ℝ}

/-- Before its own store, a batch of the first point's carried state is the initial state's. -/
theorem first_at (hS : ∀ b a c, x5 (ix4 b 0 a c) = ((S b a c : ℝ) : EReal)) (b : Fin 4) (a : Fin 256) (k : Fin 512) :
    View.canon (Val := Elt Ideal) (kernelRun0_A.sl.HS0_1 c arg7 harg7 x5) (ix3 b a k) = ((S b a k : ℝ) : EReal) := by
  have e : View.canon (Val := Elt Ideal) (kernelRun0_A.sl.HS0_1 c arg7 harg7 x5) =
      k0_pay1 (arg7.view.readAt (Elt Ideal) (Rect.unit (s := S4x1x256x512) ![0, 0, 0, 0] S4x1x256x512.size inb_S4x1x256x512_S4x1x256x512_0_0_0_0).toLoadRect (harg7.unread x5)) :=
    View.canon_unit_zero zero3 _ _
  rw [e, View.readAt_eq_ld, harg7.read_unread, View.ld_unit_zero (S := S4x1x256x512) zero4]
  pointwise [k0_pay1]
  exact hS b a k

/-- The four batches' loads of the carried state are the initial state's. -/
theorem firsts (hS : ∀ b a c, x5 (ix4 b 0 a c) = ((S b a c : ℝ) : EReal)) :
    States (kernelRun0_A.sl.v2720 c arg7 harg7 arg14 x5) (kernelRun0_A.sl.v4497 c arg2 harg2 arg3 harg3 arg4 harg4 arg5 harg5 arg6 harg6 arg7 harg7 arg14 x0 x1 x2 x3 x4 x5) (kernelRun0_A.sl.v6274 c arg2 harg2 arg3 harg3 arg4 harg4 arg5 harg5 arg6 harg6 arg7 harg7 arg14 x0 x1 x2 x3 x4 x5) (kernelRun0_A.sl.v8051 c arg2 harg2 arg3 harg3 arg4 harg4 arg5 harg5 arg6 harg6 arg7 harg7 arg14 x0 x1 x2 x3 x4 x5) S := by
  have ex (b : Fin 4) (hb) (a : Fin 256) (k : Fin 512) :
      (Rect.unit (s := S4x256x512) ![b.val, 0, 0] S1x256x512.size hb).toLoadRect.idx (ix3 0 a k) = ix3 b a k := by
    funext d
    apply Fin.ext
    fin_cases d
    · show b.val + 1 * 0 = b.val
      omega
    · show 0 + 1 * a.val = a.val
      omega
    · show 0 + 1 * k.val = k.val
      omega
  refine ⟨fun a k => ?_, fun a k => ?_, fun a k => ?_, fun a k => ?_⟩
  · refine (congrFun (View.readCov_eq_canon' arg14.view _ _) _).trans ?_
    refine (congrArg _ (ex 0 _ a k)).trans ?_
    exact first_at c arg7 harg7 x5 hS 0 a k
  · refine (congrFun (View.readCov_eq_canon' arg14.view _ _) _).trans ?_
    refine (congrArg _ (ex 1 _ a k)).trans ?_
    refine (canon_miss 0 _ _ _ _ (by show (1 : ℕ) ≠ 0; decide)).trans ?_
    exact first_at c arg7 harg7 x5 hS 1 a k
  · refine (congrFun (View.readCov_eq_canon' arg14.view _ _) _).trans ?_
    refine (congrArg _ (ex 2 _ a k)).trans ?_
    refine (canon_miss 1 _ _ _ _ (by show (2 : ℕ) ≠ 1; decide)).trans ?_
    refine (canon_miss 0 _ _ _ _ (by show (2 : ℕ) ≠ 0; decide)).trans ?_
    exact first_at c arg7 harg7 x5 hS 2 a k
  · refine (congrFun (View.readCov_eq_canon' arg14.view _ _) _).trans ?_
    refine (congrArg _ (ex 3 _ a k)).trans ?_
    refine (canon_miss 2 _ _ _ _ (by show (3 : ℕ) ≠ 2; decide)).trans ?_
    refine (canon_miss 1 _ _ _ _ (by show (3 : ℕ) ≠ 1; decide)).trans ?_
    refine (canon_miss 0 _ _ _ _ (by show (3 : ℕ) ≠ 0; decide)).trans ?_
    exact first_at c arg7 harg7 x5 hS 3 a k

/-- What a point of case A leaves. -/
theorem leaves (h : Inputs x0 x1 x2 x3 x4 X Y V g B) (hS : ∀ b a c, x5 (ix4 b 0 a c) = ((S b a c : ℝ) : EReal)) :
    Leaves (out0_A_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5, out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5, out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5, out0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5, out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5, out0_A_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5, sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5) X Y V g B S := by
  have hl : Reals (loads arg2 harg2 arg3 harg3 arg4 harg4 arg5 harg5 arg6 harg6 x0 x1 x2 x3 x4) X Y V g B := Inputs.reals h arg2 harg2 arg3 harg3 arg4 harg4 arg5 harg5 arg6 harg6
  have hst : States _ _ _ _ S := firsts c arg2 harg2 arg3 harg3 arg4 harg4 arg5 harg5 arg6 harg6 arg7 harg7 arg14 x0 x1 x2 x3 x4 x5 hS
  refine ⟨?_, ?_, fun b i => ?_, ?_, fun b i => ?_, ?_⟩
  · dsimp only
    rw [out0_A_6, View.read_writes_junk_eq_canon, out_pieces]
    exact out_canon hl hst
  · dsimp only
    rw [out0_A_8, View.read_writes_junk_eq_canon, kcodes_pieces]
    exact kcodes_canon hl
  · dsimp only
    rw [out0_A_9, View.read_writes_junk_eq_canon, kscales_piece]
    exact kscales_at hl b i
  · dsimp only
    rw [out0_A_10, View.read_writes_junk_eq_canon, qcodes_pieces]
    exact qcodes_canon hl
  · dsimp only
    rw [out0_A_11, View.read_writes_junk_eq_canon, qscales_piece]
    exact qscales_at hl b i
  · dsimp only
    rw [sout0_A_0, View.read_writes_junk_eq_canon, state_pieces]
    exact (funext fun y => canon_append _ _ y (covers y)).trans (state_canon hl hst)

end

end Cert.Blk.A

end
-- ==== Proof.TieB.lean ====
/- Case B of a grid point: the generated run's stored pieces are the block functions at the point's loads. -/
module

public import proofs.«01_k».proof.Proof.Point
public import proofs.«01_k».proof.Proof.Gen.KernelIdeal.Frame.RunB

@[expose] public section

set_option maxRecDepth 65536
set_option maxHeartbeats 1000000

noncomputable section

namespace Cert.Blk.B

open Idealize.ShloMosaic Cert.KernelIdeal Cert.KernelIdeal.Gen Cert.KernelIdeal.Gen.kernelRun0_B.sl

variable {F : FTy → Type} [FloatOps F]

section pt
variable (c : Dev nD) (arg2 : Memref sig .tc .vmem S4x1x128x256 .bf16) (harg2 : arg2.IsWhole) (arg3 : Memref sig .tc .vmem S4x1x128x256 .bf16) (harg3 : arg3.IsWhole)
  (arg4 : Memref sig .tc .vmem S4x1x128x512 .bf16) (harg4 : arg4.IsWhole) (arg5 : Memref sig .tc .vmem S1x4x128 .f32) (harg5 : arg5.IsWhole)
  (arg6 : Memref sig .tc .vmem S1x4x128 .f32) (harg6 : arg6.IsWhole)
  (x0 x1 : Vec F S4x1x128x256 .bf16) (x2 : Vec F S4x1x128x512 .bf16) (x3 x4 : Vec F S1x4x128 .f32)

/-- The point, by the names of the generated run's values. -/
def pt : Pt F where
  q0 := r_10 c arg2 harg2 x0
  q1 := r_31 c arg2 harg2 x0
  q2 := r_51 c arg2 harg2 x0
  q3 := r_72 c arg2 harg2 x0
  k0 := r_2 c arg3 harg3 x1
  k1 := r_21 c arg3 harg3 x1
  k2 := r_41 c arg3 harg3 x1
  k3 := r_63 c arg3 harg3 x1
  v0 := (loads arg2 harg2 arg3 harg3 arg4 harg4 arg5 harg5 arg6 harg6 x0 x1 x2 x3 x4).v0
  v1 := (loads arg2 harg2 arg3 harg3 arg4 harg4 arg5 harg5 arg6 harg6 x0 x1 x2 x3 x4).v1
  v2 := (loads arg2 harg2 arg3 harg3 arg4 harg4 arg5 harg5 arg6 harg6 x0 x1 x2 x3 x4).v2
  v3 := (loads arg2 harg2 arg3 harg3 arg4 harg4 arg5 harg5 arg6 harg6 x0 x1 x2 x3 x4).v3
  cu := r c arg5 harg5 x3
  cm := r_1 c arg5 harg5 arg6 harg6 x3 x4
  st := r_83 c arg2 harg2 arg3 harg3 x0 x1
  t0 := double 64#32 128#32 (r_94 c arg2 harg2 arg3 harg3 arg5 harg5 arg6 harg6 x0 x1 x3 x4) (r_120 c arg2 harg2 arg3 harg3 arg5 harg5 arg6 harg6 x0 x1 x3 x4)
  t1 := r_184 c arg2 harg2 arg3 harg3 arg5 harg5 arg6 harg6 x0 x1 x3 x4
  t2 := double 64#32 128#32 (r_203 c arg2 harg2 arg3 harg3 arg5 harg5 arg6 harg6 x0 x1 x3 x4) (r_232 c arg2 harg2 arg3 harg3 arg5 harg5 arg6 harg6 x0 x1 x3 x4)
  t3 := r_302 c arg2 harg2 arg3 harg3 arg5 harg5 arg6 harg6 x0 x1 x3 x4
  p0 := r_95 c arg2 harg2 arg3 harg3 arg5 harg5 arg6 harg6 x0 x1 x3 x4
  p1 := r_147 c arg2 harg2 arg3 harg3 arg5 harg5 arg6 harg6 x0 x1 x3 x4
  p2 := r_204 c arg2 harg2 arg3 harg3 arg5 harg5 arg6 harg6 x0 x1 x3 x4
  p3 := r_260 c arg2 harg2 arg3 harg3 arg5 harg5 arg6 harg6 x0 x1 x3 x4

/-- Batch 0's system matrix. -/
theorem sys0 : r_94 c arg2 harg2 arg3 harg3 arg5 harg5 arg6 harg6 x0 x1 x3 x4 =
    sysA (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k0 (pt c arg2 harg2 arg3 harg3 arg4 harg4 arg5 harg5 arg6 harg6 x0 x1 x2 x3 x4).q0 := by exact rfl
/-- Its inverse. -/
theorem inv0 : (pt c arg2 harg2 arg3 harg3 arg4 harg4 arg5 harg5 arg6 harg6 x0 x1 x2 x3 x4).t0 = (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k0 (pt c arg2 harg2 arg3 harg3 arg4 harg4 arg5 harg5 arg6 harg6 x0 x1 x2 x3 x4).q0 :=
  (show (pt c arg2 harg2 arg3 harg3 arg4 harg4 arg5 harg5 arg6 harg6 x0 x1 x2 x3 x4).t0 = inverse (r_94 c arg2 harg2 arg3 harg3 arg5 harg5 arg6 harg6 x0 x1 x3 x4) by exact rfl).trans (by rw [sys0]; rfl)
/-- Batch 0's scores. -/
theorem sco0 : (pt c arg2 harg2 arg3 harg3 arg4 harg4 arg5 harg5 arg6 harg6 x0 x1 x2 x3 x4).p0 = (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k0 (pt c arg2 harg2 arg3 harg3 arg4 harg4 arg5 harg5 arg6 harg6 x0 x1 x2 x3 x4).q0 := by exact rfl

/-- Batch 1's system matrix. -/
theorem sys1 : r_146 c arg2 harg2 arg3 harg3 arg5 harg5 arg6 harg6 x0 x1 x3 x4 =
    sysA (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k1 (pt c arg2 harg2 arg3 harg3 arg4 harg4 arg5 harg5 arg6 harg6 x0 x1 x2 x3 x4).q1 := by exact rfl
/-- Its inverse. -/
theorem inv1 : (pt c arg2 harg2 arg3 harg3 arg4 harg4 arg5 harg5 arg6 harg6 x0 x1 x2 x3 x4).t1 = (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k1 (pt c arg2 harg2 arg3 harg3 arg4 harg4 arg5 harg5 arg6 harg6 x0 x1 x2 x3 x4).q1 :=
  (show (pt c arg2 harg2 arg3 harg3 arg4 harg4 arg5 harg5 arg6 harg6 x0 x1 x2 x3 x4).t1 = inverse (r_146 c arg2 harg2 arg3 harg3 arg5 harg5 arg6 harg6 x0 x1 x3 x4) by exact rfl).trans (by rw [sys1]; rfl)
/-- Batch 1's scores. -/
theorem sco1 : (pt c arg2 harg2 arg3 harg3 arg4 harg4 arg5 harg5 arg6 harg6 x0 x1 x2 x3 x4).p1 = (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k1 (pt c arg2 harg2 arg3 harg3 arg4 harg4 arg5 harg5 arg6 harg6 x0 x1 x2 x3 x4).q1 := by exact rfl

/-- Batch 2's system matrix. -/
theorem sys2 : r_203 c arg2 harg2 arg3 harg3 arg5 harg5 arg6 harg6 x0 x1 x3 x4 =
    sysA (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k2 (pt c arg2 harg2 arg3 harg3 arg4 harg4 arg5 harg5 arg6 harg6 x0 x1 x2 x3 x4).q2 := by exact rfl
/-- Its inverse. -/
theorem inv2 : (pt c arg2 harg2 arg3 harg3 arg4 harg4 arg5 harg5 arg6 harg6 x0 x1 x2 x3 x4).t2 = (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k2 (pt c arg2 harg2 arg3 harg3 arg4 harg4 arg5 harg5 arg6 harg6 x0 x1 x2 x3 x4).q2 :=
  (show (pt c arg2 harg2 arg3 harg3 arg4 harg4 arg5 harg5 arg6 harg6 x0 x1 x2 x3 x4).t2 = inverse (r_203 c arg2 harg2 arg3 harg3 arg5 harg5 arg6 harg6 x0 x1 x3 x4) by exact rfl).trans (by rw [sys2]; rfl)
/-- Batch 2's scores. -/
theorem sco2 : (pt c arg2 harg2 arg3 harg3 arg4 harg4 arg5 harg5 arg6 harg6 x0 x1 x2 x3 x4).p2 = (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k2 (pt c arg2 harg2 arg3 harg3 arg4 harg4 arg5 harg5 arg6 harg6 x0 x1 x2 x3 x4).q2 := by exact rfl

/-- Batch 3's system matrix. -/
theorem sys3 : r_259 c arg2 harg2 arg3 harg3 arg5 harg5 arg6 harg6 x0 x1 x3 x4 =
    sysA (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k3 (pt c arg2 harg2 arg3 harg3 arg4 harg4 arg5 harg5 arg6 harg6 x0 x1 x2 x3 x4).q3 := by exact rfl
/-- Its inverse. -/
theorem inv3 : (pt c arg2 harg2 arg3 harg3 arg4 harg4 arg5 harg5 arg6 harg6 x0 x1 x2 x3 x4).t3 = (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k3 (pt c arg2 harg2 arg3 harg3 arg4 harg4 arg5 harg5 arg6 harg6 x0 x1 x2 x3 x4).q3 :=
  (show (pt c arg2 harg2 arg3 harg3 arg4 harg4 arg5 harg5 arg6 harg6 x0 x1 x2 x3 x4).t3 = inverse (r_259 c arg2 harg2 arg3 harg3 arg5 harg5 arg6 harg6 x0 x1 x3 x4) by exact rfl).trans (by rw [sys3]; rfl)
/-- Batch 3's scores. -/
theorem sco3 : (pt c arg2 harg2 arg3 harg3 arg4 harg4 arg5 harg5 arg6 harg6 x0 x1 x2 x3 x4).p3 = (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k3 (pt c arg2 harg2 arg3 harg3 arg4 harg4 arg5 harg5 arg6 harg6 x0 x1 x2 x3 x4).q3 := by exact rfl

/-- The point is the one of its loads. -/
theorem pt_eq : pt c arg2 harg2 arg3 harg3 arg4 harg4 arg5 harg5 arg6 harg6 x0 x1 x2 x3 x4 = (loads arg2 harg2 arg3 harg3 arg4 harg4 arg5 harg5 arg6 harg6 x0 x1 x2 x3 x4).pt := by
  have hcu : (pt c arg2 harg2 arg3 harg3 arg4 harg4 arg5 harg5 arg6 harg6 x0 x1 x2 x3 x4).cu = (loads arg2 harg2 arg3 harg3 arg4 harg4 arg5 harg5 arg6 harg6 x0 x1 x2 x3 x4).pt.cu := by exact rfl
  have hcm : (pt c arg2 harg2 arg3 harg3 arg4 harg4 arg5 harg5 arg6 harg6 x0 x1 x2 x3 x4).cm = (loads arg2 harg2 arg3 harg3 arg4 harg4 arg5 harg5 arg6 harg6 x0 x1 x2 x3 x4).pt.cm := by exact rfl
  have hst : (pt c arg2 harg2 arg3 harg3 arg4 harg4 arg5 harg5 arg6 harg6 x0 x1 x2 x3 x4).st = (loads arg2 harg2 arg3 harg3 arg4 harg4 arg5 harg5 arg6 harg6 x0 x1 x2 x3 x4).pt.st := by exact rfl
  have hk0 : (pt c arg2 harg2 arg3 harg3 arg4 harg4 arg5 harg5 arg6 harg6 x0 x1 x2 x3 x4).k0 = (loads arg2 harg2 arg3 harg3 arg4 harg4 arg5 harg5 arg6 harg6 x0 x1 x2 x3 x4).pt.k0 := by exact rfl
  have hk1 : (pt c arg2 harg2 arg3 harg3 arg4 harg4 arg5 harg5 arg6 harg6 x0 x1 x2 x3 x4).k1 = (loads arg2 harg2 arg3 harg3 arg4 harg4 arg5 harg5 arg6 harg6 x0 x1 x2 x3 x4).pt.k1 := by exact rfl
  have hk2 : (pt c arg2 harg2 arg3 harg3 arg4 harg4 arg5 harg5 arg6 harg6 x0 x1 x2 x3 x4).k2 = (loads arg2 harg2 arg3 harg3 arg4 harg4 arg5 harg5 arg6 harg6 x0 x1 x2 x3 x4).pt.k2 := by exact rfl
  have hk3 : (pt c arg2 harg2 arg3 harg3 arg4 harg4 arg5 harg5 arg6 harg6 x0 x1 x2 x3 x4).k3 = (loads arg2 harg2 arg3 harg3 arg4 harg4 arg5 harg5 arg6 harg6 x0 x1 x2 x3 x4).pt.k3 := by exact rfl
  have hq0 : (pt c arg2 harg2 arg3 harg3 arg4 harg4 arg5 harg5 arg6 harg6 x0 x1 x2 x3 x4).q0 = (loads arg2 harg2 arg3 harg3 arg4 harg4 arg5 harg5 arg6 harg6 x0 x1 x2 x3 x4).pt.q0 := by exact rfl
  have hq1 : (pt c arg2 harg2 arg3 harg3 arg4 harg4 arg5 harg5 arg6 harg6 x0 x1 x2 x3 x4).q1 = (loads arg2 harg2 arg3 harg3 arg4 harg4 arg5 harg5 arg6 harg6 x0 x1 x2 x3 x4).pt.q1 := by exact rfl
  have hq2 : (pt c arg2 harg2 arg3 harg3 arg4 harg4 arg5 harg5 arg6 harg6 x0 x1 x2 x3 x4).q2 = (loads arg2 harg2 arg3 harg3 arg4 harg4 arg5 harg5 arg6 harg6 x0 x1 x2 x3 x4).pt.q2 := by exact rfl
  have hq3 : (pt c arg2 harg2 arg3 harg3 arg4 harg4 arg5 harg5 arg6 harg6 x0 x1 x2 x3 x4).q3 = (loads arg2 harg2 arg3 harg3 arg4 harg4 arg5 harg5 arg6 harg6 x0 x1 x2 x3 x4).pt.q3 := by exact rfl
  refine Pt.ext hq0 hq1 hq2 hq3 hk0 hk1 hk2 hk3 rfl rfl rfl rfl hcu hcm hst
    ((inv0 c arg2 harg2 arg3 harg3 arg4 harg4 arg5 harg5 arg6 harg6 x0 x1 x2 x3 x4).trans (by rw [hcu, hcm, hst, hk0, hq0]; rfl))
    ((inv1 c arg2 harg2 arg3 harg3 arg4 harg4 arg5 harg5 arg6 harg6 x0 x1 x2 x3 x4).trans (by rw [hcu, hcm, hst, hk1, hq1]; rfl))
    ((inv2 c arg2 harg2 arg3 harg3 arg4 harg4 arg5 harg5 arg6 harg6 x0 x1 x2 x3 x4).trans (by rw [hcu, hcm, hst, hk2, hq2]; rfl))
    ((inv3 c arg2 harg2 arg3 harg3 arg4 harg4 arg5 harg5 arg6 harg6 x0 x1 x2 x3 x4).trans (by rw [hcu, hcm, hst, hk3, hq3]; rfl))
    ((sco0 c arg2 harg2 arg3 harg3 arg4 harg4 arg5 harg5 arg6 harg6 x0 x1 x2 x3 x4).trans (by rw [hcu, hcm, hst, hk0, hq0]; rfl))
    ((sco1 c arg2 harg2 arg3 harg3 arg4 harg4 arg5 harg5 arg6 harg6 x0 x1 x2 x3 x4).trans (by rw [hcu, hcm, hst, hk1, hq1]; rfl))
    ((sco2 c arg2 harg2 arg3 harg3 arg4 harg4 arg5 harg5 arg6 harg6 x0 x1 x2 x3 x4).trans (by rw [hcu, hcm, hst, hk2, hq2]; rfl))
    ((sco3 c arg2 harg2 arg3 harg3 arg4 harg4 arg5 harg5 arg6 harg6 x0 x1 x2 x3 x4).trans (by rw [hcu, hcm, hst, hk3, hq3]; rfl))

end pt

section pieces
variable (c : Dev nD) (i : grid0.Coords) (arg2 : Memref sig .tc .vmem S4x1x128x256 .bf16) (harg2 : arg2.IsWhole) (arg3 : Memref sig .tc .vmem S4x1x128x256 .bf16) (harg3 : arg3.IsWhole) (arg4 : Memref sig .tc .vmem S4x1x128x512 .bf16) (harg4 : arg4.IsWhole) (arg5 : Memref sig .tc .vmem S1x4x128 .f32) (harg5 : arg5.IsWhole) (arg6 : Memref sig .tc .vmem S1x4x128 .f32) (harg6 : arg6.IsWhole) (arg7 : Memref sig .tc .vmem S4x1x256x512 .f32) (harg7 : arg7.IsWhole) (arg8 : Memref sig .tc .vmem S4x1x128x512 .bf16) (harg8 : arg8.IsWhole) (arg9 : Memref sig .tc .vmem S4x1x256x512 .f32) (harg9 : arg9.IsWhole) (arg10 : Memref sig .tc .vmem S4x1x128x256 .fp8e4m3) (harg10 : arg10.IsWhole) (arg11 : Memref sig .tc .vmem S1x4x128 .f32) (harg11 : arg11.IsWhole) (arg12 : Memref sig .tc .vmem S4x1x128x256 .fp8e4m3) (harg12 : arg12.IsWhole) (arg13 : Memref sig .tc .vmem S1x4x128 .f32) (harg13 : arg13.IsWhole) (arg14 : Memref sig .tc .vmem S4x256x512 .f32) (harg14 : arg14.IsWhole) (hc0 : ¬cond0_0 i) (hc1 : ¬cond0_1 i)
  (x0 : Vec F S4x1x128x256 .bf16) (x1 : Vec F S4x1x128x256 .bf16) (x2 : Vec F S4x1x128x512 .bf16) (x3 : Vec F S1x4x128 .f32) (x4 : Vec F S1x4x128 .f32) (x5 : Vec F S4x1x256x512 .f32) (xs0 : Vec F S4x256x512 .f32)

/-- The pieces stored into the output window. -/
theorem out_pieces : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).1 = piecesO (loads arg2 harg2 arg3 harg3 arg4 harg4 arg5 harg5 arg6 harg6 x0 x1 x2 x3 x4).pt
    (ldS 0 inb_S4x256x512_S1x256x512_0_0_0 arg14 harg14 xs0) (ldS 1 inb_S4x256x512_S1x256x512_1_0_0 arg14 harg14 xs0) (ldS 2 inb_S4x256x512_S1x256x512_2_0_0 arg14 harg14 xs0) (ldS 3 inb_S4x256x512_S1x256x512_3_0_0 arg14 harg14 xs0) := by
  rw [← pt_eq c]; exact rfl
/-- The pieces stored into the window of key codes. -/
theorem kcodes_pieces : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.1 = piecesC (loads arg2 harg2 arg3 harg3 arg4 harg4 arg5 harg5 arg6 harg6 x0 x1 x2 x3 x4).pt.k0 (loads arg2 harg2 arg3 harg3 arg4 harg4 arg5 harg5 arg6 harg6 x0 x1 x2 x3 x4).pt.k1 (loads arg2 harg2 arg3 harg3 arg4 harg4 arg5 harg5 arg6 harg6 x0 x1 x2 x3 x4).pt.k2 (loads arg2 harg2 arg3 harg3 arg4 harg4 arg5 harg5 arg6 harg6 x0 x1 x2 x3 x4).pt.k3 := by
  rw [← pt_eq c]; exact rfl
/-- The piece stored into the window of key scales. -/
theorem kscales_piece : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.2.1 = pieceR (ksP (loads arg2 harg2 arg3 harg3 arg4 harg4 arg5 harg5 arg6 harg6 x0 x1 x2 x3 x4).pt.st) := by
  rw [← pt_eq c]; exact rfl
/-- The pieces stored into the window of query codes. -/
theorem qcodes_pieces : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.2.2.1 = piecesC (loads arg2 harg2 arg3 harg3 arg4 harg4 arg5 harg5 arg6 harg6 x0 x1 x2 x3 x4).pt.q0 (loads arg2 harg2 arg3 harg3 arg4 harg4 arg5 harg5 arg6 harg6 x0 x1 x2 x3 x4).pt.q1 (loads arg2 harg2 arg3 harg3 arg4 harg4 arg5 harg5 arg6 harg6 x0 x1 x2 x3 x4).pt.q2 (loads arg2 harg2 arg3 harg3 arg4 harg4 arg5 harg5 arg6 harg6 x0 x1 x2 x3 x4).pt.q3 := by
  rw [← pt_eq c]; exact rfl
/-- The piece stored into the window of query scales. -/
theorem qscales_piece : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.2.2.2.1 = pieceR (qsP (loads arg2 harg2 arg3 harg3 arg4 harg4 arg5 harg5 arg6 harg6 x0 x1 x2 x3 x4).pt.st) := by
  rw [← pt_eq c]; exact rfl
/-- The pieces stored into the carried state. -/
theorem state_pieces : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.2.2.2.2.1 = piecesS (loads arg2 harg2 arg3 harg3 arg4 harg4 arg5 harg5 arg6 harg6 x0 x1 x2 x3 x4).pt
    (ldS 0 inb_S4x256x512_S1x256x512_0_0_0 arg14 harg14 xs0) (ldS 1 inb_S4x256x512_S1x256x512_1_0_0 arg14 harg14 xs0) (ldS 2 inb_S4x256x512_S1x256x512_2_0_0 arg14 harg14 xs0) (ldS 3 inb_S4x256x512_S1x256x512_3_0_0 arg14 harg14 xs0) := by
  rw [← pt_eq c]; exact rfl

end pieces

end Cert.Blk.B

end
-- ==== Proof.LeavesB.lean ====
/- A grid point in the middle of a head: what its windows and the carried state hold, as real numbers. -/
module

public import proofs.«01_k».proof.Proof.PointCases
public import proofs.«01_k».proof.Proof.TieB
public import proofs.«01_k».proof.Proof.Gen.KernelIdeal.Frame

@[expose] public section

set_option maxRecDepth 65536
set_option maxHeartbeats 400000

noncomputable section

namespace Cert.Blk.B

open Idealize.ShloMosaic Cert.Blk Cert.KernelIdeal Cert.KernelIdeal.Gen Idealize.ShloMosaic.Pointwise Cert.Quant

section
variable (c : Dev nD) (i : grid0.Coords) (arg2 : Memref sig .tc .vmem S4x1x128x256 .bf16) (harg2 : arg2.IsWhole) (arg3 : Memref sig .tc .vmem S4x1x128x256 .bf16) (harg3 : arg3.IsWhole) (arg4 : Memref sig .tc .vmem S4x1x128x512 .bf16) (harg4 : arg4.IsWhole) (arg5 : Memref sig .tc .vmem S1x4x128 .f32) (harg5 : arg5.IsWhole) (arg6 : Memref sig .tc .vmem S1x4x128 .f32) (harg6 : arg6.IsWhole) (arg7 : Memref sig .tc .vmem S4x1x256x512 .f32) (harg7 : arg7.IsWhole) (arg8 : Memref sig .tc .vmem S4x1x128x512 .bf16) (harg8 : arg8.IsWhole) (arg9 : Memref sig .tc .vmem S4x1x256x512 .f32) (harg9 : arg9.IsWhole) (arg10 : Memref sig .tc .vmem S4x1x128x256 .fp8e4m3) (harg10 : arg10.IsWhole) (arg11 : Memref sig .tc .vmem S1x4x128 .f32) (harg11 : arg11.IsWhole) (arg12 : Memref sig .tc .vmem S4x1x128x256 .fp8e4m3) (harg12 : arg12.IsWhole) (arg13 : Memref sig .tc .vmem S1x4x128 .f32) (harg13 : arg13.IsWhole) (arg14 : Memref sig .tc .vmem S4x256x512 .f32) (harg14 : arg14.IsWhole) (hc0 : ¬cond0_0 i) (hc1 : ¬cond0_1 i)
  (x0 : Vec Ideal S4x1x128x256 .bf16) (x1 : Vec Ideal S4x1x128x256 .bf16) (x2 : Vec Ideal S4x1x128x512 .bf16) (x3 : Vec Ideal S1x4x128 .f32) (x4 : Vec Ideal S1x4x128 .f32) (x5 : Vec Ideal S4x1x256x512 .f32) (xs0 : Vec Ideal S4x256x512 .f32)
  {X Y : Fin 4 → Fin 128 → Fin 256 → ℝ} {V : Fin 4 → Fin 128 → Fin 512 → ℝ} {g B : Fin 4 → Fin 128 → ℝ} {S : Fin 4 → Fin 256 → Fin 512 → ℝ}

/-- What a point of case B leaves. -/
theorem leaves (h : Inputs x0 x1 x2 x3 x4 X Y V g B) (hS : xs0 = fun y => ((S (y 0) (y 1) (y 2) : ℝ) : EReal)) :
    Leaves (out0_B_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, out0_B_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0) X Y V g B S := by
  have hl : Reals (loads arg2 harg2 arg3 harg3 arg4 harg4 arg5 harg5 arg6 harg6 x0 x1 x2 x3 x4) X Y V g B := Inputs.reals h arg2 harg2 arg3 harg3 arg4 harg4 arg5 harg5 arg6 harg6
  have hst : States (ldS 0 inb_S4x256x512_S1x256x512_0_0_0 arg14 harg14 xs0) (ldS 1 inb_S4x256x512_S1x256x512_1_0_0 arg14 harg14 xs0) (ldS 2 inb_S4x256x512_S1x256x512_2_0_0 arg14 harg14 xs0) (ldS 3 inb_S4x256x512_S1x256x512_3_0_0 arg14 harg14 xs0) S := ⟨fun a k => (ldS_at 0 _ arg14 harg14 xs0 a k).trans (congrFun hS _), fun a k => (ldS_at 1 _ arg14 harg14 xs0 a k).trans (congrFun hS _), fun a k => (ldS_at 2 _ arg14 harg14 xs0 a k).trans (congrFun hS _), fun a k => (ldS_at 3 _ arg14 harg14 xs0 a k).trans (congrFun hS _)⟩
  refine ⟨?_, ?_, fun b i => ?_, ?_, fun b i => ?_, ?_⟩
  · dsimp only
    rw [out0_B_6, View.read_writes_junk_eq_canon, out_pieces]
    exact out_canon hl hst
  · dsimp only
    rw [out0_B_8, View.read_writes_junk_eq_canon, kcodes_pieces]
    exact kcodes_canon hl
  · dsimp only
    rw [out0_B_9, View.read_writes_junk_eq_canon, kscales_piece]
    exact kscales_at hl b i
  · dsimp only
    rw [out0_B_10, View.read_writes_junk_eq_canon, qcodes_pieces]
    exact qcodes_canon hl
  · dsimp only
    rw [out0_B_11, View.read_writes_junk_eq_canon, qscales_piece]
    exact qscales_at hl b i
  · dsimp only
    rw [sout0_B_0, View.read_writes_junk_eq_canon, state_pieces]
    exact state_canon hl hst

end

end Cert.Blk.B

end
-- ==== Proof.TieC.lean ====
/- Case C of a grid point: the generated run's stored pieces are the block functions at the point's loads. -/
module

public import proofs.«01_k».proof.Proof.Point
public import proofs.«01_k».proof.Proof.Gen.KernelIdeal.Frame.RunC

@[expose] public section

set_option maxRecDepth 65536
set_option maxHeartbeats 1000000

noncomputable section

namespace Cert.Blk.C

open Idealize.ShloMosaic Cert.KernelIdeal Cert.KernelIdeal.Gen Cert.KernelIdeal.Gen.kernelRun0_C.sl

variable {F : FTy → Type} [FloatOps F]

section pt
variable (c : Dev nD) (arg2 : Memref sig .tc .vmem S4x1x128x256 .bf16) (harg2 : arg2.IsWhole) (arg3 : Memref sig .tc .vmem S4x1x128x256 .bf16) (harg3 : arg3.IsWhole)
  (arg4 : Memref sig .tc .vmem S4x1x128x512 .bf16) (harg4 : arg4.IsWhole) (arg5 : Memref sig .tc .vmem S1x4x128 .f32) (harg5 : arg5.IsWhole)
  (arg6 : Memref sig .tc .vmem S1x4x128 .f32) (harg6 : arg6.IsWhole)
  (x0 x1 : Vec F S4x1x128x256 .bf16) (x2 : Vec F S4x1x128x512 .bf16) (x3 x4 : Vec F S1x4x128 .f32)

/-- The point, by the names of the generated run's values. -/
def pt : Pt F where
  q0 := r_10 c arg2 harg2 x0
  q1 := r_31 c arg2 harg2 x0
  q2 := r_51 c arg2 harg2 x0
  q3 := r_72 c arg2 harg2 x0
  k0 := r_2 c arg3 harg3 x1
  k1 := r_21 c arg3 harg3 x1
  k2 := r_41 c arg3 harg3 x1
  k3 := r_63 c arg3 harg3 x1
  v0 := (loads arg2 harg2 arg3 harg3 arg4 harg4 arg5 harg5 arg6 harg6 x0 x1 x2 x3 x4).v0
  v1 := (loads arg2 harg2 arg3 harg3 arg4 harg4 arg5 harg5 arg6 harg6 x0 x1 x2 x3 x4).v1
  v2 := (loads arg2 harg2 arg3 harg3 arg4 harg4 arg5 harg5 arg6 harg6 x0 x1 x2 x3 x4).v2
  v3 := (loads arg2 harg2 arg3 harg3 arg4 harg4 arg5 harg5 arg6 harg6 x0 x1 x2 x3 x4).v3
  cu := r c arg5 harg5 x3
  cm := r_1 c arg5 harg5 arg6 harg6 x3 x4
  st := r_83 c arg2 harg2 arg3 harg3 x0 x1
  t0 := double 64#32 128#32 (r_94 c arg2 harg2 arg3 harg3 arg5 harg5 arg6 harg6 x0 x1 x3 x4) (r_120 c arg2 harg2 arg3 harg3 arg5 harg5 arg6 harg6 x0 x1 x3 x4)
  t1 := r_184 c arg2 harg2 arg3 harg3 arg5 harg5 arg6 harg6 x0 x1 x3 x4
  t2 := double 64#32 128#32 (r_203 c arg2 harg2 arg3 harg3 arg5 harg5 arg6 harg6 x0 x1 x3 x4) (r_232 c arg2 harg2 arg3 harg3 arg5 harg5 arg6 harg6 x0 x1 x3 x4)
  t3 := r_302 c arg2 harg2 arg3 harg3 arg5 harg5 arg6 harg6 x0 x1 x3 x4
  p0 := r_95 c arg2 harg2 arg3 harg3 arg5 harg5 arg6 harg6 x0 x1 x3 x4
  p1 := r_147 c arg2 harg2 arg3 harg3 arg5 harg5 arg6 harg6 x0 x1 x3 x4
  p2 := r_204 c arg2 harg2 arg3 harg3 arg5 harg5 arg6 harg6 x0 x1 x3 x4
  p3 := r_260 c arg2 harg2 arg3 harg3 arg5 harg5 arg6 harg6 x0 x1 x3 x4

/-- Batch 0's system matrix. -/
theorem sys0 : r_94 c arg2 harg2 arg3 harg3 arg5 harg5 arg6 harg6 x0 x1 x3 x4 =
    sysA (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k0 (pt c arg2 harg2 arg3 harg3 arg4 harg4 arg5 harg5 arg6 harg6 x0 x1 x2 x3 x4).q0 := by exact rfl
/-- Its inverse. -/
theorem inv0 : (pt c arg2 harg2 arg3 harg3 arg4 harg4 arg5 harg5 arg6 harg6 x0 x1 x2 x3 x4).t0 = (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k0 (pt c arg2 harg2 arg3 harg3 arg4 harg4 arg5 harg5 arg6 harg6 x0 x1 x2 x3 x4).q0 :=
  (show (pt c arg2 harg2 arg3 harg3 arg4 harg4 arg5 harg5 arg6 harg6 x0 x1 x2 x3 x4).t0 = inverse (r_94 c arg2 harg2 arg3 harg3 arg5 harg5 arg6 harg6 x0 x1 x3 x4) by exact rfl).trans (by rw [sys0]; rfl)
/-- Batch 0's scores. -/
theorem sco0 : (pt c arg2 harg2 arg3 harg3 arg4 harg4 arg5 harg5 arg6 harg6 x0 x1 x2 x3 x4).p0 = (rows0 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k0 (pt c arg2 harg2 arg3 harg3 arg4 harg4 arg5 harg5 arg6 harg6 x0 x1 x2 x3 x4).q0 := by exact rfl

/-- Batch 1's system matrix. -/
theorem sys1 : r_146 c arg2 harg2 arg3 harg3 arg5 harg5 arg6 harg6 x0 x1 x3 x4 =
    sysA (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k1 (pt c arg2 harg2 arg3 harg3 arg4 harg4 arg5 harg5 arg6 harg6 x0 x1 x2 x3 x4).q1 := by exact rfl
/-- Its inverse. -/
theorem inv1 : (pt c arg2 harg2 arg3 harg3 arg4 harg4 arg5 harg5 arg6 harg6 x0 x1 x2 x3 x4).t1 = (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k1 (pt c arg2 harg2 arg3 harg3 arg4 harg4 arg5 harg5 arg6 harg6 x0 x1 x2 x3 x4).q1 :=
  (show (pt c arg2 harg2 arg3 harg3 arg4 harg4 arg5 harg5 arg6 harg6 x0 x1 x2 x3 x4).t1 = inverse (r_146 c arg2 harg2 arg3 harg3 arg5 harg5 arg6 harg6 x0 x1 x3 x4) by exact rfl).trans (by rw [sys1]; rfl)
/-- Batch 1's scores. -/
theorem sco1 : (pt c arg2 harg2 arg3 harg3 arg4 harg4 arg5 harg5 arg6 harg6 x0 x1 x2 x3 x4).p1 = (rows1 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k1 (pt c arg2 harg2 arg3 harg3 arg4 harg4 arg5 harg5 arg6 harg6 x0 x1 x2 x3 x4).q1 := by exact rfl

/-- Batch 2's system matrix. -/
theorem sys2 : r_203 c arg2 harg2 arg3 harg3 arg5 harg5 arg6 harg6 x0 x1 x3 x4 =
    sysA (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k2 (pt c arg2 harg2 arg3 harg3 arg4 harg4 arg5 harg5 arg6 harg6 x0 x1 x2 x3 x4).q2 := by exact rfl
/-- Its inverse. -/
theorem inv2 : (pt c arg2 harg2 arg3 harg3 arg4 harg4 arg5 harg5 arg6 harg6 x0 x1 x2 x3 x4).t2 = (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k2 (pt c arg2 harg2 arg3 harg3 arg4 harg4 arg5 harg5 arg6 harg6 x0 x1 x2 x3 x4).q2 :=
  (show (pt c arg2 harg2 arg3 harg3 arg4 harg4 arg5 harg5 arg6 harg6 x0 x1 x2 x3 x4).t2 = inverse (r_203 c arg2 harg2 arg3 harg3 arg5 harg5 arg6 harg6 x0 x1 x3 x4) by exact rfl).trans (by rw [sys2]; rfl)
/-- Batch 2's scores. -/
theorem sco2 : (pt c arg2 harg2 arg3 harg3 arg4 harg4 arg5 harg5 arg6 harg6 x0 x1 x2 x3 x4).p2 = (rows2 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k2 (pt c arg2 harg2 arg3 harg3 arg4 harg4 arg5 harg5 arg6 harg6 x0 x1 x2 x3 x4).q2 := by exact rfl

/-- Batch 3's system matrix. -/
theorem sys3 : r_259 c arg2 harg2 arg3 harg3 arg5 harg5 arg6 harg6 x0 x1 x3 x4 =
    sysA (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gc (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).bc (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).gr (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).fr (pt c arg2 harg2 arg3 harg3 arg4 harg4 arg5 harg5 arg6 harg6 x0 x1 x2 x3 x4).k3 (pt c arg2 harg2 arg3 harg3 arg4 harg4 arg5 harg5 arg6 harg6 x0 x1 x2 x3 x4).q3 := by exact rfl
/-- Its inverse. -/
theorem inv3 : (pt c arg2 harg2 arg3 harg3 arg4 harg4 arg5 harg5 arg6 harg6 x0 x1 x2 x3 x4).t3 = (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).inv (pt c arg2 harg2 arg3 harg3 arg4 harg4 arg5 harg5 arg6 harg6 x0 x1 x2 x3 x4).k3 (pt c arg2 harg2 arg3 harg3 arg4 harg4 arg5 harg5 arg6 harg6 x0 x1 x2 x3 x4).q3 :=
  (show (pt c arg2 harg2 arg3 harg3 arg4 harg4 arg5 harg5 arg6 harg6 x0 x1 x2 x3 x4).t3 = inverse (r_259 c arg2 harg2 arg3 harg3 arg5 harg5 arg6 harg6 x0 x1 x3 x4) by exact rfl).trans (by rw [sys3]; rfl)
/-- Batch 3's scores. -/
theorem sco3 : (pt c arg2 harg2 arg3 harg3 arg4 harg4 arg5 harg5 arg6 harg6 x0 x1 x2 x3 x4).p3 = (rows3 (pt c arg2 harg2 arg3 harg3 arg4 harg4 arg5 harg5 arg6 harg6 x0 x1 x2 x3 x4).cu (pt c arg2 harg2 arg3 harg3 arg4 harg4 arg5 harg5 arg6 harg6 x0 x1 x2 x3 x4).cm (pt c arg2 harg2 arg3 harg3 arg4 harg4 arg5 harg5 arg6 harg6 x0 x1 x2 x3 x4).st).sco (pt c arg2 harg2 arg3 harg3 arg4 harg4 arg5 harg5 arg6 harg6 x0 x1 x2 x3 x4).k3 (pt c arg2 harg2 arg3 harg3 arg4 harg4 arg5 harg5 arg6 harg6 x0 x1 x2 x3 x4).q3 := by exact rfl

/-- The point is the one of its loads. -/
theorem pt_eq : pt c arg2 harg2 arg3 harg3 arg4 harg4 arg5 harg5 arg6 harg6 x0 x1 x2 x3 x4 = (loads arg2 harg2 arg3 harg3 arg4 harg4 arg5 harg5 arg6 harg6 x0 x1 x2 x3 x4).pt := by
  have hcu : (pt c arg2 harg2 arg3 harg3 arg4 harg4 arg5 harg5 arg6 harg6 x0 x1 x2 x3 x4).cu = (loads arg2 harg2 arg3 harg3 arg4 harg4 arg5 harg5 arg6 harg6 x0 x1 x2 x3 x4).pt.cu := by exact rfl
  have hcm : (pt c arg2 harg2 arg3 harg3 arg4 harg4 arg5 harg5 arg6 harg6 x0 x1 x2 x3 x4).cm = (loads arg2 harg2 arg3 harg3 arg4 harg4 arg5 harg5 arg6 harg6 x0 x1 x2 x3 x4).pt.cm := by exact rfl
  have hst : (pt c arg2 harg2 arg3 harg3 arg4 harg4 arg5 harg5 arg6 harg6 x0 x1 x2 x3 x4).st = (loads arg2 harg2 arg3 harg3 arg4 harg4 arg5 harg5 arg6 harg6 x0 x1 x2 x3 x4).pt.st := by exact rfl
  have hk0 : (pt c arg2 harg2 arg3 harg3 arg4 harg4 arg5 harg5 arg6 harg6 x0 x1 x2 x3 x4).k0 = (loads arg2 harg2 arg3 harg3 arg4 harg4 arg5 harg5 arg6 harg6 x0 x1 x2 x3 x4).pt.k0 := by exact rfl
  have hk1 : (pt c arg2 harg2 arg3 harg3 arg4 harg4 arg5 harg5 arg6 harg6 x0 x1 x2 x3 x4).k1 = (loads arg2 harg2 arg3 harg3 arg4 harg4 arg5 harg5 arg6 harg6 x0 x1 x2 x3 x4).pt.k1 := by exact rfl
  have hk2 : (pt c arg2 harg2 arg3 harg3 arg4 harg4 arg5 harg5 arg6 harg6 x0 x1 x2 x3 x4).k2 = (loads arg2 harg2 arg3 harg3 arg4 harg4 arg5 harg5 arg6 harg6 x0 x1 x2 x3 x4).pt.k2 := by exact rfl
  have hk3 : (pt c arg2 harg2 arg3 harg3 arg4 harg4 arg5 harg5 arg6 harg6 x0 x1 x2 x3 x4).k3 = (loads arg2 harg2 arg3 harg3 arg4 harg4 arg5 harg5 arg6 harg6 x0 x1 x2 x3 x4).pt.k3 := by exact rfl
  have hq0 : (pt c arg2 harg2 arg3 harg3 arg4 harg4 arg5 harg5 arg6 harg6 x0 x1 x2 x3 x4).q0 = (loads arg2 harg2 arg3 harg3 arg4 harg4 arg5 harg5 arg6 harg6 x0 x1 x2 x3 x4).pt.q0 := by exact rfl
  have hq1 : (pt c arg2 harg2 arg3 harg3 arg4 harg4 arg5 harg5 arg6 harg6 x0 x1 x2 x3 x4).q1 = (loads arg2 harg2 arg3 harg3 arg4 harg4 arg5 harg5 arg6 harg6 x0 x1 x2 x3 x4).pt.q1 := by exact rfl
  have hq2 : (pt c arg2 harg2 arg3 harg3 arg4 harg4 arg5 harg5 arg6 harg6 x0 x1 x2 x3 x4).q2 = (loads arg2 harg2 arg3 harg3 arg4 harg4 arg5 harg5 arg6 harg6 x0 x1 x2 x3 x4).pt.q2 := by exact rfl
  have hq3 : (pt c arg2 harg2 arg3 harg3 arg4 harg4 arg5 harg5 arg6 harg6 x0 x1 x2 x3 x4).q3 = (loads arg2 harg2 arg3 harg3 arg4 harg4 arg5 harg5 arg6 harg6 x0 x1 x2 x3 x4).pt.q3 := by exact rfl
  refine Pt.ext hq0 hq1 hq2 hq3 hk0 hk1 hk2 hk3 rfl rfl rfl rfl hcu hcm hst
    ((inv0 c arg2 harg2 arg3 harg3 arg4 harg4 arg5 harg5 arg6 harg6 x0 x1 x2 x3 x4).trans (by rw [hcu, hcm, hst, hk0, hq0]; rfl))
    ((inv1 c arg2 harg2 arg3 harg3 arg4 harg4 arg5 harg5 arg6 harg6 x0 x1 x2 x3 x4).trans (by rw [hcu, hcm, hst, hk1, hq1]; rfl))
    ((inv2 c arg2 harg2 arg3 harg3 arg4 harg4 arg5 harg5 arg6 harg6 x0 x1 x2 x3 x4).trans (by rw [hcu, hcm, hst, hk2, hq2]; rfl))
    ((inv3 c arg2 harg2 arg3 harg3 arg4 harg4 arg5 harg5 arg6 harg6 x0 x1 x2 x3 x4).trans (by rw [hcu, hcm, hst, hk3, hq3]; rfl))
    ((sco0 c arg2 harg2 arg3 harg3 arg4 harg4 arg5 harg5 arg6 harg6 x0 x1 x2 x3 x4).trans (by rw [hcu, hcm, hst, hk0, hq0]; rfl))
    ((sco1 c arg2 harg2 arg3 harg3 arg4 harg4 arg5 harg5 arg6 harg6 x0 x1 x2 x3 x4).trans (by rw [hcu, hcm, hst, hk1, hq1]; rfl))
    ((sco2 c arg2 harg2 arg3 harg3 arg4 harg4 arg5 harg5 arg6 harg6 x0 x1 x2 x3 x4).trans (by rw [hcu, hcm, hst, hk2, hq2]; rfl))
    ((sco3 c arg2 harg2 arg3 harg3 arg4 harg4 arg5 harg5 arg6 harg6 x0 x1 x2 x3 x4).trans (by rw [hcu, hcm, hst, hk3, hq3]; rfl))

end pt

section pieces
variable (c : Dev nD) (i : grid0.Coords) (arg2 : Memref sig .tc .vmem S4x1x128x256 .bf16) (harg2 : arg2.IsWhole) (arg3 : Memref sig .tc .vmem S4x1x128x256 .bf16) (harg3 : arg3.IsWhole) (arg4 : Memref sig .tc .vmem S4x1x128x512 .bf16) (harg4 : arg4.IsWhole) (arg5 : Memref sig .tc .vmem S1x4x128 .f32) (harg5 : arg5.IsWhole) (arg6 : Memref sig .tc .vmem S1x4x128 .f32) (harg6 : arg6.IsWhole) (arg7 : Memref sig .tc .vmem S4x1x256x512 .f32) (harg7 : arg7.IsWhole) (arg8 : Memref sig .tc .vmem S4x1x128x512 .bf16) (harg8 : arg8.IsWhole) (arg9 : Memref sig .tc .vmem S4x1x256x512 .f32) (harg9 : arg9.IsWhole) (arg10 : Memref sig .tc .vmem S4x1x128x256 .fp8e4m3) (harg10 : arg10.IsWhole) (arg11 : Memref sig .tc .vmem S1x4x128 .f32) (harg11 : arg11.IsWhole) (arg12 : Memref sig .tc .vmem S4x1x128x256 .fp8e4m3) (harg12 : arg12.IsWhole) (arg13 : Memref sig .tc .vmem S1x4x128 .f32) (harg13 : arg13.IsWhole) (arg14 : Memref sig .tc .vmem S4x256x512 .f32) (harg14 : arg14.IsWhole) (hc0 : ¬cond0_0 i) (hc1 : cond0_1 i)
  (x0 : Vec F S4x1x128x256 .bf16) (x1 : Vec F S4x1x128x256 .bf16) (x2 : Vec F S4x1x128x512 .bf16) (x3 : Vec F S1x4x128 .f32) (x4 : Vec F S1x4x128 .f32) (x5 : Vec F S4x1x256x512 .f32) (xs0 : Vec F S4x256x512 .f32)

/-- The pieces stored into the output window. -/
theorem out_pieces : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).1 = piecesO (loads arg2 harg2 arg3 harg3 arg4 harg4 arg5 harg5 arg6 harg6 x0 x1 x2 x3 x4).pt
    (ldS 0 inb_S4x256x512_S1x256x512_0_0_0 arg14 harg14 xs0) (ldS 1 inb_S4x256x512_S1x256x512_1_0_0 arg14 harg14 xs0) (ldS 2 inb_S4x256x512_S1x256x512_2_0_0 arg14 harg14 xs0) (ldS 3 inb_S4x256x512_S1x256x512_3_0_0 arg14 harg14 xs0) := by
  rw [← pt_eq c]; exact rfl
/-- The pieces stored into the window of key codes. -/
theorem kcodes_pieces : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.1 = piecesC (loads arg2 harg2 arg3 harg3 arg4 harg4 arg5 harg5 arg6 harg6 x0 x1 x2 x3 x4).pt.k0 (loads arg2 harg2 arg3 harg3 arg4 harg4 arg5 harg5 arg6 harg6 x0 x1 x2 x3 x4).pt.k1 (loads arg2 harg2 arg3 harg3 arg4 harg4 arg5 harg5 arg6 harg6 x0 x1 x2 x3 x4).pt.k2 (loads arg2 harg2 arg3 harg3 arg4 harg4 arg5 harg5 arg6 harg6 x0 x1 x2 x3 x4).pt.k3 := by
  rw [← pt_eq c]; exact rfl
/-- The piece stored into the window of key scales. -/
theorem kscales_piece : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.2.1 = pieceR (ksP (loads arg2 harg2 arg3 harg3 arg4 harg4 arg5 harg5 arg6 harg6 x0 x1 x2 x3 x4).pt.st) := by
  rw [← pt_eq c]; exact rfl
/-- The pieces stored into the window of query codes. -/
theorem qcodes_pieces : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.2.2.1 = piecesC (loads arg2 harg2 arg3 harg3 arg4 harg4 arg5 harg5 arg6 harg6 x0 x1 x2 x3 x4).pt.q0 (loads arg2 harg2 arg3 harg3 arg4 harg4 arg5 harg5 arg6 harg6 x0 x1 x2 x3 x4).pt.q1 (loads arg2 harg2 arg3 harg3 arg4 harg4 arg5 harg5 arg6 harg6 x0 x1 x2 x3 x4).pt.q2 (loads arg2 harg2 arg3 harg3 arg4 harg4 arg5 harg5 arg6 harg6 x0 x1 x2 x3 x4).pt.q3 := by
  rw [← pt_eq c]; exact rfl
/-- The piece stored into the window of query scales. -/
theorem qscales_piece : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.2.2.2.1 = pieceR (qsP (loads arg2 harg2 arg3 harg3 arg4 harg4 arg5 harg5 arg6 harg6 x0 x1 x2 x3 x4).pt.st) := by
  rw [← pt_eq c]; exact rfl
/-- The pieces stored into the carried state. -/
theorem state_pieces : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.2.2.2.2.1 = piecesS (loads arg2 harg2 arg3 harg3 arg4 harg4 arg5 harg5 arg6 harg6 x0 x1 x2 x3 x4).pt
    (ldS 0 inb_S4x256x512_S1x256x512_0_0_0 arg14 harg14 xs0) (ldS 1 inb_S4x256x512_S1x256x512_1_0_0 arg14 harg14 xs0) (ldS 2 inb_S4x256x512_S1x256x512_2_0_0 arg14 harg14 xs0) (ldS 3 inb_S4x256x512_S1x256x512_3_0_0 arg14 harg14 xs0) := by
  rw [← pt_eq c]; exact rfl

end pieces

end Cert.Blk.C

end
-- ==== Proof.LeavesC.lean ====
/- The last grid point of a head: what its windows and the carried state hold, as real numbers. -/
module

public import proofs.«01_k».proof.Proof.PointCases
public import proofs.«01_k».proof.Proof.TieC
public import proofs.«01_k».proof.Proof.Gen.KernelIdeal.Frame

@[expose] public section

set_option maxRecDepth 65536
set_option maxHeartbeats 400000

noncomputable section

namespace Cert.Blk.C

open Idealize.ShloMosaic Cert.Blk Cert.KernelIdeal Cert.KernelIdeal.Gen Idealize.ShloMosaic.Pointwise Cert.Quant

section
variable (c : Dev nD) (i : grid0.Coords) (arg2 : Memref sig .tc .vmem S4x1x128x256 .bf16) (harg2 : arg2.IsWhole) (arg3 : Memref sig .tc .vmem S4x1x128x256 .bf16) (harg3 : arg3.IsWhole) (arg4 : Memref sig .tc .vmem S4x1x128x512 .bf16) (harg4 : arg4.IsWhole) (arg5 : Memref sig .tc .vmem S1x4x128 .f32) (harg5 : arg5.IsWhole) (arg6 : Memref sig .tc .vmem S1x4x128 .f32) (harg6 : arg6.IsWhole) (arg7 : Memref sig .tc .vmem S4x1x256x512 .f32) (harg7 : arg7.IsWhole) (arg8 : Memref sig .tc .vmem S4x1x128x512 .bf16) (harg8 : arg8.IsWhole) (arg9 : Memref sig .tc .vmem S4x1x256x512 .f32) (harg9 : arg9.IsWhole) (arg10 : Memref sig .tc .vmem S4x1x128x256 .fp8e4m3) (harg10 : arg10.IsWhole) (arg11 : Memref sig .tc .vmem S1x4x128 .f32) (harg11 : arg11.IsWhole) (arg12 : Memref sig .tc .vmem S4x1x128x256 .fp8e4m3) (harg12 : arg12.IsWhole) (arg13 : Memref sig .tc .vmem S1x4x128 .f32) (harg13 : arg13.IsWhole) (arg14 : Memref sig .tc .vmem S4x256x512 .f32) (harg14 : arg14.IsWhole) (hc0 : ¬cond0_0 i) (hc1 : cond0_1 i)
  (x0 : Vec Ideal S4x1x128x256 .bf16) (x1 : Vec Ideal S4x1x128x256 .bf16) (x2 : Vec Ideal S4x1x128x512 .bf16) (x3 : Vec Ideal S1x4x128 .f32) (x4 : Vec Ideal S1x4x128 .f32) (x5 : Vec Ideal S4x1x256x512 .f32) (xs0 : Vec Ideal S4x256x512 .f32)
  {X Y : Fin 4 → Fin 128 → Fin 256 → ℝ} {V : Fin 4 → Fin 128 → Fin 512 → ℝ} {g B : Fin 4 → Fin 128 → ℝ} {S : Fin 4 → Fin 256 → Fin 512 → ℝ}

/-- What a point of case C leaves. -/
theorem leaves (h : Inputs x0 x1 x2 x3 x4 X Y V g B) (hS : xs0 = fun y => ((S (y 0) (y 1) (y 2) : ℝ) : EReal)) :
    Leaves (out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, out0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0, sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0) X Y V g B S := by
  have hl : Reals (loads arg2 harg2 arg3 harg3 arg4 harg4 arg5 harg5 arg6 harg6 x0 x1 x2 x3 x4) X Y V g B := Inputs.reals h arg2 harg2 arg3 harg3 arg4 harg4 arg5 harg5 arg6 harg6
  have hst : States (ldS 0 inb_S4x256x512_S1x256x512_0_0_0 arg14 harg14 xs0) (ldS 1 inb_S4x256x512_S1x256x512_1_0_0 arg14 harg14 xs0) (ldS 2 inb_S4x256x512_S1x256x512_2_0_0 arg14 harg14 xs0) (ldS 3 inb_S4x256x512_S1x256x512_3_0_0 arg14 harg14 xs0) S := ⟨fun a k => (ldS_at 0 _ arg14 harg14 xs0 a k).trans (congrFun hS _), fun a k => (ldS_at 1 _ arg14 harg14 xs0 a k).trans (congrFun hS _), fun a k => (ldS_at 2 _ arg14 harg14 xs0 a k).trans (congrFun hS _), fun a k => (ldS_at 3 _ arg14 harg14 xs0 a k).trans (congrFun hS _)⟩
  refine ⟨?_, ?_, fun b i => ?_, ?_, fun b i => ?_, ?_⟩
  · dsimp only
    rw [out0_C_6, View.read_writes_junk_eq_canon, out_pieces]
    exact out_canon hl hst
  · dsimp only
    rw [out0_C_8, View.read_writes_junk_eq_canon, kcodes_pieces]
    exact kcodes_canon hl
  · dsimp only
    rw [out0_C_9, View.read_writes_junk_eq_canon, kscales_piece]
    exact kscales_at hl b i
  · dsimp only
    rw [out0_C_10, View.read_writes_junk_eq_canon, qcodes_pieces]
    exact qcodes_canon hl
  · dsimp only
    rw [out0_C_11, View.read_writes_junk_eq_canon, qscales_piece]
    exact qscales_at hl b i
  · dsimp only
    rw [sout0_C_0, View.read_writes_junk_eq_canon, state_pieces]
    exact state_canon hl hst

/-- What the last point of a head leaves in the window of final states. -/
theorem final (h : Inputs x0 x1 x2 x3 x4 X Y V g B) (hS : xs0 = fun y => ((S (y 0) (y 1) (y 2) : ℝ) : EReal)) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 = fun y => ((nextB Y V g B S (y 0) (y 2) (y 3) : ℝ) : EReal) := by
  have hl : Reals (loads arg2 harg2 arg3 harg3 arg4 harg4 arg5 harg5 arg6 harg6 x0 x1 x2 x3 x4) X Y V g B := Inputs.reals h arg2 harg2 arg3 harg3 arg4 harg4 arg5 harg5 arg6 harg6
  have hst : States (ldS 0 inb_S4x256x512_S1x256x512_0_0_0 arg14 harg14 xs0) (ldS 1 inb_S4x256x512_S1x256x512_1_0_0 arg14 harg14 xs0) (ldS 2 inb_S4x256x512_S1x256x512_2_0_0 arg14 harg14 xs0) (ldS 3 inb_S4x256x512_S1x256x512_3_0_0 arg14 harg14 xs0) S := ⟨fun a k => (ldS_at 0 _ arg14 harg14 xs0 a k).trans (congrFun hS _), fun a k => (ldS_at 1 _ arg14 harg14 xs0 a k).trans (congrFun hS _), fun a k => (ldS_at 2 _ arg14 harg14 xs0 a k).trans (congrFun hS _), fun a k => (ldS_at 3 _ arg14 harg14 xs0 a k).trans (congrFun hS _)⟩
  refine (View.read_writes_junk_eq_canon _ _).trans ?_
  have e : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.1 = [⟨Rect.unit (s := S4x1x256x512) ![0, 0, 0, 0] S4x1x256x512.size inb_S4x1x256x512_S4x1x256x512_0_0_0_0,
      k0_pay645 (arg14.view.readCov (Val := Elt Ideal) (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0).2.2.2.2.2.2.1 (Rect.unit (s := S4x256x512) ![0, 0, 0] S4x256x512.size inb_S4x256x512_S4x256x512_0_0_0).toLoadRect)⟩] := by exact rfl
  rw [e, View.canon_unit_zero zero4, View.readCov_eq_canon', state_pieces]
  have e2 := state_canon hl hst
  funext y
  obtain ⟨b, a, k, rfl⟩ : ∃ (b : Fin 4) (a : Fin 256) (k : Fin 512), y = ix4 b 0 a k := by
    refine ⟨y 0, y 2, y 3, ?_⟩
    funext d
    apply Fin.ext
    have h1 : (y 1).val < 1 := (y 1).isLt
    fin_cases d
    · rfl
    · show (y 1).val = 0
      omega
    · rfl
    · rfl
  pointwise [k0_pay645]
  exact congrFun e2 (ix3 b a k)

end

end Cert.Blk.C

end
-- ==== Proof.Grid.lean ====
/- The kernel's grid: after each point its windows hold the rule's values for the point's block of tokens, and the carried
   state is the rule's state after that block. -/
module

public import proofs.«01_k».proof.Proof.Spec
public import proofs.«01_k».proof.Proof.LeavesA
public import proofs.«01_k».proof.Proof.LeavesB
public import proofs.«01_k».proof.Proof.LeavesC
public import proofs.«01_k».proof.Proof.Gen.KernelIdeal.Value

@[expose] public section

set_option maxRecDepth 65536
set_option maxHeartbeats 400000

noncomputable section

namespace Cert.Grid

open Idealize.ShloMosaic Idealize.ShloMosaic.TcCoe Cert.KernelIdeal Cert.KernelIdeal.Gen Idealize.ShloMosaic.Pointwise Cert.Quant Cert.Blk Cert.Spec

/-- The real inputs of block `n` of head `h`. -/
def X (N : Nums) (h : Fin 6) (n : ℕ) (b : Fin 4) (i : Fin 128) : Fin 256 → ℝ := N.q b (128 * n + i.val) h
def Y (N : Nums) (h : Fin 6) (n : ℕ) (b : Fin 4) (i : Fin 128) : Fin 256 → ℝ := N.k b (128 * n + i.val) h
def Vv (N : Nums) (h : Fin 6) (n : ℕ) (b : Fin 4) (i : Fin 128) : Fin 512 → ℝ := N.v b (128 * n + i.val) h
def gg (N : Nums) (h : Fin 6) (n : ℕ) (b : Fin 4) (i : Fin 128) : ℝ := N.g b (128 * n + i.val) h
def bb (N : Nums) (h : Fin 6) (n : ℕ) (b : Fin 4) (i : Fin 128) : ℝ := N.β b (128 * n + i.val) h
/-- The states that block starts from. -/
def S (N : Nums) (h : Fin 6) (n : ℕ) (b : Fin 4) : Fin 256 → Fin 512 → ℝ := st N b h (128 * n)

/-- The running decay of a block is the decay of its tokens. -/
theorem runG_eq (N : Nums) (h : Fin 6) (n : ℕ) (b : Fin 4) (i : Fin 128) :
    runG (gg N h n b) i = Delta.decay (fun t => N.g b t h) (128 * n) (i.val + 1) := by
  unfold runG Delta.decay
  rw [← sum_lt (i.val + 1) (by omega)]
  refine Finset.sum_congr rfl fun j _ => ?_
  unfold gg
  by_cases hj : j.val ≤ i.val
  · rw [if_pos hj, if_pos (by omega), mul_one]
  · rw [if_neg hj, if_neg (by omega), mul_zero]

theorem tokens (N : Nums) (h : Fin 6) (n : ℕ) (b : Fin 4) :
    Tokens (fun t => N.g b t h) (fun t => N.β b t h) (kn N b h) (qn N b h) (fun t => N.v b t h) (N.s b h) (128 * n)
      (runG (gg N h n b)) (bb N h n b) (facK (Y N h n b)) (facQ (X N h n b)) (fun i => codeR (Y N h n b i)) (fun i => codeR (X N h n b i))
      (S N h n b) (Vv N h n b) :=
  ⟨runG_eq N h n b, fun _ => rfl, fun _ _ => rfl, fun _ _ => rfl, fun _ _ => rfl, fun _ _ => rfl⟩

theorem outB_eq (N : Nums) (h : Fin 6) (n : ℕ) (b : Fin 4) (i : Fin 128) (c : Fin 512) :
    outB (X N h n) (Y N h n) (Vv N h n) (gg N h n) (bb N h n) (S N h n) b i c = out N b h (128 * n + i.val) c :=
  (tokens N h n b).out i c

theorem nextB_eq (N : Nums) (h : Fin 6) (n : ℕ) (b : Fin 4) (a : Fin 256) (c : Fin 512) :
    nextB (Y N h n) (Vv N h n) (gg N h n) (bb N h n) (S N h n) b a c = st N b h (128 * n + 128) a c :=
  (tokens N h n b).next a c

/-! ### The input blocks -/

variable (m : (ℓ : Loc nD τ sig) → Buf (Elt Ideal) ℓ) (c : Dev nD)

/-- The arguments hold the real numbers `N`. -/
def HoldsK (N : Nums) : Prop :=
  Holds N (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem V0_eq : V m c main_v0 = transpose S4x6x3072x256 [0, 2, 1, 3] (m ((c : Thread nD τ).loc main_arg0)) transposes_S4x3072x6x256_S4x6x3072x256_0_2_1_3 := by
  unfold V
  after_results
theorem V1_eq : V m c main_v1 = transpose S4x6x3072x256 [0, 2, 1, 3] (m ((c : Thread nD τ).loc main_arg1)) transposes_S4x3072x6x256_S4x6x3072x256_0_2_1_3 := by
  unfold V
  after_results
theorem V2_eq : V m c main_v2 = transpose S4x6x3072x512 [0, 2, 1, 3] (m ((c : Thread nD τ).loc main_arg2)) transposes_S4x3072x6x512_S4x6x3072x512_0_2_1_3 := by
  unfold V
  after_results
theorem V3_eq : V m c main_v3 = transpose S6x4x3072 [2, 0, 1] (m ((c : Thread nD τ).loc main_arg3)) transposes_S4x3072x6_S6x4x3072_2_0_1 := by
  unfold V
  after_results
theorem V4_eq : V m c main_v4 = transpose S6x4x3072 [2, 0, 1] (m ((c : Thread nD τ).loc main_arg4)) transposes_S4x3072x6_S6x4x3072_2_0_1 := by
  unfold V
  after_results

theorem idx0 : ∀ t : Fin cfg0.N, win0_0.index t (0 : Fin 4) = 0 ∧ win0_0.index t (1 : Fin 4) = t.val / 24 ∧ win0_0.index t (2 : Fin 4) = t.val % 24 ∧ win0_0.index t (3 : Fin 4) = 0 :=
  (by decide +kernel : ∀ t : Fin grid0.N, _)
theorem idx1 : ∀ t : Fin cfg0.N, win0_1.index t (0 : Fin 4) = 0 ∧ win0_1.index t (1 : Fin 4) = t.val / 24 ∧ win0_1.index t (2 : Fin 4) = t.val % 24 ∧ win0_1.index t (3 : Fin 4) = 0 :=
  (by decide +kernel : ∀ t : Fin grid0.N, _)
theorem idx2 : ∀ t : Fin cfg0.N, win0_2.index t (0 : Fin 4) = 0 ∧ win0_2.index t (1 : Fin 4) = t.val / 24 ∧ win0_2.index t (2 : Fin 4) = t.val % 24 ∧ win0_2.index t (3 : Fin 4) = 0 :=
  (by decide +kernel : ∀ t : Fin grid0.N, _)
theorem idx3 : ∀ t : Fin cfg0.N, win0_3.index t (0 : Fin 3) = t.val / 24 ∧ win0_3.index t (1 : Fin 3) = 0 ∧ win0_3.index t (2 : Fin 3) = t.val % 24 :=
  (by decide +kernel : ∀ t : Fin grid0.N, _)
theorem idx4 : ∀ t : Fin cfg0.N, win0_4.index t (0 : Fin 3) = t.val / 24 ∧ win0_4.index t (1 : Fin 3) = 0 ∧ win0_4.index t (2 : Fin 3) = t.val % 24 :=
  (by decide +kernel : ∀ t : Fin grid0.N, _)
theorem idx5 : ∀ t : Fin cfg0.N, win0_5.index t (0 : Fin 4) = 0 ∧ win0_5.index t (1 : Fin 4) = t.val / 24 ∧ win0_5.index t (2 : Fin 4) = 0 ∧ win0_5.index t (3 : Fin 4) = 0 :=
  (by decide +kernel : ∀ t : Fin grid0.N, _)

theorem t_lt (t : Fin cfg0.N) : t.val < 144 := lt_of_lt_of_eq t.isLt N_0
/-- A point's head and the tokens of its block. -/
def hd (t : Fin cfg0.N) : Fin 6 := ⟨t.val / 24, by have := t_lt t; omega⟩
def tk (t : Fin cfg0.N) (i : Fin 128) : Fin 3072 := ⟨128 * (t.val % 24) + i.val, by omega⟩

/-- A heads-first block holds its tokens. -/
theorem blk0_at (t : Fin cfg0.N) (b : Fin 4) (i : Fin 128) (k : Fin 256) :
    (iblk m c 0 t : Vec Ideal S4x1x128x256 .bf16) (ix4 b 0 i k) = m ((c : Thread nD τ).loc main_arg0) (ix4 b (tk t i) (hd t) k) := by
  obtain ⟨e0, e1, e2, e3⟩ := idx0 t
  have e : (iblk m c 0 t : Vec Ideal S4x1x128x256 .bf16) (ix4 b 0 i k) = V m c main_v0 (ix4 b (hd t) (tk t i) k) := by
    unfold iblk
    rw [View.read_apply]
    show V m c main_v0 _ = V m c main_v0 _
    congr 1
    funext a
    apply Fin.ext
    fin_cases a
    · show win0_0.index t (0 : Fin 4) * 4 + 1 * b.val = b.val
      omega
    · show win0_0.index t (1 : Fin 4) * 1 + 1 * 0 = t.val / 24
      omega
    · show win0_0.index t (2 : Fin 4) * 128 + 1 * i.val = 128 * (t.val % 24) + i.val
      omega
    · show win0_0.index t (3 : Fin 4) * 256 + 1 * k.val = k.val
      omega
  rw [e, V0_eq]
  pointwise []

theorem blk1_at (t : Fin cfg0.N) (b : Fin 4) (i : Fin 128) (k : Fin 256) :
    (iblk m c 1 t : Vec Ideal S4x1x128x256 .bf16) (ix4 b 0 i k) = m ((c : Thread nD τ).loc main_arg1) (ix4 b (tk t i) (hd t) k) := by
  obtain ⟨e0, e1, e2, e3⟩ := idx1 t
  have e : (iblk m c 1 t : Vec Ideal S4x1x128x256 .bf16) (ix4 b 0 i k) = V m c main_v1 (ix4 b (hd t) (tk t i) k) := by
    unfold iblk
    rw [View.read_apply]
    show V m c main_v1 _ = V m c main_v1 _
    congr 1
    funext a
    apply Fin.ext
    fin_cases a
    · show win0_1.index t (0 : Fin 4) * 4 + 1 * b.val = b.val
      omega
    · show win0_1.index t (1 : Fin 4) * 1 + 1 * 0 = t.val / 24
      omega
    · show win0_1.index t (2 : Fin 4) * 128 + 1 * i.val = 128 * (t.val % 24) + i.val
      omega
    · show win0_1.index t (3 : Fin 4) * 256 + 1 * k.val = k.val
      omega
  rw [e, V1_eq]
  pointwise []

theorem blk2_at (t : Fin cfg0.N) (b : Fin 4) (i : Fin 128) (k : Fin 512) :
    (iblk m c 2 t : Vec Ideal S4x1x128x512 .bf16) (ix4 b 0 i k) = m ((c : Thread nD τ).loc main_arg2) (ix4 b (tk t i) (hd t) k) := by
  obtain ⟨e0, e1, e2, e3⟩ := idx2 t
  have e : (iblk m c 2 t : Vec Ideal S4x1x128x512 .bf16) (ix4 b 0 i k) = V m c main_v2 (ix4 b (hd t) (tk t i) k) := by
    unfold iblk
    rw [View.read_apply]
    show V m c main_v2 _ = V m c main_v2 _
    congr 1
    funext a
    apply Fin.ext
    fin_cases a
    · show win0_2.index t (0 : Fin 4) * 4 + 1 * b.val = b.val
      omega
    · show win0_2.index t (1 : Fin 4) * 1 + 1 * 0 = t.val / 24
      omega
    · show win0_2.index t (2 : Fin 4) * 128 + 1 * i.val = 128 * (t.val % 24) + i.val
      omega
    · show win0_2.index t (3 : Fin 4) * 512 + 1 * k.val = k.val
      omega
  rw [e, V2_eq]
  pointwise []

theorem blk3_at (t : Fin cfg0.N) (b : Fin 4) (i : Fin 128) :
    (iblk m c 3 t : Vec Ideal S1x4x128 .f32) (ix3 0 b i) = m ((c : Thread nD τ).loc main_arg3) (ix3 b (tk t i) (hd t)) := by
  obtain ⟨e0, e1, e2⟩ := idx3 t
  have e : (iblk m c 3 t : Vec Ideal S1x4x128 .f32) (ix3 0 b i) = V m c main_v3 (ix3 (hd t) b (tk t i)) := by
    unfold iblk
    rw [View.read_apply]
    show V m c main_v3 _ = V m c main_v3 _
    congr 1
    funext a
    apply Fin.ext
    fin_cases a
    · show win0_3.index t (0 : Fin 3) * 1 + 1 * 0 = t.val / 24
      omega
    · show win0_3.index t (1 : Fin 3) * 4 + 1 * b.val = b.val
      omega
    · show win0_3.index t (2 : Fin 3) * 128 + 1 * i.val = 128 * (t.val % 24) + i.val
      omega
  rw [e, V3_eq]
  pointwise []

theorem blk4_at (t : Fin cfg0.N) (b : Fin 4) (i : Fin 128) :
    (iblk m c 4 t : Vec Ideal S1x4x128 .f32) (ix3 0 b i) = m ((c : Thread nD τ).loc main_arg4) (ix3 b (tk t i) (hd t)) := by
  obtain ⟨e0, e1, e2⟩ := idx4 t
  have e : (iblk m c 4 t : Vec Ideal S1x4x128 .f32) (ix3 0 b i) = V m c main_v4 (ix3 (hd t) b (tk t i)) := by
    unfold iblk
    rw [View.read_apply]
    show V m c main_v4 _ = V m c main_v4 _
    congr 1
    funext a
    apply Fin.ext
    fin_cases a
    · show win0_4.index t (0 : Fin 3) * 1 + 1 * 0 = t.val / 24
      omega
    · show win0_4.index t (1 : Fin 3) * 4 + 1 * b.val = b.val
      omega
    · show win0_4.index t (2 : Fin 3) * 128 + 1 * i.val = 128 * (t.val % 24) + i.val
      omega
  rw [e, V4_eq]
  pointwise []

theorem blk5_at (t : Fin cfg0.N) (b : Fin 4) (a : Fin 256) (k : Fin 512) :
    (iblk m c 5 t : Vec Ideal S4x1x256x512 .f32) (ix4 b 0 a k) = m ((c : Thread nD τ).loc main_arg5) (ix4 b (hd t) a k) := by
  obtain ⟨e0, e1, e2, e3⟩ := idx5 t
  rw [← V_main_arg5 m c]
  unfold iblk
  rw [View.read_apply]
  show V m c main_arg5 _ = V m c main_arg5 _
  congr 1
  funext d
  apply Fin.ext
  fin_cases d
  · show win0_5.index t (0 : Fin 4) * 4 + 1 * b.val = b.val
    omega
  · show win0_5.index t (1 : Fin 4) * 1 + 1 * 0 = t.val / 24
    omega
  · show win0_5.index t (2 : Fin 4) * 256 + 1 * a.val = a.val
    omega
  · show win0_5.index t (3 : Fin 4) * 512 + 1 * k.val = k.val
    omega

variable {m c} {N : Nums}

/-- A point's input blocks hold the real numbers of its block of tokens. -/
theorem inputs (H : HoldsK m c N) (t : Fin cfg0.N) :
    Inputs (iblk m c 0 t) (iblk m c 1 t) (iblk m c 2 t) (iblk m c 3 t) (iblk m c 4 t)
      (X N (hd t) (t.val % 24)) (Y N (hd t) (t.val % 24)) (Vv N (hd t) (t.val % 24)) (gg N (hd t) (t.val % 24)) (bb N (hd t) (t.val % 24)) where
  q := fun b i k => (blk0_at m c t b i k).trans (H.q b (tk t i) (hd t) k)
  k := fun b i k => (blk1_at m c t b i k).trans (H.k b (tk t i) (hd t) k)
  v := fun b i k => (blk2_at m c t b i k).trans (H.v b (tk t i) (hd t) k)
  g := fun b i => (blk3_at m c t b i).trans (H.g b (tk t i) (hd t))
  b := fun b i => (blk4_at m c t b i).trans (H.b b (tk t i) (hd t))
  okq := fun b i => H.okq b (tk t i) (hd t)
  okk := fun b i => H.okk b (tk t i) (hd t)

/-- What a point leaves, stated of its own tokens and start. -/
def At (m : (ℓ : Loc nD τ sig) → Buf (Elt Ideal) ℓ) (c : Dev nD) (N : Nums) (t : Fin cfg0.N) : Prop :=
  Leaves (outsAt0 m c t.val t.isLt) (X N (hd t) (t.val % 24)) (Y N (hd t) (t.val % 24)) (Vv N (hd t) (t.val % 24)) (gg N (hd t) (t.val % 24)) (bb N (hd t) (t.val % 24))
    (S N (hd t) (t.val % 24))

/-- The state carried into a point that is not its head's first. -/
theorem carried (t t' : Fin cfg0.N) (h0 : ¬t.val % 24 = 0) (ht : t.val = t'.val + 1) (h : At m c N t') :
    (outsAt0 m c t'.val t'.isLt).2.2.2.2.2.2 = fun y => ((S N (hd t) (t.val % 24) (y 0) (y 1) (y 2) : ℝ) : EReal) := by
  refine h.st.trans (funext fun y => congrArg _ ?_)
  refine (nextB_eq N (hd t') (t'.val % 24) (y 0) (y 1) (y 2)).trans ?_
  have e1 : hd t' = hd t := Fin.ext (show t'.val / 24 = t.val / 24 by omega)
  have e2 : 128 * (t'.val % 24) + 128 = 128 * (t.val % 24) := by omega
  rw [e1, e2]
  rfl

/-- A head's first point. -/
theorem first (H : HoldsK m c N) (t : Fin cfg0.N) (h0 : t.val % 24 = 0) : At m c N t := by
  unfold At
  rw [outsAt0_A m c t h0 (by omega)]
  refine Cert.Blk.A.leaves c (grid0.coords t) _ _ _ _ _ _ _ _ _ _ _ _ _ _ _ _ _ _ _ _ _ _ _ _ _ _ _ _ _ _ _ _ _ _ (inputs H t) ?_
  intro b a k
  refine (blk5_at m c t b a k).trans ((H.s b (hd t) a k).trans (congrArg _ ?_))
  rw [h0]
  rfl

/-- A point that is not its head's first, given the point before it. -/
theorem later (H : HoldsK m c N) (t t' : Fin cfg0.N) (ht : t.val = t'.val + 1) (h0 : ¬t.val % 24 = 0) (h : At m c N t') : At m c N t := by
  unfold At
  have hc := carried t t' h0 ht h
  obtain rfl : t' = ⟨t.val - 1, Nat.lt_of_le_of_lt (Nat.sub_le _ _) t.isLt⟩ := Fin.ext (by show t'.val = t.val - 1; omega)
  by_cases h1 : t.val % 24 = 23
  · rw [outsAt0_C m c t h0 h1]
    exact Cert.Blk.C.leaves c (grid0.coords t) _ _ _ _ _ _ _ _ _ _ _ _ _ _ _ _ _ _ _ _ _ _ _ _ _ _ _ _ _ _ _ _ _ _ _ (inputs H t) hc
  · rw [outsAt0_B m c t h0 h1]
    exact Cert.Blk.B.leaves c (grid0.coords t) _ _ _ _ _ _ _ _ _ _ _ _ _ _ _ _ _ _ _ _ _ _ _ _ _ _ _ _ _ _ _ _ _ _ _ (inputs H t) hc

/-- Every point leaves the rule's values for its block. -/
theorem all (H : HoldsK m c N) : ∀ (n : ℕ) (hn : n < cfg0.N), At m c N ⟨n, hn⟩ := by
  intro n
  induction n with
  | zero => exact fun hn => first H _ (Nat.zero_mod _)
  | succ n ih =>
    intro hn
    by_cases h0 : (n + 1) % 24 = 0
    · exact first H _ h0
    · exact later H _ ⟨n, Nat.lt_of_succ_lt hn⟩ rfl h0 (ih _)

/-- A head's last point leaves its final state. -/
theorem last (H : HoldsK m c N) (t : Fin cfg0.N) (h1 : t.val % 24 = 23) :
    (outsAt0 m c t.val t.isLt).2.1 = fun y => ((st N (y 0) (hd t) 3072 (y 2) (y 3) : ℝ) : EReal) := by
  have h0 : ¬t.val % 24 = 0 := by omega
  have hc := carried t ⟨t.val - 1, Nat.lt_of_le_of_lt (Nat.sub_le _ _) t.isLt⟩ h0 (by show t.val = t.val - 1 + 1; omega) (all H _ _)
  rw [outsAt0_C m c t h0 h1]
  dsimp only
  refine (Cert.Blk.C.final c (grid0.coords t) _ _ _ _ _ _ _ _ _ _ _ _ _ _ _ _ _ _ _ _ _ _ _ _ _ _ _ _ _ _ _ _ _ _ _ (inputs H t) hc).trans (funext fun y => congrArg _ ?_)
  refine (nextB_eq N (hd t) (t.val % 24) (y 0) (y 2) (y 3)).trans ?_
  rw [h1]

/-! ### The arrays after the run -/

open Cert.KernelIdeal.Value

theorem out_congr {b b' : Fin 4} {h h' : Fin 6} {t t' : ℕ} {k k' : Fin 512} (hb : b.val = b'.val) (hh : h.val = h'.val) (ht : t = t') (hk : k.val = k'.val) :
    out N b h t k = out N b' h' t' k' := by
  obtain rfl := Fin.ext hb
  obtain rfl := Fin.ext hh
  obtain rfl := Fin.ext hk
  subst ht
  rfl

theorem st_congr {b b' : Fin 4} {h h' : Fin 6} {a a' : Fin 256} {k k' : Fin 512} (t : ℕ) (hb : b.val = b'.val) (hh : h.val = h'.val) (ha : a.val = a'.val) (hk : k.val = k'.val) :
    st N b h t a k = st N b' h' t a' k' := by
  obtain rfl := Fin.ext hb
  obtain rfl := Fin.ext hh
  obtain rfl := Fin.ext hk
  obtain rfl := Fin.ext ha
  rfl

theorem tok_congr {α : Type} (f : Fin 4 → ℕ → Fin 6 → α) {b b' : Fin 4} {h h' : Fin 6} {t t' : ℕ} (hb : b.val = b'.val) (ht : t = t') (hh : h.val = h'.val) :
    f b t h = f b' t' h' := by
  obtain rfl := Fin.ext hb
  obtain rfl := Fin.ext hh
  subst ht
  rfl

/-- The outputs. -/
theorem G6_at (H : HoldsK m c N) (b : Fin 4) (h : Fin 6) (t : Fin 3072) (k : Fin 512) : G6 m c (ix4 b h t k) = ((out N b h t.val k : ℝ) : EReal) := by
  have hp : pt6Of (ix4 b h t k) = 24 * h.val + t.val / 128 := by
    show 144 * (b.val / 4 - 0) + 24 * (h.val / 1 - 0) + 1 * (t.val / 128 - 0) + 1 * (k.val / 512 - 0) = _
    omega
  have hlt : pt6Of (ix4 b h t k) < cfg0.N := by rw [hp]; exact lt_of_lt_of_eq (by omega) N_0.symm
  unfold G6
  rw [dif_pos hlt, ← outsAt0_sweep m c _ hlt, (all H _ hlt).out]
  refine congrArg _ ((outB_eq N _ _ _ _ _).trans (out_congr ?_ ?_ ?_ ?_))
  · show b.val % 4 = b.val
    omega
  · show pt6Of (ix4 b h t k) / 24 = h.val
    omega
  · show 128 * (pt6Of (ix4 b h t k) % 24) + t.val % 128 = t.val
    omega
  · show k.val % 512 = k.val
    omega

/-- The final states. -/
theorem G7_at (H : HoldsK m c N) (b : Fin 4) (h : Fin 6) (a : Fin 256) (k : Fin 512) : G7 m c (ix4 b h a k) = ((st N b h 3072 a k : ℝ) : EReal) := by
  have hp : pt7Of (ix4 b h a k) = 24 * h.val + 23 := by
    show 24 * (6 * (b.val / 4 - 0) + 1 * (h.val / 1 - 0) + 1 * (a.val / 256 - 0) + 1 * (k.val / 512 - 0)) + 23 = _
    omega
  have hlt : pt7Of (ix4 b h a k) < cfg0.N := by rw [hp]; exact lt_of_lt_of_eq (by omega) N_0.symm
  unfold G7
  rw [dif_pos hlt, ← outsAt0_sweep m c _ hlt, last H ⟨_, hlt⟩ (by show pt7Of (ix4 b h a k) % 24 = 23; omega)]
  refine congrArg _ (st_congr 3072 ?_ ?_ ?_ ?_)
  · show b.val % 4 = b.val
    omega
  · show pt7Of (ix4 b h a k) / 24 = h.val
    omega
  · show a.val % 256 = a.val
    omega
  · show k.val % 512 = k.val
    omega

/-- The key codes. -/
theorem G8_at (H : HoldsK m c N) (b : Fin 4) (h : Fin 6) (t : Fin 3072) (k : Fin 256) : G8 m c (ix4 b h t k) = ((codeR (N.k b t.val h) k : ℝ) : EReal) := by
  have hp : pt8Of (ix4 b h t k) = 24 * h.val + t.val / 128 := by
    show 144 * (b.val / 4 - 0) + 24 * (h.val / 1 - 0) + 1 * (t.val / 128 - 0) + 1 * (k.val / 256 - 0) = _
    omega
  have hlt : pt8Of (ix4 b h t k) < cfg0.N := by rw [hp]; exact lt_of_lt_of_eq (by omega) N_0.symm
  unfold G8
  rw [dif_pos hlt, ← outsAt0_sweep m c _ hlt, (all H _ hlt).kc]
  refine congrArg _ (congr (congrArg codeR (tok_congr N.k ?_ ?_ ?_)) (Fin.ext ?_))
  · show b.val % 4 = b.val
    omega
  · show 128 * (pt8Of (ix4 b h t k) % 24) + t.val % 128 = t.val
    omega
  · show pt8Of (ix4 b h t k) / 24 = h.val
    omega
  · show k.val % 256 = k.val
    omega

/-- The query codes. -/
theorem G10_at (H : HoldsK m c N) (b : Fin 4) (h : Fin 6) (t : Fin 3072) (k : Fin 256) : G10 m c (ix4 b h t k) = ((codeR (N.q b t.val h) k : ℝ) : EReal) := by
  have hp : pt10Of (ix4 b h t k) = 24 * h.val + t.val / 128 := by
    show 144 * (b.val / 4 - 0) + 24 * (h.val / 1 - 0) + 1 * (t.val / 128 - 0) + 1 * (k.val / 256 - 0) = _
    omega
  have hlt : pt10Of (ix4 b h t k) < cfg0.N := by rw [hp]; exact lt_of_lt_of_eq (by omega) N_0.symm
  unfold G10
  rw [dif_pos hlt, ← outsAt0_sweep m c _ hlt, (all H _ hlt).qc]
  refine congrArg _ (congr (congrArg codeR (tok_congr N.q ?_ ?_ ?_)) (Fin.ext ?_))
  · show b.val % 4 = b.val
    omega
  · show 128 * (pt10Of (ix4 b h t k) % 24) + t.val % 128 = t.val
    omega
  · show pt10Of (ix4 b h t k) / 24 = h.val
    omega
  · show k.val % 256 = k.val
    omega

/-- The key scales. -/
theorem G9_at (H : HoldsK m c N) (h : Fin 6) (b : Fin 4) (t : Fin 3072) : G9 m c (ix3 h b t) = ((scaleR (N.k b t.val h) : ℝ) : EReal) := by
  have hp : pt9Of (ix3 h b t) = 24 * h.val + t.val / 128 := by
    show 24 * (h.val / 1 - 0) + 24 * (b.val / 4 - 0) + 1 * (t.val / 128 - 0) = _
    omega
  have hlt : pt9Of (ix3 h b t) < cfg0.N := by rw [hp]; exact lt_of_lt_of_eq (by omega) N_0.symm
  have hl : loc9Of (ix3 h b t) = ix3 0 b ⟨t.val % 128, Nat.mod_lt _ (by decide)⟩ := by
    funext d
    apply Fin.ext
    fin_cases d
    · show h.val % 1 = 0
      omega
    · show b.val % 4 = b.val
      omega
    · rfl
  unfold G9
  rw [dif_pos hlt, ← outsAt0_sweep m c _ hlt, hl, (all H _ hlt).ks]
  refine congrArg _ (congrArg scaleR (tok_congr N.k rfl ?_ ?_))
  · show 128 * (pt9Of (ix3 h b t) % 24) + t.val % 128 = t.val
    omega
  · show pt9Of (ix3 h b t) / 24 = h.val
    omega

/-- The query scales. -/
theorem G11_at (H : HoldsK m c N) (h : Fin 6) (b : Fin 4) (t : Fin 3072) : G11 m c (ix3 h b t) = ((scaleR (N.q b t.val h) : ℝ) : EReal) := by
  have hp : pt11Of (ix3 h b t) = 24 * h.val + t.val / 128 := by
    show 24 * (h.val / 1 - 0) + 24 * (b.val / 4 - 0) + 1 * (t.val / 128 - 0) = _
    omega
  have hlt : pt11Of (ix3 h b t) < cfg0.N := by rw [hp]; exact lt_of_lt_of_eq (by omega) N_0.symm
  have hl : loc11Of (ix3 h b t) = ix3 0 b ⟨t.val % 128, Nat.mod_lt _ (by decide)⟩ := by
    funext d
    apply Fin.ext
    fin_cases d
    · show h.val % 1 = 0
      omega
    · show b.val % 4 = b.val
      omega
    · rfl
  unfold G11
  rw [dif_pos hlt, ← outsAt0_sweep m c _ hlt, hl, (all H _ hlt).qs]
  refine congrArg _ (congrArg scaleR (tok_congr N.q rfl ?_ ?_))
  · show 128 * (pt11Of (ix3 h b t) % 24) + t.val % 128 = t.val
    omega
  · show pt11Of (ix3 h b t) / 24 = h.val
    omega

end Cert.Grid

end
-- ==== Proof.RefFn.lean ====
/- The reference's host arithmetic as functions of its arguments: the quantiser and the normalisation, and what each holds at
   an index, in real numbers. -/
module

public import proofs.«01_k».proof.Proof.Spec
public import proofs.«01_k».proof.Proof.Gen.ReferenceIdeal

@[expose] public section

set_option maxRecDepth 16384

noncomputable section

namespace Cert.RefFn

open Idealize.ShloMosaic Cert.ReferenceIdeal Cert.ReferenceIdeal.Gen Cert.ReferenceIdeal.Facts Cert.Quant Cert.Blk

attribute [local instance] Cert.ReferenceIdeal.Gen.facts

/-- Each token's largest absolute value. -/
def amaxT (x : FVec Ideal S4x3072x6x256 .f32) : FVec Ideal S4x3072x6 .f32 :=
  Host.reduce FloatOps.maximumf (Host.absf x) (constant S_ .f32 0xFF800000#32) reducesTo_S4x3072x6x256_S4x3072x6_d3 h_S_
/-- The powers of two the scale is searched among. -/
def powT : FVec Ideal S253 .f32 :=
  Host.powf (broadcastInDim S253 ![] bcast_S_S253 (constant S_ .f32 0x40000000#32))
    (sitofp .f32 (addi (broadcastInDim S253 ![] bcast_S_S253 (constantI S_ 32 4294967171#32)) (iotaInDim S253 32 0)))
/-- Each token's power where it lies above max|x| / 448, infinity elsewhere. -/
def candT (a : FVec Ideal S4x3072x6 .f32) : FVec Ideal S4x3072x6x253 .f32 :=
  select (cmpf .ogt (broadcastInDim S4x3072x6x253 ![0, 1, 2, 3] bcast_S1x1x1x253_S4x3072x6x253_0_1_2_3 (broadcastInDim S1x1x1x253 ![3] bcast_S253_S1x1x1x253_3 powT))
      (broadcastInDim S4x3072x6x253 ![0, 1, 2, 3] bcast_S4x3072x6x1_S4x3072x6x253_0_1_2_3 (broadcastInDim S4x3072x6x1 ![0, 1, 2] bcast_S4x3072x6_S4x3072x6x1_0_1_2
        (mulf a (broadcastInDim S4x3072x6 ![] bcast_S_S4x3072x6 (constant S_ .f32 0x3B124925#32))))))
    (broadcastInDim S4x3072x6x253 ![3] bcast_S253_S4x3072x6x253_3 powT)
    (broadcastInDim S4x3072x6x253 ![] bcast_S_S4x3072x6x253 (constant S_ .f32 0x7F800000#32))
/-- Each token's scale. -/
def scaleT (x : FVec Ideal S4x3072x6x256 .f32) : FVec Ideal S4x3072x6 .f32 :=
  select (cmpf .oeq (amaxT x) (broadcastInDim S4x3072x6 ![] bcast_S_S4x3072x6 (constant S_ .f32 0x00000000#32)))
    (broadcastInDim S4x3072x6 ![] bcast_S_S4x3072x6 (constant S_ .f32 0x3F800000#32))
    (Host.reduce FloatOps.minimumf (candT (amaxT x)) (constant S_ .f32 0x7F800000#32) reducesTo_S4x3072x6x253_S4x3072x6_d3 h_S_)
/-- A number per token over the token's lanes. -/
def lanesT (a : FVec Ideal S4x3072x6 .f32) : FVec Ideal S4x3072x6x256 .f32 :=
  broadcastInDim S4x3072x6x256 ![0, 1, 2, 3] bcast_S4x3072x6x1_S4x3072x6x256_0_1_2_3 (broadcastInDim S4x3072x6x1 ![0, 1, 2] bcast_S4x3072x6_S4x3072x6x1_0_1_2 a)
/-- Each token's codes before their format's rounding. -/
def codeT (x : FVec Ideal S4x3072x6x256 .f32) : FVec Ideal S4x3072x6x256 .f32 :=
  minimumf (broadcastInDim S4x3072x6x256 ![] bcast_S_S4x3072x6x256 (constant S_ .f32 0x43E00000#32))
    (maximumf (broadcastInDim S4x3072x6x256 ![] bcast_S_S4x3072x6x256 (constant S_ .f32 0xC3E00000#32))
      (mulf x (lanesT (Host.divf (broadcastInDim S4x3072x6 ![] bcast_S_S4x3072x6 (constant S_ .f32 0x3F800000#32)) (scaleT x)))))
/-- One over each token's norm. -/
def normT (x : FVec Ideal S4x3072x6x256 .f32) : FVec Ideal S4x3072x6 .f32 :=
  Host.divf (broadcastInDim S4x3072x6 ![] bcast_S_S4x3072x6 (constant S_ .f32 0x3F800000#32))
    (Host.sqrt (addf (Host.reduceAdd (mulf x x) (constant S_ .f32 0x00000000#32) reducesTo_S4x3072x6x256_S4x3072x6_d3 h_S_)
      (broadcastInDim S4x3072x6 ![] bcast_S_S4x3072x6 (constant S_ .f32 0x358637BD#32))))
/-- The tokens normalised, from the codes `d`. -/
def unitT (x d : FVec Ideal S4x3072x6x256 .f32) : FVec Ideal S4x3072x6x256 .f32 :=
  mulf (mulf d (lanesT (scaleT x))) (lanesT (normT x))

variable {x : FVec Ideal S4x3072x6x256 .f32} {b : Fin 4} {t : Fin 3072} {h : Fin 6} {X : Fin 256 → ℝ}

theorem amaxT_at (hx : ∀ k, x (ix4 b t h k) = ((X k : ℝ) : EReal)) : amaxT x (ix3 b t h) = ((top X : ℝ) : EReal) := by
  pointwise [amaxT]
  exact fold_top hx

theorem two_coe : Ideal.ofBits .f32 0x40000000#32 = ((2 : ℝ) : EReal) := by
  simp [Ideal.ofBits, Ideal.ieee]
  norm_num
  rw [← EReal.coe_mul]
  norm_num

theorem pow_word : ∀ j : Fin 253, (IntOp.addi (4294967171#32) (BitVec.ofNat 32 j.val)).toInt = (j.val : ℤ) - 125 := by
  decide +kernel

/-- The power at position `j`. -/
theorem powT_at (j : Fin 253) : powT (ix1 j) = (((2 : ℝ) ^ ((j.val : ℤ) - 125) : ℝ) : EReal) := by
  pointwise [powT]
  rw [two_coe]
  have e : FloatOps.sitofp (F := Ideal) .f32 (IntOp.addi (4294967171#32) (BitVec.ofNat 32 j.val)) = ((((j.val : ℤ) - 125 : ℤ) : ℝ) : EReal) :=
    congrArg (fun z : ℤ => ((z : ℝ) : EReal)) (pow_word j)
  rw [e]
  show ((Real.rpow 2 _ : ℝ) : EReal) = _
  exact congrArg _ (Real.rpow_intCast 2 _)

theorem alongLast (p : FVec Ideal S253 .f32) (j : Fin 253) : broadcastInDim S4x3072x6x253 ![3] bcast_S253_S4x3072x6x253_3 p (ix4 b t h j) = p (ix1 j) := by
  pointwise []
theorem alongLast' (p : FVec Ideal S253 .f32) (j : Fin 253) :
    broadcastInDim S4x3072x6x253 ![0, 1, 2, 3] bcast_S1x1x1x253_S4x3072x6x253_0_1_2_3 (broadcastInDim S1x1x1x253 ![3] bcast_S253_S1x1x1x253_3 p) (ix4 b t h j) = p (ix1 j) := by
  pointwise []
theorem perToken (a : FVec Ideal S4x3072x6 .f32) (j : Fin 253) :
    broadcastInDim S4x3072x6x253 ![0, 1, 2, 3] bcast_S4x3072x6x1_S4x3072x6x253_0_1_2_3 (broadcastInDim S4x3072x6x1 ![0, 1, 2] bcast_S4x3072x6_S4x3072x6x1_0_1_2 a) (ix4 b t h j) = a (ix3 b t h) := by
  pointwise []
theorem lanesT_at (a : FVec Ideal S4x3072x6 .f32) (k : Fin 256) : lanesT a (ix4 b t h k) = a (ix3 b t h) := by
  pointwise [lanesT]

theorem select_gt {S : Shape} (P Y A B : FVec Ideal S .f32) (i : S.Idx) : select (cmpf .ogt P Y) A B i = if Y i < P i then A i else B i := by
  show Scalar.select (BitVec.ofBool (decide (Y i < P i))) _ _ = _
  by_cases hc : Y i < P i
  · rw [decide_eq_true hc, if_pos hc]; rfl
  · rw [decide_eq_false hc, if_neg hc]; rfl

theorem cut_at {S : Shape} (H L x s : FVec Ideal S .f32) (i : S.Idx) : minimumf H (maximumf L (mulf x s)) i = min (H i) (max (L i) (x i * s i)) := rfl

theorem scaled_at (a : FVec Ideal S4x3072x6 .f32) (w : BitVec 32) :
    mulf a (broadcastInDim S4x3072x6 ![] bcast_S_S4x3072x6 (constant S_ .f32 w)) (ix3 b t h) = a (ix3 b t h) * Ideal.ofBits .f32 w := rfl

/-- The candidate at position `j`. -/
theorem candT_at {a : FVec Ideal S4x3072x6 .f32} {A : ℝ} (ha : a (ix3 b t h) = ((A : ℝ) : EReal)) (j : Fin 253) :
    candT a (ix4 b t h j) = if A * c448 < (2 : ℝ) ^ ((j.val : ℤ) - 125) then (((2 : ℝ) ^ ((j.val : ℤ) - 125) : ℝ) : EReal) else ⊤ := by
  unfold candT
  rw [select_gt, alongLast, alongLast', perToken, powT_at, scaled_at, ha, c448_coe, ← EReal.coe_mul]
  simp only [EReal.coe_lt_coe_iff]
  exact if_congr Iff.rfl rfl inf_coe

/-- The least candidate. -/
theorem least {Y : ℝ} (hY : 0 < Y) (l1 : -126 ≤ lg Y) (l2 : lg Y < 120) :
    Finset.fold min (⊤ : EReal) (fun j : Fin 253 => if Y < (2 : ℝ) ^ ((j.val : ℤ) - 125) then (((2 : ℝ) ^ ((j.val : ℤ) - 125) : ℝ) : EReal) else ⊤) Finset.univ
      = (((2 : ℝ) ^ (lg Y + 1) : ℝ) : EReal) := by
  apply le_antisymm
  · rw [Finset.fold_min_le]
    refine .inr ⟨⟨(lg Y + 126).toNat, by omega⟩, Finset.mem_univ _, ?_⟩
    have e : (((lg Y + 126).toNat : ℕ) : ℤ) - 125 = lg Y + 1 := by omega
    show (if Y < (2 : ℝ) ^ ((((lg Y + 126).toNat : ℕ) : ℤ) - 125) then (((2 : ℝ) ^ ((((lg Y + 126).toNat : ℕ) : ℤ) - 125) : ℝ) : EReal) else ⊤) ≤ _
    rw [e, if_pos ((lt_zpow_iff hY _).2 (by omega))]
  · rw [Finset.le_fold_min]
    refine ⟨le_top, fun j _ => ?_⟩
    split_ifs with hj
    · rw [lt_zpow_iff hY] at hj
      exact_mod_cast zpow_le_zpow_right₀ (one_le_two (α := ℝ)) (show lg Y + 1 ≤ (j.val : ℤ) - 125 by omega)
    · exact le_top

theorem minT_at (a : FVec Ideal S4x3072x6x253 .f32) :
    Host.reduce FloatOps.minimumf a (constant S_ .f32 0x7F800000#32) reducesTo_S4x3072x6x253_S4x3072x6_d3 h_S_ (ix3 b t h)
      = Finset.fold min (Ideal.ofBits .f32 0x7F800000#32) (fun j => a (ix4 b t h j)) Finset.univ := by
  pointwise []

theorem zeroOne (a c : FVec Ideal S4x3072x6 .f32) :
    select (cmpf .oeq a (broadcastInDim S4x3072x6 ![] bcast_S_S4x3072x6 (constant S_ .f32 0x00000000#32)))
      (broadcastInDim S4x3072x6 ![] bcast_S_S4x3072x6 (constant S_ .f32 0x3F800000#32)) c (ix3 b t h) = if a (ix3 b t h) = 0 then 1 else c (ix3 b t h) := by
  pointwise []

/-- The scales. -/
theorem scaleT_at (hx : ∀ k, x (ix4 b t h k) = ((X k : ℝ) : EReal)) (ok : Ok X) : scaleT x (ix3 b t h) = ((scaleR X : ℝ) : EReal) := by
  have ha := amaxT_at hx
  unfold scaleT scaleR
  generalize amaxT x = a at *
  rw [zeroOne, ha, minT_at, inf_coe]
  simp only [candT_at ha, EReal.coe_eq_zero]
  split_ifs with h0
  · rfl
  · obtain ⟨hY, l1, l2⟩ := good_log (mul_ne_zero h0 c448_pos.ne') (ok_good ok)
    exact least hY l1 l2

theorem recip (s : FVec Ideal S4x3072x6 .f32) :
    Host.divf (broadcastInDim S4x3072x6 ![] bcast_S_S4x3072x6 (constant S_ .f32 0x3F800000#32)) s (ix3 b t h) = Ideal.div 1 (s (ix3 b t h)) := by
  pointwise []

theorem fill_at (w : BitVec 32) (i : S4x3072x6x256.Idx) : broadcastInDim S4x3072x6x256 ![] bcast_S_S4x3072x6x256 (constant (F := Ideal) S_ .f32 w) i = Ideal.ofBits .f32 w := rfl

/-- The codes. -/
theorem codeT_at (hx : ∀ k, x (ix4 b t h k) = ((X k : ℝ) : EReal)) (ok : Ok X) (k : Fin 256) : codeT x (ix4 b t h k) = ((codeR X k : ℝ) : EReal) := by
  have hs := scaleT_at hx ok
  unfold codeT codeR
  generalize scaleT x = s at *
  rw [cut_at, fill_at, fill_at, hi_coe, lo_coe, lanesT_at, recip, hs, hx]
  have e : Ideal.div 1 ((scaleR X : ℝ) : EReal) = (((scaleR X)⁻¹ : ℝ) : EReal) := by
    unfold Ideal.div
    rw [if_neg (by exact_mod_cast (scaleR_pos X).ne'), one_mul, ← EReal.coe_inv]
  rw [e, ← EReal.coe_mul, ← EReal.coe_strictMono.monotone.map_max, ← EReal.coe_strictMono.monotone.map_min]

/-- The inverse norms. -/
theorem normT_at (hx : ∀ k, x (ix4 b t h k) = ((X k : ℝ) : EReal)) : normT x (ix3 b t h) = ((normR X : ℝ) : EReal) := by
  pointwise [normT]
  apply normR_div
  rw [eps_coe, EReal.coe_add, coe_sum]
  congr 1
  exact Finset.sum_congr rfl fun k _ => by rw [hx k, ← EReal.coe_mul]

theorem mul3 {S : Shape} (d s n : FVec Ideal S .f32) (i : S.Idx) : mulf (mulf d s) n i = d i * s i * n i := rfl

/-- The normalised tokens. -/
theorem unitT_at (hx : ∀ k, x (ix4 b t h k) = ((X k : ℝ) : EReal)) (ok : Ok X) {d : FVec Ideal S4x3072x6x256 .f32} {D : ℝ} {k : Fin 256}
    (hd : d (ix4 b t h k) = ((D : ℝ) : EReal)) : unitT x d (ix4 b t h k) = ((D * (scaleR X * normR X) : ℝ) : EReal) := by
  have hs := scaleT_at hx ok
  have hn := normT_at hx
  unfold unitT
  rw [mul3, lanesT_at, lanesT_at, hs, hn, hd, ← EReal.coe_mul, ← EReal.coe_mul, mul_assoc]

end Cert.RefFn

end
-- ==== Proof.RefLoop.lean ====
/- The reference's token loop: one trip is one step of the gated delta rule. -/
module

public import proofs.«01_k».proof.Proof.Spec
public import proofs.«01_k».proof.Proof.Gen.ReferenceIdeal.Run

@[expose] public section

set_option maxRecDepth 16384

noncomputable section

namespace Cert.RefLoop

open Idealize.ShloMosaic Cert.ReferenceIdeal Cert.ReferenceIdeal.Gen Cert.ReferenceIdeal.Facts Cert.ReferenceIdeal.Value Cert.Spec Cert.Blk

attribute [local instance] Cert.ReferenceIdeal.Gen.facts

/-! ### A trip's arithmetic -/

/-- One token's numbers per head. -/
def row (G : FVec Ideal S3072x4x6 .f32) (t : IVec S_ 32) : FVec Ideal S4x6 .f32 :=
  shapeCast S4x6 (Host.dynamicSlice S1x4x6 G (fun k => (((![t, constantI S_ 32 0#32, constantI S_ 32 0#32] : Fin 3 → IVec S_ 32)) k (Shape.Idx.first h_S_)).toInt) sliceFits_S3072x4x6_S1x4x6) shapeCasts_S1x4x6_S4x6
/-- One token's keys or queries. -/
def rowK (K : FVec Ideal S3072x4x6x256 .f32) (t : IVec S_ 32) : FVec Ideal S4x6x256 .f32 :=
  shapeCast S4x6x256 (Host.dynamicSlice S1x4x6x256 K (fun k => (((![t, constantI S_ 32 0#32, constantI S_ 32 0#32, constantI S_ 32 0#32] : Fin 4 → IVec S_ 32)) k (Shape.Idx.first h_S_)).toInt) sliceFits_S3072x4x6x256_S1x4x6x256) shapeCasts_S1x4x6x256_S4x6x256
/-- One token's values. -/
def rowV (K : FVec Ideal S3072x4x6x512 .f32) (t : IVec S_ 32) : FVec Ideal S4x6x512 .f32 :=
  shapeCast S4x6x512 (Host.dynamicSlice S1x4x6x512 K (fun k => (((![t, constantI S_ 32 0#32, constantI S_ 32 0#32, constantI S_ 32 0#32] : Fin 4 → IVec S_ 32)) k (Shape.Idx.first h_S_)).toInt) sliceFits_S3072x4x6x512_S1x4x6x512) shapeCasts_S1x4x6x512_S4x6x512
/-- The state decayed. -/
def faded (g : FVec Ideal S4x6 .f32) (S : FVec Ideal S4x6x256x512 .f32) : FVec Ideal S4x6x256x512 .f32 :=
  mulf (broadcastInDim S4x6x256x512 ![0, 1, 2, 3] bcast_S4x6x1x1_S4x6x256x512_0_1_2_3 (broadcastInDim S4x6x1x1 ![0, 1] bcast_S4x6_S4x6x1x1_0_1 (Host.exp g))) S
/-- A vector per head against the state. -/
def against (k : FVec Ideal S4x6x256 .f32) (S : FVec Ideal S4x6x256x512 .f32) : FVec Ideal S4x6x512 .f32 :=
  Host.dotGeneral dot_S4x6x256_S4x6x256x512_S4x6x512_2_2_n_3_01_01 (some .fp32) k S
/-- The state after the write along the key. -/
def written (P : FVec Ideal S4x6x256x512 .f32) (k : FVec Ideal S4x6x256 .f32) (be : FVec Ideal S4x6 .f32) (v r : FVec Ideal S4x6x512 .f32) : FVec Ideal S4x6x256x512 .f32 :=
  addf P (mulf (broadcastInDim S4x6x256x512 ![0, 1, 2, 3] bcast_S4x6x256x1_S4x6x256x512_0_1_2_3 (broadcastInDim S4x6x256x1 ![0, 1, 2] bcast_S4x6x256_S4x6x256x1_0_1_2 k))
    (broadcastInDim S4x6x256x512 ![0, 1, 2, 3] bcast_S4x6x1x512_S4x6x256x512_0_1_2_3 (broadcastInDim S4x6x1x512 ![0, 1, 3] bcast_S4x6x512_S4x6x1x512_0_1_3
      (mulf (broadcastInDim S4x6x512 ![0, 1, 2] bcast_S4x6x1_S4x6x512_0_1_2 (broadcastInDim S4x6x1 ![0, 1] bcast_S4x6_S4x6x1_0_1 be)) (subf v r)))))
/-- The outputs with one token's row put in. -/
def putRow (O : FVec Ideal S3072x4x6x512 .f32) (r : FVec Ideal S4x6x512 .f32) (t : IVec S_ 32) : FVec Ideal S3072x4x6x512 .f32 :=
  Host.dynamicUpdateSlice O (broadcastInDim S1x4x6x512 ![1, 2, 3] bcast_S4x6x512_S1x4x6x512_1_2_3 r) (fun k => (((![t, constantI S_ 32 0#32, constantI S_ 32 0#32, constantI S_ 32 0#32] : Fin 4 → IVec S_ 32)) k (Shape.Idx.first h_S_)).toInt) updateFits_S3072x4x6x512_S1x4x6x512

variable {t : IVec S_ 32} {T : Fin 3072} {b : Fin 4} {h : Fin 6}

theorem start_zero {s u : Shape} (hr : u.rank = s.rank) (st : Fin s.rank → Int) (a : Fin s.rank) (e : st a = 0) : Host.clampedStart s u hr st a = 0 := by
  unfold Host.clampedStart
  rw [e]
  simp

theorem start_at {s u : Shape} (hr : u.rank = s.rank) (st : Fin s.rank → Int) (a : Fin s.rank) {n : ℕ} (e : st a = (n : ℤ)) (hn : n + u.size (a.cast hr.symm) ≤ s.size a) :
    Host.clampedStart s u hr st a = n := by
  unfold Host.clampedStart
  rw [e]
  omega

theorem at3 {n0 n1 n2 : ℕ} (G : FVec Ideal ⟨3, ![n0, n1, n2]⟩ .f32) {x x' : Fin n0} {y y' : Fin n1} {z z' : Fin n2}
    (hx : x.val = x'.val) (hy : y.val = y'.val) (hz : z.val = z'.val) : G (ix3 x y z) = G (ix3 x' y' z') := by
  obtain rfl := Fin.ext hx
  obtain rfl := Fin.ext hy
  obtain rfl := Fin.ext hz
  rfl

theorem at4 {n0 n1 n2 n3 : ℕ} (G : FVec Ideal ⟨4, ![n0, n1, n2, n3]⟩ .f32) {x x' : Fin n0} {y y' : Fin n1} {z z' : Fin n2} {w w' : Fin n3}
    (hx : x.val = x'.val) (hy : y.val = y'.val) (hz : z.val = z'.val) (hw : w.val = w'.val) : G (ix4 x y z w) = G (ix4 x' y' z' w') := by
  obtain rfl := Fin.ext hx
  obtain rfl := Fin.ext hy
  obtain rfl := Fin.ext hz
  obtain rfl := Fin.ext hw
  rfl

theorem row_at (G : FVec Ideal S3072x4x6 .f32) (ht : (t (Shape.Idx.first h_S_)).toInt = (T.val : ℤ)) : row G t (ix2 b h) = G (ix3 T b h) := by
  have hT : T.val + 1 ≤ 3072 := T.isLt
  pointwise [row]
  refine at3 G ?_ ?_ ?_
  · dsimp only
    rw [start_at _ _ _ ht hT]
  · dsimp only
    rw [start_zero _ _ _ rfl, Nat.zero_add]
  · dsimp only
    rw [start_zero _ _ _ rfl, Nat.zero_add]

theorem rowK_at (G : FVec Ideal S3072x4x6x256 .f32) (ht : (t (Shape.Idx.first h_S_)).toInt = (T.val : ℤ)) (a : Fin 256) : rowK G t (ix3 b h a) = G (ix4 T b h a) := by
  have hT : T.val + 1 ≤ 3072 := T.isLt
  pointwise [rowK]
  refine at4 G ?_ ?_ ?_ ?_
  · dsimp only
    rw [start_at _ _ _ ht hT]
  · dsimp only
    rw [start_zero _ _ _ rfl, Nat.zero_add]
  · dsimp only
    rw [start_zero _ _ _ rfl, Nat.zero_add]
  · dsimp only
    rw [start_zero _ _ _ rfl, Nat.zero_add]

theorem rowV_at (G : FVec Ideal S3072x4x6x512 .f32) (ht : (t (Shape.Idx.first h_S_)).toInt = (T.val : ℤ)) (a : Fin 512) : rowV G t (ix3 b h a) = G (ix4 T b h a) := by
  have hT : T.val + 1 ≤ 3072 := T.isLt
  pointwise [rowV]
  refine at4 G ?_ ?_ ?_ ?_
  · dsimp only
    rw [start_at _ _ _ ht hT]
  · dsimp only
    rw [start_zero _ _ _ rfl, Nat.zero_add]
  · dsimp only
    rw [start_zero _ _ _ rfl, Nat.zero_add]
  · dsimp only
    rw [start_zero _ _ _ rfl, Nat.zero_add]

theorem faded_at (g : FVec Ideal S4x6 .f32) (S : FVec Ideal S4x6x256x512 .f32) (a : Fin 256) (c : Fin 512) :
    faded g S (ix4 b h a c) = Ideal.exp (g (ix2 b h)) * S (ix4 b h a c) := by
  pointwise [faded]

theorem against_at (k : FVec Ideal S4x6x256 .f32) (S : FVec Ideal S4x6x256x512 .f32) (c : Fin 512) :
    against k S (ix3 b h c) = ∑ a, k (ix3 b h a) * S (ix4 b h a c) := by
  pointwise [against]

theorem written_at (P : FVec Ideal S4x6x256x512 .f32) (k : FVec Ideal S4x6x256 .f32) (be : FVec Ideal S4x6 .f32) (v r : FVec Ideal S4x6x512 .f32) (a : Fin 256) (c : Fin 512) :
    written P k be v r (ix4 b h a c) = P (ix4 b h a c) + k (ix3 b h a) * (be (ix2 b h) * (v (ix3 b h c) - r (ix3 b h c))) := by
  pointwise [written]

/-- The row put in, and the others as they were. -/
theorem putRow_at (O : FVec Ideal S3072x4x6x512 .f32) (r : FVec Ideal S4x6x512 .f32) (ht : (t (Shape.Idx.first h_S_)).toInt = (T.val : ℤ)) (T' : Fin 3072) (c : Fin 512) :
    putRow O r t (ix4 T' b h c) = if T' = T then r (ix3 b h c) else O (ix4 T' b h c) := by
  have hT : T.val + 1 ≤ 3072 := T.isLt
  pointwise [putRow]
  split_ifs with h1 h2 h2
  · refine at3 r ?_ ?_ ?_
    · dsimp only
      rw [start_zero _ _ _ rfl, Nat.sub_zero]
    · dsimp only
      rw [start_zero _ _ _ rfl, Nat.sub_zero]
    · dsimp only
      rw [start_zero _ _ _ rfl, Nat.sub_zero]
  · exfalso
    obtain ⟨⟨p, p'⟩, -⟩ := h1
    rw [start_at _ _ _ ht hT] at p p'
    exact h2 (Fin.ext (by omega))
  · exfalso
    apply h1
    subst h2
    refine ⟨⟨?_, ?_⟩, ?_, ?_, ?_⟩
    · rw [start_at _ _ _ ht hT]
    · rw [start_at _ _ _ ht hT]
      exact Nat.lt_succ_self _
    · rw [start_zero _ _ _ rfl]
      exact Nat.zero_le _
    · rw [start_zero _ _ _ rfl]
      exact Nat.zero_le _
    · rw [start_zero _ _ _ rfl]
      exact Nat.zero_le _
  · rfl

/-- The product against the state, in real numbers. -/
theorem against_is {k : FVec Ideal S4x6x256 .f32} {S : FVec Ideal S4x6x256x512 .f32} {κ σ : Fin 256 → ℝ} {c : Fin 512}
    (hk : ∀ a, k (ix3 b h a) = ((κ a : ℝ) : EReal)) (hS : ∀ a, S (ix4 b h a c) = ((σ a : ℝ) : EReal)) :
    against k S (ix3 b h c) = ((∑ a, κ a * σ a : ℝ) : EReal) := by
  rw [against_at, coe_sum]
  exact Finset.sum_congr rfl fun a _ => by rw [hk, hS, ← EReal.coe_mul]

/-- The write, in real numbers. -/
theorem write_is {P : FVec Ideal S4x6x256x512 .f32} {k : FVec Ideal S4x6x256 .f32} {be : FVec Ideal S4x6 .f32} {v r : FVec Ideal S4x6x512 .f32} {a : Fin 256} {c : Fin 512}
    {p κ β ν ρ : ℝ} (h1 : P (ix4 b h a c) = ((p : ℝ) : EReal)) (h2 : k (ix3 b h a) = ((κ : ℝ) : EReal)) (h3 : be (ix2 b h) = ((β : ℝ) : EReal))
    (h4 : v (ix3 b h c) = ((ν : ℝ) : EReal)) (h5 : r (ix3 b h c) = ((ρ : ℝ) : EReal)) :
    written P k be v r (ix4 b h a c) = ((p + κ * (β * (ν - ρ)) : ℝ) : EReal) := by
  rw [written_at, h1, h2, h3, h4, h5, ← EReal.coe_sub, ← EReal.coe_mul, ← EReal.coe_mul, ← EReal.coe_add]

/-! ### The trip -/

variable {N : Nums} {V : Valuation τ sig (Elt Ideal)}

theorem fade_eq : res_main_while0b_v106 V = faded (row (V (Proc.devRef .tc main_v90_3)) (V (Proc.devRef .tc main_v90_5))) (V (Proc.devRef .tc main_v90_6)) := rfl
theorem key_eq : res_main_while0b_v99 V = rowK (V (Proc.devRef .tc main_v90_1)) (V (Proc.devRef .tc main_v90_5)) := rfl
theorem write_eq : res_main_while0b_v117 V = written (res_main_while0b_v106 V) (res_main_while0b_v99 V) (row (V (Proc.devRef .tc main_v90_4)) (V (Proc.devRef .tc main_v90_5)))
    (rowV (V (Proc.devRef .tc main_v90_2)) (V (Proc.devRef .tc main_v90_5))) (against (res_main_while0b_v99 V) (res_main_while0b_v106 V)) := rfl
theorem put_eq : step_main_v90_7 V = putRow (V (Proc.devRef .tc main_v90_7)) (against (rowK (V (Proc.devRef .tc main_v90_0)) (V (Proc.devRef .tc main_v90_5))) (res_main_while0b_v117 V))
    (V (Proc.devRef .tc main_v90_5)) := by
  unfold step_main_v90_7 putRow against rowK
  exact id_eq _

/-- What the loop's arrays hold after `t` tokens. -/
structure Carry (N : Nums) (t : ℕ) (Q K : FVec Ideal S3072x4x6x256 .f32) (W : FVec Ideal S3072x4x6x512 .f32) (G B : FVec Ideal S3072x4x6 .f32) (n : IVec S_ 32)
    (S : FVec Ideal S4x6x256x512 .f32) (O : FVec Ideal S3072x4x6x512 .f32) : Prop where
  q : ∀ T b h a, Q (ix4 T b h a) = ((qn N b h T.val a : ℝ) : EReal)
  k : ∀ T b h a, K (ix4 T b h a) = ((kn N b h T.val a : ℝ) : EReal)
  v : ∀ T b h a, W (ix4 T b h a) = ((N.v b T.val h a : ℝ) : EReal)
  g : ∀ T b h, G (ix3 T b h) = ((N.g b T.val h : ℝ) : EReal)
  b : ∀ T b h, B (ix3 T b h) = ((N.β b T.val h : ℝ) : EReal)
  ctr : n = fun _ => BitVec.ofNat 32 t
  s : ∀ b h a c, S (ix4 b h a c) = ((st N b h t a c : ℝ) : EReal)
  o : ∀ T b h c, T.val < t → O (ix4 T b h c) = ((out N b h T.val c : ℝ) : EReal)

/-- What the loop carries after `t` tokens. -/
def Carried (N : Nums) (V : Valuation τ sig (Elt Ideal)) (t : ℕ) : Prop :=
  Carry N t (V (Proc.devRef .tc main_v90_0)) (V (Proc.devRef .tc main_v90_1)) (V (Proc.devRef .tc main_v90_2)) (V (Proc.devRef .tc main_v90_3)) (V (Proc.devRef .tc main_v90_4))
    (V (Proc.devRef .tc main_v90_5)) (V (Proc.devRef .tc main_v90_6)) (V (Proc.devRef .tc main_v90_7))

theorem toInt_small (n : ℕ) (hn : n < 3072) : (BitVec.ofNat 32 n).toInt = (n : ℤ) := by
  rw [BitVec.toInt_eq_toNat_of_lt (by simp; omega)]
  simp
  omega

section

variable {n : ℕ} (C : Carried N V n) (hn : n < 3072)
include C hn

theorem here : ((V (Proc.devRef .tc main_v90_5) : IVec S_ 32) (Shape.Idx.first h_S_)).toInt = (((⟨n, hn⟩ : Fin 3072).val : ℕ) : ℤ) := by
  rw [C.ctr]
  exact toInt_small n hn

theorem faded_is (a : Fin 256) (c : Fin 512) : res_main_while0b_v106 V (ix4 b h a c) = ((Real.exp (N.g b n h) * st N b h n a c : ℝ) : EReal) := by
  rw [fade_eq, faded_at, row_at _ (here C hn), C.g, C.s, Ideal.exp_coe, ← EReal.coe_mul]

theorem key_is (a : Fin 256) : res_main_while0b_v99 V (ix3 b h a) = ((kn N b h n a : ℝ) : EReal) := by
  rw [key_eq, rowK_at _ (here C hn), C.k]

/-- The state after the token. -/
theorem written_is (a : Fin 256) (c : Fin 512) : res_main_while0b_v117 V (ix4 b h a c) = ((st N b h (n + 1) a c : ℝ) : EReal) := by
  rw [write_eq]
  exact write_is (faded_is C hn a c) (key_is C hn a) ((row_at _ (here C hn)).trans (C.b _ b h)) ((rowV_at _ (here C hn) c).trans (C.v _ b h c))
    (against_is (fun x => key_is C hn x) (fun x => faded_is C hn x c))

/-- The counter's step. -/
theorem next : step_main_v90_5 V = fun _ => BitVec.ofNat 32 (n + 1) := by
  unfold step_main_v90_5
  refine (congrArg (fun z : IVec S_ 32 => addi z (constantI S_ 32 1#32)) C.ctr).trans ?_
  funext _
  show BitVec.ofNat 32 n + 1#32 = BitVec.ofNat 32 (n + 1)
  exact (BitVec.ofNat_add n 1).symm

/-- The outputs' step. -/
theorem put_is (T : Fin 3072) (c : Fin 512) (hT : T.val < n + 1) : step_main_v90_7 V (ix4 T b h c) = ((out N b h T.val c : ℝ) : EReal) := by
  rw [put_eq, putRow_at _ _ (here C hn)]
  split_ifs with e
  · subst e
    exact against_is (fun x => (rowK_at _ (here C hn) x).trans (C.q _ b h x)) (fun x => written_is C hn x c)
  · exact C.o T b h c (by
      have : T.val ≠ n := fun q => e (Fin.ext q)
      omega)

/-- One trip. -/
theorem trip : Carried N (STEP V) (n + 1) := by
  unfold Carried
  rw [STEP_main_v90_0, STEP_main_v90_1, STEP_main_v90_2, STEP_main_v90_3, STEP_main_v90_4, STEP_main_v90_5, STEP_main_v90_6, STEP_main_v90_7]
  exact ⟨C.q, C.k, C.v, C.g, C.b, next C hn, fun b h a c => written_is C hn a c, fun T b h c hT => put_is C hn T c hT⟩

end

/-- All trips. -/
theorem trips (C : Carried N V 0) : ∀ n ≤ 3072, Carried N (STEP^[n] V) n := by
  intro n
  induction n with
  | zero => exact fun _ => C
  | succ n ih =>
    intro hn
    rw [Function.iterate_succ_apply']
    exact trip (ih (by omega)) (by omega)

end Cert.RefLoop

end
-- ==== Proof.RefSeg.lean ====
/- What each stretch of the reference's host operations leaves in the buffers later stretches read, at any contents it is
   entered with. -/
module

public import proofs.«01_k».proof.Proof.RefFn
public import proofs.«01_k».proof.Proof.RefLoop

@[expose] public section

set_option maxRecDepth 16384

noncomputable section

namespace Cert.RefSeg

open Idealize.ShloMosaic Idealize.ShloMosaic.TcCoe Idealize.ShloMosaic.Tactic Cert.ReferenceIdeal Cert.ReferenceIdeal.Gen Cert.ReferenceIdeal.Facts Cert.RefFn

attribute [local instance] Cert.ReferenceIdeal.Gen.facts

variable (V : Valuation τ sig (Elt Ideal))

/-- An argument as f32. -/
def wide (x : FVec Ideal S4x3072x6x256 .bf16) : FVec Ideal S4x3072x6x256 .f32 := extf .f32 x bitsLt_bf16_f32
/-- Where each power lies above its token's max|x| / 448. -/
def overT (a : FVec Ideal S4x3072x6 .f32) : IVec S4x3072x6x253 1 :=
  cmpf .ogt (broadcastInDim S4x3072x6x253 ![0, 1, 2, 3] bcast_S1x1x1x253_S4x3072x6x253_0_1_2_3 (broadcastInDim S1x1x1x253 ![3] bcast_S253_S1x1x1x253_3 powT))
      (broadcastInDim S4x3072x6x253 ![0, 1, 2, 3] bcast_S4x3072x6x1_S4x3072x6x253_0_1_2_3 (broadcastInDim S4x3072x6x1 ![0, 1, 2] bcast_S4x3072x6_S4x3072x6x1_0_1_2
        (mulf a (broadcastInDim S4x3072x6 ![] bcast_S_S4x3072x6 (constant S_ .f32 0x3B124925#32)))))
/-- The powers where `c`, the number `z` elsewhere. -/
def pickT (c : IVec S4x3072x6x253 1) (p : FVec Ideal S253 .f32) (z : FVec Ideal S_ .f32) : FVec Ideal S4x3072x6x253 .f32 :=
  select c (broadcastInDim S4x3072x6x253 ![3] bcast_S253_S4x3072x6x253_3 p) (broadcastInDim S4x3072x6x253 ![] bcast_S_S4x3072x6x253 z)
/-- Each token's least candidate. -/
def leastT (f : FVec Ideal S4x3072x6x253 .f32) : FVec Ideal S4x3072x6 .f32 :=
  Host.reduce FloatOps.minimumf f (constant S_ .f32 0x7F800000#32) reducesTo_S4x3072x6x253_S4x3072x6_d3 h_S_
/-- Where a token is all zeros. -/
def zeroT (a : FVec Ideal S4x3072x6 .f32) : IVec S4x3072x6 1 :=
  cmpf .oeq a (broadcastInDim S4x3072x6 ![] bcast_S_S4x3072x6 (constant S_ .f32 0x00000000#32))
/-- The number `z` where `c`, `l` elsewhere. -/
def choiceT (c : IVec S4x3072x6 1) (z : FVec Ideal S_ .f32) (l : FVec Ideal S4x3072x6 .f32) : FVec Ideal S4x3072x6 .f32 :=
  select c (broadcastInDim S4x3072x6 ![] bcast_S_S4x3072x6 z) l
/-- The tokens divided by their scales. -/
def rawT (x : FVec Ideal S4x3072x6x256 .f32) (s : FVec Ideal S4x3072x6 .f32) : FVec Ideal S4x3072x6x256 .f32 :=
  mulf x (lanesT (Host.divf (broadcastInDim S4x3072x6 ![] bcast_S_S4x3072x6 (constant S_ .f32 0x3F800000#32)) s))
/-- A value cut to the range from `lo` to `hi`. -/
def clipT (lo hi : FVec Ideal S_ .f32) (x : FVec Ideal S4x3072x6x256 .f32) : FVec Ideal S4x3072x6x256 .f32 :=
  minimumf (broadcastInDim S4x3072x6x256 ![] bcast_S_S4x3072x6x256 hi) (maximumf (broadcastInDim S4x3072x6x256 ![] bcast_S_S4x3072x6x256 lo) x)
/-- The codes `d` by their scales `s`, normalised by the norms of the tokens `x`. -/
def normedT (x d : FVec Ideal S4x3072x6x256 .f32) (s : FVec Ideal S4x3072x6 .f32) : FVec Ideal S4x3072x6x256 .f32 :=
  mulf (mulf d (lanesT s)) (lanesT (normT x))

theorem scaleT_eq (x : FVec Ideal S4x3072x6x256 .f32) : scaleT x
    = choiceT (zeroT (amaxT x)) (constant S_ .f32 0x3F800000#32) (leastT (pickT (overT (amaxT x)) powT (constant S_ .f32 0x7F800000#32))) := rfl
theorem codeT_eq (x : FVec Ideal S4x3072x6x256 .f32) : codeT x
    = clipT (constant S_ .f32 0xC3E00000#32) (constant S_ .f32 0x43E00000#32) (rawT x (scaleT x)) := rfl

theorem v0 {x : FVec Ideal S4x3072x6x256 .bf16} (hx : V (Proc.devRef .tc main_arg1) = x) :
    StableHlo.after hostOps0 V (Proc.devRef .tc main_v0) = wide x := by
  subst hx
  after_results
  rfl

theorem v1 {x : FVec Ideal S4x3072x6x256 .bf16} (hx : V (Proc.devRef .tc main_arg0) = x) :
    StableHlo.after hostOps0 V (Proc.devRef .tc main_v1) = wide x := by
  subst hx
  after_results
  rfl

theorem v3 {x : FVec Ideal S4x3072x6x256 .bf16} (hx : V (Proc.devRef .tc main_arg1) = x) :
    StableHlo.after hostOps0 V (Proc.devRef .tc main_v3) = amaxT (wide x) := by
  subst hx
  after_results
  rfl

theorem v11   :
    StableHlo.after hostOps0 V (Proc.devRef .tc main_v11) = powT := by
  after_results
  rfl

theorem v16 {x : FVec Ideal S4x3072x6x256 .bf16} (hx : V (Proc.devRef .tc main_arg1) = x) :
    StableHlo.after hostOps0 V (Proc.devRef .tc main_v16) = overT (amaxT (wide x)) := by
  subst hx
  after_results
  rfl

theorem cst_2   :
    StableHlo.after hostOps0 V (Proc.devRef .tc main_cst_2) = (constant S_ .f32 0x7F800000#32 : FVec Ideal S_ .f32) := by
  after_results

theorem v17 {c : IVec S4x3072x6x253 1} {p : FVec Ideal S253 .f32} {z : FVec Ideal S_ .f32} (hc : V (Proc.devRef .tc main_v16) = c) (hp : V (Proc.devRef .tc main_v11) = p) (hz : V (Proc.devRef .tc main_cst_2) = z) :
    StableHlo.after hostOps0_1 V (Proc.devRef .tc main_v17) = pickT c p z := by
  subst hc hp hz
  after_results
  simp only [StableHlo.TRef.ofBuf_toBuf]
  rfl

theorem v18 {f : FVec Ideal S4x3072x6x253 .f32} (hf : V (Proc.devRef .tc main_v17) = f) :
    StableHlo.after hostOps0_2 V (Proc.devRef .tc main_v18) = leastT f := by
  subst hf
  after_results
  rfl

theorem v20 {a : FVec Ideal S4x3072x6 .f32} (ha : V (Proc.devRef .tc main_v3) = a) :
    StableHlo.after hostOps0_2 V (Proc.devRef .tc main_v20) = zeroT a := by
  subst ha
  after_results
  rfl

theorem cst_5   :
    StableHlo.after hostOps0_2 V (Proc.devRef .tc main_cst_5) = (constant S_ .f32 0x3F800000#32 : FVec Ideal S_ .f32) := by
  after_results

theorem v21 {c : IVec S4x3072x6 1} {z : FVec Ideal S_ .f32} {l : FVec Ideal S4x3072x6 .f32} (hc : V (Proc.devRef .tc main_v20) = c) (hz : V (Proc.devRef .tc main_cst_5) = z) (hl : V (Proc.devRef .tc main_v18) = l) :
    StableHlo.after hostOps0_3 V (Proc.devRef .tc main_v21) = choiceT c z l := by
  subst hc hz hl
  after_results
  simp only [StableHlo.TRef.ofBuf_toBuf]
  rfl

theorem v23 {x : FVec Ideal S4x3072x6x256 .f32} (hx : V (Proc.devRef .tc main_v1) = x) :
    StableHlo.after hostOps0_4 V (Proc.devRef .tc main_v23) = amaxT x := by
  subst hx
  after_results
  rfl

theorem v31   :
    StableHlo.after hostOps0_4 V (Proc.devRef .tc main_v31) = powT := by
  after_results
  rfl

theorem v36 {x : FVec Ideal S4x3072x6x256 .f32} (hx : V (Proc.devRef .tc main_v1) = x) :
    StableHlo.after hostOps0_4 V (Proc.devRef .tc main_v36) = overT (amaxT x) := by
  subst hx
  after_results
  rfl

theorem cst_10   :
    StableHlo.after hostOps0_4 V (Proc.devRef .tc main_cst_10) = (constant S_ .f32 0x7F800000#32 : FVec Ideal S_ .f32) := by
  after_results

theorem v37 {c : IVec S4x3072x6x253 1} {p : FVec Ideal S253 .f32} {z : FVec Ideal S_ .f32} (hc : V (Proc.devRef .tc main_v36) = c) (hp : V (Proc.devRef .tc main_v31) = p) (hz : V (Proc.devRef .tc main_cst_10) = z) :
    StableHlo.after hostOps0_5 V (Proc.devRef .tc main_v37) = pickT c p z := by
  subst hc hp hz
  after_results
  simp only [StableHlo.TRef.ofBuf_toBuf]
  rfl

theorem v38 {f : FVec Ideal S4x3072x6x253 .f32} (hf : V (Proc.devRef .tc main_v37) = f) :
    StableHlo.after hostOps0_6 V (Proc.devRef .tc main_v38) = leastT f := by
  subst hf
  after_results
  rfl

theorem v40 {a : FVec Ideal S4x3072x6 .f32} (ha : V (Proc.devRef .tc main_v23) = a) :
    StableHlo.after hostOps0_6 V (Proc.devRef .tc main_v40) = zeroT a := by
  subst ha
  after_results
  rfl

theorem cst_13   :
    StableHlo.after hostOps0_6 V (Proc.devRef .tc main_cst_13) = (constant S_ .f32 0x3F800000#32 : FVec Ideal S_ .f32) := by
  after_results

theorem v41 {c : IVec S4x3072x6 1} {z : FVec Ideal S_ .f32} {l : FVec Ideal S4x3072x6 .f32} (hc : V (Proc.devRef .tc main_v40) = c) (hz : V (Proc.devRef .tc main_cst_13) = z) (hl : V (Proc.devRef .tc main_v38) = l) :
    StableHlo.after hostOps0_7 V (Proc.devRef .tc main_v41) = choiceT c z l := by
  subst hc hz hl
  after_results
  simp only [StableHlo.TRef.ofBuf_toBuf]
  rfl

theorem v46 {x : FVec Ideal S4x3072x6x256 .f32} {s : FVec Ideal S4x3072x6 .f32} (hx : V (Proc.devRef .tc main_v0) = x) (hs : V (Proc.devRef .tc main_v21) = s) :
    StableHlo.after hostOps0_8 V (Proc.devRef .tc main_v46) = rawT x s := by
  subst hx hs
  after_results
  rfl

theorem cst_15   :
    StableHlo.after hostOps0_8 V (Proc.devRef .tc main_cst_15) = (constant S_ .f32 0xC3E00000#32 : FVec Ideal S_ .f32) := by
  after_results

theorem cst_16   :
    StableHlo.after hostOps0_8 V (Proc.devRef .tc main_cst_16) = (constant S_ .f32 0x43E00000#32 : FVec Ideal S_ .f32) := by
  after_results

theorem v47 {lo : FVec Ideal S_ .f32} {hi : FVec Ideal S_ .f32} {x : FVec Ideal S4x3072x6x256 .f32} (hlo : V (Proc.devRef .tc main_cst_15) = lo) (hhi : V (Proc.devRef .tc main_cst_16) = hi) (hx : V (Proc.devRef .tc main_v46) = x) :
    StableHlo.after hostOps0_9 V (Proc.devRef .tc main_v47) = clipT lo hi x := by
  subst hlo hhi hx
  after_results
  simp only [StableHlo.TRef.ofBuf_toBuf]
  rfl

theorem v52 {x : FVec Ideal S4x3072x6x256 .f32} {s : FVec Ideal S4x3072x6 .f32} (hx : V (Proc.devRef .tc main_v1) = x) (hs : V (Proc.devRef .tc main_v41) = s) :
    StableHlo.after hostOps0_10 V (Proc.devRef .tc main_v52) = rawT x s := by
  subst hx hs
  after_results
  rfl

theorem cst_18   :
    StableHlo.after hostOps0_10 V (Proc.devRef .tc main_cst_18) = (constant S_ .f32 0xC3E00000#32 : FVec Ideal S_ .f32) := by
  after_results

theorem cst_19   :
    StableHlo.after hostOps0_10 V (Proc.devRef .tc main_cst_19) = (constant S_ .f32 0x43E00000#32 : FVec Ideal S_ .f32) := by
  after_results

theorem v53 {lo : FVec Ideal S_ .f32} {hi : FVec Ideal S_ .f32} {x : FVec Ideal S4x3072x6x256 .f32} (hlo : V (Proc.devRef .tc main_cst_18) = lo) (hhi : V (Proc.devRef .tc main_cst_19) = hi) (hx : V (Proc.devRef .tc main_v52) = x) :
    StableHlo.after hostOps0_11 V (Proc.devRef .tc main_v53) = clipT lo hi x := by
  subst hlo hhi hx
  after_results
  simp only [StableHlo.TRef.ofBuf_toBuf]
  rfl

theorem v90_0 {x : FVec Ideal S4x3072x6x256 .f32} {d : FVec Ideal S4x3072x6x256 .f32} {s : FVec Ideal S4x3072x6 .f32} (hx : V (Proc.devRef .tc main_v1) = x) (hd : V (Proc.devRef .tc main_v54_3) = d) (hs : V (Proc.devRef .tc main_v41) = s) :
    StableHlo.after hostOps1 V (Proc.devRef .tc main_v90_0) = transpose S3072x4x6x256 [1, 0, 2, 3] (mulf (normedT x d s) (broadcastInDim S4x3072x6x256 ![] bcast_S_S4x3072x6x256 (constant S_ .f32 0x3D800000#32))) transposes_S4x3072x6x256_S3072x4x6x256_1_0_2_3 := by
  subst hx hd hs
  after_results
  rfl

theorem v90_1 {x : FVec Ideal S4x3072x6x256 .f32} {d : FVec Ideal S4x3072x6x256 .f32} {s : FVec Ideal S4x3072x6 .f32} (hx : V (Proc.devRef .tc main_v0) = x) (hd : V (Proc.devRef .tc main_v54_2) = d) (hs : V (Proc.devRef .tc main_v21) = s) :
    StableHlo.after hostOps1 V (Proc.devRef .tc main_v90_1) = transpose S3072x4x6x256 [1, 0, 2, 3] (normedT x d s) transposes_S4x3072x6x256_S3072x4x6x256_1_0_2_3 := by
  subst hx hd hs
  after_results
  rfl

theorem v90_2 {x : FVec Ideal S4x3072x6x512 .bf16} (hx : V (Proc.devRef .tc main_arg2) = x) :
    StableHlo.after hostOps1 V (Proc.devRef .tc main_v90_2) = transpose S3072x4x6x512 [1, 0, 2, 3] (extf .f32 x bitsLt_bf16_f32) transposes_S4x3072x6x512_S3072x4x6x512_1_0_2_3 := by
  subst hx
  after_results
  rfl

theorem v90_3 {x : FVec Ideal S4x3072x6 .f32} (hx : V (Proc.devRef .tc main_arg3) = x) :
    StableHlo.after hostOps1 V (Proc.devRef .tc main_v90_3) = transpose S3072x4x6 [1, 0, 2] x transposes_S4x3072x6_S3072x4x6_1_0_2 := by
  subst hx
  after_results
  rfl

theorem v90_4 {x : FVec Ideal S4x3072x6 .f32} (hx : V (Proc.devRef .tc main_arg4) = x) :
    StableHlo.after hostOps1 V (Proc.devRef .tc main_v90_4) = transpose S3072x4x6 [1, 0, 2] x transposes_S4x3072x6_S3072x4x6_1_0_2 := by
  subst hx
  after_results
  rfl

theorem v90_5   :
    StableHlo.after hostOps1 V (Proc.devRef .tc main_v90_5) = (constantI S_ 32 0#32 : IVec S_ 32) := by
  after_results
  rfl

theorem v90_6 {x : FVec Ideal S4x6x256x512 .f32} (hx : V (Proc.devRef .tc main_arg5) = x) :
    StableHlo.after hostOps1 V (Proc.devRef .tc main_v90_6) = x := by
  subst hx
  after_results
  rfl

end Cert.RefSeg

end
-- ==== Proof.RefVal.lean ====
/- The reference's buffers when its token loop begins, in real numbers: the carry the recurrence starts from, and the codes
   and scales it returns. -/
module

public import proofs.«01_k».proof.Proof.RefSeg
public import Idealize.ShloMosaic.Lib.Pipeline.Value
public import Idealize.ShloMosaic.Lib.Pipeline.ValueKit.Basic

@[expose] public section

set_option maxRecDepth 16384

noncomputable section

namespace Cert.RefVal

open Idealize.ShloMosaic Idealize.ShloMosaic.TcCoe Idealize.ShloMosaic.Tactic Cert.ReferenceIdeal Cert.ReferenceIdeal.Gen Cert.ReferenceIdeal.Facts
open Idealize.ShloMosaic.Pipeline Cert.ReferenceIdeal.Value Cert.Spec Cert.Blk Cert.Quant Cert.RefFn Cert.RefSeg Cert.RefLoop

attribute [local instance] Cert.ReferenceIdeal.Gen.facts

variable (m : (ℓ : Loc nD τ sig) → Buf (Elt Ideal) ℓ) (ρ : Dev nD → PrngReg) (c : Dev nD)

/-- The queries as the call finds them. -/
abbrev q0 : FVec Ideal S4x3072x6x256 .bf16 := m ((c : Thread nD τ).loc main_arg0)
/-- The keys as the call finds them. -/
abbrev k0 : FVec Ideal S4x3072x6x256 .bf16 := m ((c : Thread nD τ).loc main_arg1)

theorem v0_1 : W1 m ρ c (Proc.devRef .tc main_v0) = (wide (k0 m c)) :=
  RefSeg.v0 _ (W0_args m ρ c main_arg1 (by decide))

theorem v1_1 : W1 m ρ c (Proc.devRef .tc main_v1) = (wide (q0 m c)) :=
  RefSeg.v1 _ (W0_args m ρ c main_arg0 (by decide))

theorem v1_4 : W4 m ρ c (Proc.devRef .tc main_v1) = (wide (q0 m c)) :=
  ((W4_of m ρ c main_v1 (by decide)).trans ((W3_of m ρ c main_v1 (by decide)).trans (W2_of m ρ c main_v1 (by decide)))).trans (v1_1 m ρ c)

theorem v3_1 : W1 m ρ c (Proc.devRef .tc main_v3) = amaxT (wide (k0 m c)) :=
  RefSeg.v3 _ (W0_args m ρ c main_arg1 (by decide))

theorem v11_1 : W1 m ρ c (Proc.devRef .tc main_v11) = powT :=
  RefSeg.v11 _

theorem v16_1 : W1 m ρ c (Proc.devRef .tc main_v16) = overT (amaxT (wide (k0 m c))) :=
  RefSeg.v16 _ (W0_args m ρ c main_arg1 (by decide))

theorem cst_2_1 : W1 m ρ c (Proc.devRef .tc main_cst_2) = (constant S_ .f32 0x7F800000#32 : FVec Ideal S_ .f32) :=
  RefSeg.cst_2 _

theorem v17_2 : W2 m ρ c (Proc.devRef .tc main_v17) = pickT (overT (amaxT (wide (k0 m c)))) powT (constant S_ .f32 0x7F800000#32 : FVec Ideal S_ .f32) :=
  RefSeg.v17 _ (v16_1 m ρ c) (v11_1 m ρ c) (cst_2_1 m ρ c)

theorem v3_2 : W2 m ρ c (Proc.devRef .tc main_v3) = amaxT (wide (k0 m c)) :=
  (W2_of m ρ c main_v3 (by decide)).trans (v3_1 m ρ c)

theorem v18_3 : W3 m ρ c (Proc.devRef .tc main_v18) = leastT (pickT (overT (amaxT (wide (k0 m c)))) powT (constant S_ .f32 0x7F800000#32 : FVec Ideal S_ .f32)) :=
  RefSeg.v18 _ (v17_2 m ρ c)

theorem v20_3 : W3 m ρ c (Proc.devRef .tc main_v20) = zeroT (amaxT (wide (k0 m c))) :=
  RefSeg.v20 _ (v3_2 m ρ c)

theorem cst_5_3 : W3 m ρ c (Proc.devRef .tc main_cst_5) = (constant S_ .f32 0x3F800000#32 : FVec Ideal S_ .f32) :=
  RefSeg.cst_5 _

theorem v21_4 : W4 m ρ c (Proc.devRef .tc main_v21) = scaleT (wide (k0 m c)) :=
  (RefSeg.v21 _ (v20_3 m ρ c) (cst_5_3 m ρ c) (v18_3 m ρ c)).trans (scaleT_eq _).symm

theorem v23_5 : W5 m ρ c (Proc.devRef .tc main_v23) = amaxT (wide (q0 m c)) :=
  RefSeg.v23 _ (v1_4 m ρ c)

theorem v31_5 : W5 m ρ c (Proc.devRef .tc main_v31) = powT :=
  RefSeg.v31 _

theorem v36_5 : W5 m ρ c (Proc.devRef .tc main_v36) = overT (amaxT (wide (q0 m c))) :=
  RefSeg.v36 _ (v1_4 m ρ c)

theorem cst_10_5 : W5 m ρ c (Proc.devRef .tc main_cst_10) = (constant S_ .f32 0x7F800000#32 : FVec Ideal S_ .f32) :=
  RefSeg.cst_10 _

theorem v37_6 : W6 m ρ c (Proc.devRef .tc main_v37) = pickT (overT (amaxT (wide (q0 m c)))) powT (constant S_ .f32 0x7F800000#32 : FVec Ideal S_ .f32) :=
  RefSeg.v37 _ (v36_5 m ρ c) (v31_5 m ρ c) (cst_10_5 m ρ c)

theorem v23_6 : W6 m ρ c (Proc.devRef .tc main_v23) = amaxT (wide (q0 m c)) :=
  (W6_of m ρ c main_v23 (by decide)).trans (v23_5 m ρ c)

theorem v38_7 : W7 m ρ c (Proc.devRef .tc main_v38) = leastT (pickT (overT (amaxT (wide (q0 m c)))) powT (constant S_ .f32 0x7F800000#32 : FVec Ideal S_ .f32)) :=
  RefSeg.v38 _ (v37_6 m ρ c)

theorem v40_7 : W7 m ρ c (Proc.devRef .tc main_v40) = zeroT (amaxT (wide (q0 m c))) :=
  RefSeg.v40 _ (v23_6 m ρ c)

theorem cst_13_7 : W7 m ρ c (Proc.devRef .tc main_cst_13) = (constant S_ .f32 0x3F800000#32 : FVec Ideal S_ .f32) :=
  RefSeg.cst_13 _

theorem v41_8 : W8 m ρ c (Proc.devRef .tc main_v41) = scaleT (wide (q0 m c)) :=
  (RefSeg.v41 _ (v40_7 m ρ c) (cst_13_7 m ρ c) (v38_7 m ρ c)).trans (scaleT_eq _).symm

theorem v0_8 : W8 m ρ c (Proc.devRef .tc main_v0) = (wide (k0 m c)) :=
  ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide)))))))).trans (v0_1 m ρ c)

theorem v21_8 : W8 m ρ c (Proc.devRef .tc main_v21) = scaleT (wide (k0 m c)) :=
  ((W8_of m ρ c main_v21 (by decide)).trans ((W7_of m ρ c main_v21 (by decide)).trans ((W6_of m ρ c main_v21 (by decide)).trans (W5_of m ρ c main_v21 (by decide))))).trans (v21_4 m ρ c)

theorem v1_10 : W10 m ρ c (Proc.devRef .tc main_v1) = (wide (q0 m c)) :=
  ((W10_of m ρ c main_v1 (by decide)).trans ((W9_of m ρ c main_v1 (by decide)).trans ((W8_of m ρ c main_v1 (by decide)).trans ((W7_of m ρ c main_v1 (by decide)).trans ((W6_of m ρ c main_v1 (by decide)).trans (W5_of m ρ c main_v1 (by decide))))))).trans (v1_4 m ρ c)

theorem v41_10 : W10 m ρ c (Proc.devRef .tc main_v41) = scaleT (wide (q0 m c)) :=
  ((W10_of m ρ c main_v41 (by decide)).trans (W9_of m ρ c main_v41 (by decide))).trans (v41_8 m ρ c)

theorem v46_9 : W9 m ρ c (Proc.devRef .tc main_v46) = rawT (wide (k0 m c)) (scaleT (wide (k0 m c))) :=
  RefSeg.v46 _ (v0_8 m ρ c) (v21_8 m ρ c)

theorem cst_15_9 : W9 m ρ c (Proc.devRef .tc main_cst_15) = (constant S_ .f32 0xC3E00000#32 : FVec Ideal S_ .f32) :=
  RefSeg.cst_15 _

theorem cst_16_9 : W9 m ρ c (Proc.devRef .tc main_cst_16) = (constant S_ .f32 0x43E00000#32 : FVec Ideal S_ .f32) :=
  RefSeg.cst_16 _

theorem v47_10 : W10 m ρ c (Proc.devRef .tc main_v47) = codeT (wide (k0 m c)) :=
  (RefSeg.v47 _ (cst_15_9 m ρ c) (cst_16_9 m ρ c) (v46_9 m ρ c)).trans (codeT_eq _).symm

theorem v52_11 : W11 m ρ c (Proc.devRef .tc main_v52) = rawT (wide (q0 m c)) (scaleT (wide (q0 m c))) :=
  RefSeg.v52 _ (v1_10 m ρ c) (v41_10 m ρ c)

theorem cst_18_11 : W11 m ρ c (Proc.devRef .tc main_cst_18) = (constant S_ .f32 0xC3E00000#32 : FVec Ideal S_ .f32) :=
  RefSeg.cst_18 _

theorem cst_19_11 : W11 m ρ c (Proc.devRef .tc main_cst_19) = (constant S_ .f32 0x43E00000#32 : FVec Ideal S_ .f32) :=
  RefSeg.cst_19 _

theorem v53_12 : W12 m ρ c (Proc.devRef .tc main_v53) = codeT (wide (q0 m c)) :=
  (RefSeg.v53 _ (cst_18_11 m ρ c) (cst_19_11 m ρ c) (v52_11 m ρ c)).trans (codeT_eq _).symm

theorem v47_12 : W12 m ρ c (Proc.devRef .tc main_v47) = codeT (wide (k0 m c)) :=
  ((W12_of m ρ c main_v47 (by decide)).trans (W11_of m ρ c main_v47 (by decide))).trans (v47_10 m ρ c)

theorem v0_12 : W12 m ρ c (Proc.devRef .tc main_v0) = (wide (k0 m c)) :=
  ((W12_of m ρ c main_v0 (by decide)).trans ((W11_of m ρ c main_v0 (by decide)).trans ((W10_of m ρ c main_v0 (by decide)).trans (W9_of m ρ c main_v0 (by decide))))).trans (v0_8 m ρ c)

theorem v0_13 : W13 m ρ c (Proc.devRef .tc main_v0) = (wide (k0 m c)) :=
  (W13_of m ρ c main_v0 (by decide)).trans (v0_12 m ρ c)

theorem v1_12 : W12 m ρ c (Proc.devRef .tc main_v1) = (wide (q0 m c)) :=
  ((W12_of m ρ c main_v1 (by decide)).trans (W11_of m ρ c main_v1 (by decide))).trans (v1_10 m ρ c)

theorem v1_13 : W13 m ρ c (Proc.devRef .tc main_v1) = (wide (q0 m c)) :=
  (W13_of m ρ c main_v1 (by decide)).trans (v1_12 m ρ c)

theorem v21_12 : W12 m ρ c (Proc.devRef .tc main_v21) = scaleT (wide (k0 m c)) :=
  ((W12_of m ρ c main_v21 (by decide)).trans ((W11_of m ρ c main_v21 (by decide)).trans ((W10_of m ρ c main_v21 (by decide)).trans (W9_of m ρ c main_v21 (by decide))))).trans (v21_8 m ρ c)

theorem v21_13 : W13 m ρ c (Proc.devRef .tc main_v21) = scaleT (wide (k0 m c)) :=
  (W13_of m ρ c main_v21 (by decide)).trans (v21_12 m ρ c)

theorem v41_12 : W12 m ρ c (Proc.devRef .tc main_v41) = scaleT (wide (q0 m c)) :=
  ((W12_of m ρ c main_v41 (by decide)).trans (W11_of m ρ c main_v41 (by decide))).trans (v41_10 m ρ c)

theorem v41_13 : W13 m ρ c (Proc.devRef .tc main_v41) = scaleT (wide (q0 m c)) :=
  (W13_of m ρ c main_v41 (by decide)).trans (v41_12 m ρ c)

section Region

variable (V : (c : Dev nD) → (b : Ref sig .tc) → Buf (Elt Ideal) ((c : Thread nD τ).loc b)) (d : Dev nD)

theorem index_0 : ∀ (t : Fin cfg0.N) (a : Fin 4), win0_0.index t a = 0 := by decide +kernel
theorem emb_0 (t : Fin cfg0.N) (y : S4x3072x6x256.Idx) : ((cfg0.win 0).blk t).view.emb y = y := by
  funext a
  apply Fin.ext
  exact Window.rect_emb_val_of_index_zero (cfg0.win 0) t a (index_0 t a) y
theorem index_1 : ∀ (t : Fin cfg0.N) (a : Fin 4), win0_1.index t a = 0 := by decide +kernel
theorem emb_1 (t : Fin cfg0.N) (y : S4x3072x6x256.Idx) : ((cfg0.win 1).blk t).view.emb y = y := by
  funext a
  apply Fin.ext
  exact Window.rect_emb_val_of_index_zero (cfg0.win 1) t a (index_1 t a) y

theorem pays_2 (x0 x1 : Vec Ideal S4x3072x6x256 .f32) : out0_2 x0 x1 = x0 := by
  unfold out0_2 r0_0
  rw [View.canon_cons_unit_lit _ _ _ (by decide), View.ld_unit_lit _ _ (by decide)]
  unfold k0_pay1
  rw [shapeCast_self]
  rfl
theorem index_2 : ∀ (t : Fin cfg0.N) (a : Fin 4), win0_2.index t a = 0 := by decide +kernel
theorem emb_2 (t : Fin cfg0.N) (y : S4x3072x6x256.Idx) : ((cfg0.win 2).blk t).view.emb y = y := by
  funext a
  apply Fin.ext
  exact Window.rect_emb_val_of_index_zero (cfg0.win 2) t a (index_2 t a) y
theorem array_2 : (dat0 V d).arrAt 2 cfg0.N = V d main_v47 := by
  refine Dat.arrAt_eq_of_cover _ 2 _ (fun t _ => ?_) (fun i => ⟨⟨0, by decide⟩, flush0_2 _, ?_⟩)
  · funext y
    show (cfg0.win 2).cut (grid0.coords t) ((dat0 V d).after 2 t) y = _
    rw [after0_2, pays_2]
    show V d main_v47 (((cfg0.win 0).blk t).view.emb y) = V d main_v47 (((cfg0.win 2).blk t).view.emb y)
    rw [emb_2, emb_0]
  · exact Finset.mem_map.2 ⟨i, Finset.mem_univ _, emb_2 _ i⟩

theorem pays_3 (x0 x1 : Vec Ideal S4x3072x6x256 .f32) : out0_3 x0 x1 = x1 := by
  unfold out0_3 r0_0
  rw [View.canon_cons_unit_lit _ _ _ (by decide), View.ld_unit_lit _ _ (by decide)]
  unfold k0_pay2
  rw [shapeCast_self]
  rfl
theorem index_3 : ∀ (t : Fin cfg0.N) (a : Fin 4), win0_3.index t a = 0 := by decide +kernel
theorem emb_3 (t : Fin cfg0.N) (y : S4x3072x6x256.Idx) : ((cfg0.win 3).blk t).view.emb y = y := by
  funext a
  apply Fin.ext
  exact Window.rect_emb_val_of_index_zero (cfg0.win 3) t a (index_3 t a) y
theorem array_3 : (dat0 V d).arrAt 3 cfg0.N = V d main_v53 := by
  refine Dat.arrAt_eq_of_cover _ 3 _ (fun t _ => ?_) (fun i => ⟨⟨0, by decide⟩, flush0_3 _, ?_⟩)
  · funext y
    show (cfg0.win 3).cut (grid0.coords t) ((dat0 V d).after 3 t) y = _
    rw [after0_3, pays_3]
    show V d main_v53 (((cfg0.win 1).blk t).view.emb y) = V d main_v53 (((cfg0.win 3).blk t).view.emb y)
    rw [emb_3, emb_1]
  · exact Finset.mem_map.2 ⟨i, Finset.mem_univ _, emb_3 _ i⟩

theorem pays_4 (x0 x1 : Vec Ideal S4x3072x6x256 .f32) : out0_4 x0 x1 = x0 := by
  unfold out0_4 r0_0
  rw [View.canon_cons_unit_lit _ _ _ (by decide), View.ld_unit_lit _ _ (by decide)]
  unfold k0_pay3 k0_pay1
  rw [shapeCast_self]
  rfl
theorem index_4 : ∀ (t : Fin cfg0.N) (a : Fin 4), win0_4.index t a = 0 := by decide +kernel
theorem emb_4 (t : Fin cfg0.N) (y : S4x3072x6x256.Idx) : ((cfg0.win 4).blk t).view.emb y = y := by
  funext a
  apply Fin.ext
  exact Window.rect_emb_val_of_index_zero (cfg0.win 4) t a (index_4 t a) y
theorem array_4 : (dat0 V d).arrAt 4 cfg0.N = V d main_v47 := by
  refine Dat.arrAt_eq_of_cover _ 4 _ (fun t _ => ?_) (fun i => ⟨⟨0, by decide⟩, flush0_4 _, ?_⟩)
  · funext y
    show (cfg0.win 4).cut (grid0.coords t) ((dat0 V d).after 4 t) y = _
    rw [after0_4, pays_4]
    show V d main_v47 (((cfg0.win 0).blk t).view.emb y) = V d main_v47 (((cfg0.win 4).blk t).view.emb y)
    rw [emb_4, emb_0]
  · exact Finset.mem_map.2 ⟨i, Finset.mem_univ _, emb_4 _ i⟩

theorem pays_5 (x0 x1 : Vec Ideal S4x3072x6x256 .f32) : out0_5 x0 x1 = x1 := by
  unfold out0_5 r0_0
  rw [View.canon_cons_unit_lit _ _ _ (by decide), View.ld_unit_lit _ _ (by decide)]
  unfold k0_pay4 k0_pay2
  rw [shapeCast_self]
  rfl
theorem index_5 : ∀ (t : Fin cfg0.N) (a : Fin 4), win0_5.index t a = 0 := by decide +kernel
theorem emb_5 (t : Fin cfg0.N) (y : S4x3072x6x256.Idx) : ((cfg0.win 5).blk t).view.emb y = y := by
  funext a
  apply Fin.ext
  exact Window.rect_emb_val_of_index_zero (cfg0.win 5) t a (index_5 t a) y
theorem array_5 : (dat0 V d).arrAt 5 cfg0.N = V d main_v53 := by
  refine Dat.arrAt_eq_of_cover _ 5 _ (fun t _ => ?_) (fun i => ⟨⟨0, by decide⟩, flush0_5 _, ?_⟩)
  · funext y
    show (cfg0.win 5).cut (grid0.coords t) ((dat0 V d).after 5 t) y = _
    rw [after0_5, pays_5]
    show V d main_v53 (((cfg0.win 1).blk t).view.emb y) = V d main_v53 (((cfg0.win 5).blk t).view.emb y)
    rw [emb_5, emb_1]
  · exact Finset.mem_map.2 ⟨i, Finset.mem_univ _, emb_5 _ i⟩

end Region

theorem v54_0_13 : (W13 m ρ c (Proc.devRef .tc main_v54_0) : S4x3072x6x256.Idx → EReal) = codeT (wide (k0 m c)) :=
  (W13_arr m ρ c 2).trans ((array_2 _ _).trans (v47_12 m ρ c))

theorem v54_1_13 : (W13 m ρ c (Proc.devRef .tc main_v54_1) : S4x3072x6x256.Idx → EReal) = codeT (wide (q0 m c)) :=
  (W13_arr m ρ c 3).trans ((array_3 _ _).trans (v53_12 m ρ c))

theorem v54_2_13 : (W13 m ρ c (Proc.devRef .tc main_v54_2) : S4x3072x6x256.Idx → EReal) = codeT (wide (k0 m c)) :=
  (W13_arr m ρ c 4).trans ((array_4 _ _).trans (v47_12 m ρ c))

theorem v54_3_13 : (W13 m ρ c (Proc.devRef .tc main_v54_3) : S4x3072x6x256.Idx → EReal) = codeT (wide (q0 m c)) :=
  (W13_arr m ρ c 5).trans ((array_5 _ _).trans (v53_12 m ρ c))

variable {N : Nums}

/-- The reference's arguments hold the numbers `N`. -/
def HoldsR (N : Nums) : Prop :=
  Holds N (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem Went_eq : Went m ρ c = StableHlo.after hostOps1 (W13 m ρ c) := rfl

/-- Tokens first: an array of lanes. -/
theorem front256 (y : FVec Ideal S4x3072x6x256 .f32) (T : Fin 3072) (b : Fin 4) (h : Fin 6) (a : Fin 256) :
    transpose S3072x4x6x256 [1, 0, 2, 3] y transposes_S4x3072x6x256_S3072x4x6x256_1_0_2_3 (ix4 T b h a) = y (ix4 b T h a) := by pointwise []
theorem front512 (y : FVec Ideal S4x3072x6x512 .f32) (T : Fin 3072) (b : Fin 4) (h : Fin 6) (a : Fin 512) :
    transpose S3072x4x6x512 [1, 0, 2, 3] y transposes_S4x3072x6x512_S3072x4x6x512_1_0_2_3 (ix4 T b h a) = y (ix4 b T h a) := by pointwise []
theorem front1 (y : FVec Ideal S4x3072x6 .f32) (T : Fin 3072) (b : Fin 4) (h : Fin 6) :
    transpose S3072x4x6 [1, 0, 2] y transposes_S4x3072x6_S3072x4x6_1_0_2 (ix3 T b h) = y (ix3 b T h) := by pointwise []

variable {m c}

theorem wide_k (H : HoldsR m c N) (b : Fin 4) (t : Fin 3072) (h : Fin 6) (k : Fin 256) : wide (k0 m c) (ix4 b t h k) = ((N.k b t.val h k : ℝ) : EReal) := H.k b t h k
theorem wide_q (H : HoldsR m c N) (b : Fin 4) (t : Fin 3072) (h : Fin 6) (k : Fin 256) : wide (q0 m c) (ix4 b t h k) = ((N.q b t.val h k : ℝ) : EReal) := H.q b t h k

theorem normed_k (H : HoldsR m c N) (b : Fin 4) (t : Fin 3072) (h : Fin 6) (k : Fin 256) :
    normedT (wide (k0 m c)) (codeT (wide (k0 m c))) (scaleT (wide (k0 m c))) (ix4 b t h k) = ((kn N b h t.val k : ℝ) : EReal) :=
  unitT_at (wide_k H b t h) (H.okk b t h) (codeT_at (wide_k H b t h) (H.okk b t h) k)

theorem normed_q (H : HoldsR m c N) (b : Fin 4) (t : Fin 3072) (h : Fin 6) (k : Fin 256) :
    mulf (normedT (wide (q0 m c)) (codeT (wide (q0 m c))) (scaleT (wide (q0 m c)))) (broadcastInDim S4x3072x6x256 ![] bcast_S_S4x3072x6x256 (constant S_ .f32 0x3D800000#32)) (ix4 b t h k)
      = ((qn N b h t.val k : ℝ) : EReal) := by
  have e := unitT_at (wide_q H b t h) (H.okq b t h) (codeT_at (wide_q H b t h) (H.okq b t h) k)
  refine (congrArg₂ (fun x y : EReal => x * y) e ((fill_at 0x3D800000#32 (ix4 b t h k)).trans sixteenth_coe)).trans ?_
  show ((_ : ℝ) : EReal) * ((_ : ℝ) : EReal) = _
  rw [← EReal.coe_mul]
  congr 1
  unfold qn
  ring

/-- What the token loop starts from. -/
theorem carried (H : HoldsR m c N) : Carried N (Went m ρ c) 0 := by
  rw [Went_eq]
  unfold Carried
  rw [RefSeg.v90_0 _ (v1_13 m ρ c) (v54_3_13 m ρ c) (v41_13 m ρ c), RefSeg.v90_1 _ (v0_13 m ρ c) (v54_2_13 m ρ c) (v21_13 m ρ c),
    RefSeg.v90_2 _ (W13_args m ρ c main_arg2 (by decide)), RefSeg.v90_3 _ (W13_args m ρ c main_arg3 (by decide)), RefSeg.v90_4 _ (W13_args m ρ c main_arg4 (by decide)),
    RefSeg.v90_5, RefSeg.v90_6 _ (W13_args m ρ c main_arg5 (by decide))]
  exact {
    q := fun T b h a => (front256 _ T b h a).trans (normed_q H b T h a)
    k := fun T b h a => (front256 _ T b h a).trans (normed_k H b T h a)
    v := fun T b h a => (front512 _ T b h a).trans (H.v b T h a)
    g := fun T b h => (front1 _ T b h).trans (H.g b T h)
    b := fun T b h => (front1 _ T b h).trans (H.b b T h)
    ctr := rfl
    s := fun b h a c => H.s b h a c
    o := fun _ _ _ _ h => absurd h (Nat.not_lt_zero _) }

/-- What it ends with. -/
theorem ended (H : HoldsR m c N) : Carried N (STEP^[nT] (Went m ρ c)) 3072 := trips (carried ρ H) 3072 le_rfl

theorem went_kept (r : Ref sig .tc) (h : r ∉ hostOps1_W) : Went m ρ c (Proc.devRef .tc r) = W13 m ρ c (Proc.devRef .tc r) := by
  rw [Went_eq]
  exact W14_of m ρ c r h

/-! ## The results -/

/-- The output. -/
theorem v93_at (H : HoldsR m c N) (b : Fin 4) (h : Fin 6) (t : Fin 3072) (k : Fin 512) :
    (WN m ρ c (Proc.devRef .tc main_v93) : (⟨4, ![4, 6, 3072, 512]⟩ : Shape).Idx → EReal) (ix4 b h t k) = ((out N b h t.val k : ℝ) : EReal) := by
  rw [final_main_v93]
  have e := (ended ρ H).o t b h k t.isLt
  unfold out_main_v93
  generalize (STEP^[nT] (Went m ρ c)) (Proc.devRef .tc main_v90_7) = O at e ⊢
  exact Eq.trans (by pointwise []) e

/-- The final state. -/
theorem v90_at (H : HoldsR m c N) (b : Fin 4) (h : Fin 6) (a : Fin 256) (k : Fin 512) :
    (WN m ρ c (Proc.devRef .tc main_v90_6) : (⟨4, ![4, 6, 256, 512]⟩ : Shape).Idx → EReal) (ix4 b h a k) = ((st N b h 3072 a k : ℝ) : EReal) := by
  rw [final_main_v90_6]
  exact (ended ρ H).s b h a k

/-- Heads before tokens: an array of lanes. -/
theorem heads256 (y : FVec Ideal S4x3072x6x256 .fp8e4m3) (b : Fin 4) (h : Fin 6) (t : Fin 3072) (a : Fin 256) :
    transpose S4x6x3072x256 [0, 2, 1, 3] y transposes_S4x3072x6x256_S4x6x3072x256_0_2_1_3 (ix4 b h t a) = y (ix4 b t h a) := by pointwise []
theorem heads1 (y : FVec Ideal S4x3072x6 .f32) (h : Fin 6) (b : Fin 4) (t : Fin 3072) :
    transpose S6x4x3072 [2, 0, 1] y transposes_S4x3072x6_S6x4x3072_2_0_1 (ix3 h b t) = y (ix3 b t h) := by pointwise []

/-- The keys' codes. -/
theorem v94_at (H : HoldsR m c N) (b : Fin 4) (h : Fin 6) (t : Fin 3072) (k : Fin 256) :
    (WN m ρ c (Proc.devRef .tc main_v94) : (⟨4, ![4, 6, 3072, 256]⟩ : Shape).Idx → EReal) (ix4 b h t k) = ((codeR (N.k b t.val h) k : ℝ) : EReal) := by
  rw [final_main_v94]
  unfold out_main_v94
  rw [iter_main_v54_0, went_kept ρ main_v54_0 (by decide)]
  exact (heads256 _ b h t k).trans ((congrFun (v54_0_13 m ρ c) _).trans (codeT_at (wide_k H b t h) (H.okk b t h) k))
/-- The keys' scales. -/
theorem v95_at (H : HoldsR m c N) (h : Fin 6) (b : Fin 4) (t : Fin 3072) :
    (WN m ρ c (Proc.devRef .tc main_v95) : (⟨3, ![6, 4, 3072]⟩ : Shape).Idx → EReal) (ix3 h b t) = ((scaleR (N.k b t.val h) : ℝ) : EReal) := by
  rw [final_main_v95]
  unfold out_main_v95
  rw [iter_main_v21, went_kept ρ main_v21 (by decide)]
  exact (heads1 _ h b t).trans ((congrFun (v21_13 m ρ c) _).trans (scaleT_at (wide_k H b t h) (H.okk b t h)))
/-- The queries' codes. -/
theorem v96_at (H : HoldsR m c N) (b : Fin 4) (h : Fin 6) (t : Fin 3072) (k : Fin 256) :
    (WN m ρ c (Proc.devRef .tc main_v96) : (⟨4, ![4, 6, 3072, 256]⟩ : Shape).Idx → EReal) (ix4 b h t k) = ((codeR (N.q b t.val h) k : ℝ) : EReal) := by
  rw [final_main_v96]
  unfold out_main_v96
  rw [iter_main_v54_1, went_kept ρ main_v54_1 (by decide)]
  exact (heads256 _ b h t k).trans ((congrFun (v54_1_13 m ρ c) _).trans (codeT_at (wide_q H b t h) (H.okq b t h) k))
/-- The queries' scales. -/
theorem v97_at (H : HoldsR m c N) (h : Fin 6) (b : Fin 4) (t : Fin 3072) :
    (WN m ρ c (Proc.devRef .tc main_v97) : (⟨3, ![6, 4, 3072]⟩ : Shape).Idx → EReal) (ix3 h b t) = ((scaleR (N.q b t.val h) : ℝ) : EReal) := by
  rw [final_main_v97]
  unfold out_main_v97
  rw [iter_main_v41, went_kept ρ main_v41 (by decide)]
  exact (heads1 _ h b t).trans ((congrFun (v41_13 m ρ c) _).trans (scaleT_at (wide_q H b t h) (H.okq b t h)))

end Cert.RefVal

end
-- ==== Proof.PreVal.lean ====
/- What the claim's precondition says of the arguments: they are real numbers, and every token of q and k is one both sides
   quantise alike. -/
module

public import proofs.«01_k».proof.Proof.Spec
public import proofs.«01_k».proof.Pre_finite_and_normal

@[expose] public section

set_option maxRecDepth 16384

noncomputable section

namespace Cert.PreVal

open Idealize.ShloMosaic Cert.Pre_finite_and_normal Cert.Pre_finite_and_normal.Facts Cert.Quant Cert.Blk Cert.Spec

/-- The shape relations the precondition's operations take. -/
instance facts : Cert.Pre_finite_and_normal.Facts where
  bitsLt_bf16_f32 := by decide
  reducesTo_S4x3072x6x256_S4x3072x6_d3 := by decide
  h_S_ := by decide
  bcast_S_S4x3072x6x256 := by decide
  bcast_S_S4x3072x6 := by decide
  bcast_S_S4x3072x6x512 := by decide
  bcast_S_S4x6x256x512 := by decide

/-- Each token's largest absolute value. -/
def amaxP (x : FVec Ideal S4x3072x6x256 .f32) : FVec Ideal S4x3072x6 .f32 :=
  Host.reduce FloatOps.maximumf (Host.absf x) (constant S_ .f32 0xFF800000#32) reducesTo_S4x3072x6x256_S4x3072x6_d3 h_S_
/-- Where a value lies within the bound. -/
def boundP (x : FVec Ideal S4x3072x6x256 .f32) : IVec S4x3072x6x256 1 :=
  cmpf .ole (Host.absf x) (broadcastInDim S4x3072x6x256 ![] bcast_S_S4x3072x6x256 (constant S_ .f32 0x7F7F0000#32))
/-- Where a token is zero or its max|x| / 448 is normal. -/
def normalP (a : FVec Ideal S4x3072x6 .f32) : IVec S4x3072x6 1 :=
  ori (cmpf .oeq a (broadcastInDim S4x3072x6 ![] bcast_S_S4x3072x6 (constant S_ .f32 0x00000000#32)))
    (cmpf .oge (mulf a (broadcastInDim S4x3072x6 ![] bcast_S_S4x3072x6 (constant S_ .f32 0x3B124925#32))) (broadcastInDim S4x3072x6 ![] bcast_S_S4x3072x6 (constant S_ .f32 0x00800000#32)))
/-- An argument as f32. -/
def wideP {S : Shape} (x : FVec Ideal S .bf16) : FVec Ideal S .f32 := extf .f32 x bitsLt_bf16_f32

variable (A0 A1 : FVec Ideal S4x3072x6x256 .bf16) (A2 : FVec Ideal S4x3072x6x512 .bf16) (A3 A4 : FVec Ideal S4x3072x6 .f32) (A5 : FVec Ideal S4x6x256x512 .f32)

/-- The precondition's results. -/
theorem parts : fn A0 A1 A2 A3 A4 A5 = (boundP (wideP A0), normalP (amaxP (wideP A0)), boundP (wideP A1), normalP (amaxP (wideP A1)),
    cmpf .olt (Host.absf (wideP A2)) (broadcastInDim S4x3072x6x512 ![] bcast_S_S4x3072x6x512 (constant S_ .f32 0x7F800000#32)),
    cmpf .olt (Host.absf A3) (broadcastInDim S4x3072x6 ![] bcast_S_S4x3072x6 (constant S_ .f32 0x7F800000#32)),
    cmpf .olt (Host.absf A4) (broadcastInDim S4x3072x6 ![] bcast_S_S4x3072x6 (constant S_ .f32 0x7F800000#32)),
    cmpf .olt (Host.absf A5) (broadcastInDim S4x6x256x512 ![] bcast_S_S4x6x256x512 (constant S_ .f32 0x7F800000#32))) := rfl

theorem of_bit {p : Prop} [Decidable p] (h : BitVec.ofBool (decide p) = 1#1) : p := by
  by_contra hn
  rw [decide_eq_false hn] at h
  exact absurd h (by decide)

theorem or_bit : ∀ a b : BitVec 1, a ||| b = 1#1 → a = 1#1 ∨ b = 1#1 := by decide

theorem abs_coe (x : ℝ) : FloatOps.absf (F := Ideal) (φ := .f32) ((x : ℝ) : EReal) = ((|x| : ℝ) : EReal) := by
  show max ((x : ℝ) : EReal) (-((x : ℝ) : EReal)) = _
  rw [← EReal.coe_neg]
  exact (EReal.coe_strictMono.monotone.map_max (a := x) (b := -x)).symm

/-- A value of finite magnitude is a real number. -/
theorem real_of_lt {x : EReal} (h : FloatOps.absf (F := Ideal) (φ := .f32) x < ⊤) : x = ((x.toReal : ℝ) : EReal) := by
  change max x (-x) < ⊤ at h
  induction x with
  | bot => simp at h
  | top => simp at h
  | coe r => rfl

theorem real_of_bit {S : Shape} (x B : FVec Ideal S .f32) (hB : ∀ i, B i = ⊤) (h : cmpf .olt (Host.absf x) B = fun _ => 1#1) (i : S.Idx) :
    x i = (((x i : EReal).toReal : ℝ) : EReal) := by
  have e : FloatOps.absf (F := Ideal) (φ := .f32) (x i) < B i := of_bit (congrFun h i)
  rw [hB] at e
  exact real_of_lt e

theorem bound_coe : Ideal.ofBits .f32 0x7F7F0000#32 = ((255 * (2 : ℝ) ^ (120 : ℤ) : ℝ) : EReal) := by
  simp [Ideal.ofBits, Ideal.ieee]
  norm_num
  rw [← EReal.coe_pow, ← EReal.coe_pow, ← EReal.coe_mul, ← EReal.coe_mul]
  norm_num

theorem tiny_coe : Ideal.ofBits .f32 0x00800000#32 = (((2 : ℝ) ^ (-126 : ℤ) : ℝ) : EReal) := by
  simp [Ideal.ofBits, Ideal.ieee]
  norm_num
  rw [← EReal.coe_mul]
  norm_num

theorem eq_bit {S : Shape} (P Y : FVec Ideal S .f32) (i : S.Idx) (h : cmpf .oeq P Y i = 1#1) : P i = Y i := of_bit h
theorem ge_bit {S : Shape} (P Y : FVec Ideal S .f32) (i : S.Idx) (h : cmpf .oge P Y i = 1#1) : Y i ≤ P i := of_bit h
theorem le_bit {S : Shape} (P Y : FVec Ideal S .f32) (i : S.Idx) (h : cmpf .ole P Y i = 1#1) : P i ≤ Y i := of_bit h
theorem ori_bit {S : Shape} (P Y : IVec S 1) (i : S.Idx) (h : ori P Y i = 1#1) : P i = 1#1 ∨ Y i = 1#1 := or_bit _ _ h
theorem flat_at (w : BitVec 32) (i : S4x3072x6.Idx) : broadcastInDim S4x3072x6 ![] bcast_S_S4x3072x6 (constant (F := Ideal) S_ .f32 w) i = Ideal.ofBits .f32 w := rfl
theorem times_at (a : FVec Ideal S4x3072x6 .f32) (w : BitVec 32) (i : S4x3072x6.Idx) :
    mulf a (broadcastInDim S4x3072x6 ![] bcast_S_S4x3072x6 (constant (F := Ideal) S_ .f32 w)) i = a i * Ideal.ofBits .f32 w := rfl

theorem bounded {x : FVec Ideal S4x3072x6x256 .f32} (h : boundP x = fun _ => 1#1) (i : S4x3072x6x256.Idx) :
    x i = (((x i : EReal).toReal : ℝ) : EReal) ∧ |(x i : EReal).toReal| ≤ 255 * (2 : ℝ) ^ (120 : ℤ) := by
  have e : FloatOps.absf (F := Ideal) (φ := .f32) (x i) ≤ Ideal.ofBits .f32 0x7F7F0000#32 := of_bit (congrFun h i)
  rw [bound_coe] at e
  have r : x i = (((x i : EReal).toReal : ℝ) : EReal) := real_of_lt (e.trans_lt (EReal.coe_lt_top _))
  refine ⟨r, ?_⟩
  rw [r, abs_coe, EReal.coe_le_coe_iff] at e
  exact e

theorem amaxP_at {x : FVec Ideal S4x3072x6x256 .f32} {X : Fin 256 → ℝ} {b : Fin 4} {t : Fin 3072} {h : Fin 6}
    (hx : ∀ k, x (ix4 b t h k) = ((X k : ℝ) : EReal)) : amaxP x (ix3 b t h) = ((top X : ℝ) : EReal) := by
  pointwise [amaxP]
  exact fold_top hx

/-- A bounded token of the precondition is one the scale is defined for. -/
theorem ok {x : FVec Ideal S4x3072x6x256 .f32} (hb : boundP x = fun _ => 1#1) (hn : normalP (amaxP x) = fun _ => 1#1) (b : Fin 4) (t : Fin 3072) (h : Fin 6) :
    Ok fun k => (x (ix4 b t h k) : EReal).toReal := by
  have ha := amaxP_at (x := x) (b := b) (t := t) (h := h) fun k => (bounded hb (ix4 b t h k)).1
  generalize amaxP x = a at *
  have e := congrFun hn (ix3 b t h)
  unfold normalP at e
  obtain e | e := ori_bit _ _ _ e
  · left
    have e := eq_bit _ _ _ e
    rw [ha, flat_at] at e
    have z : Ideal.ofBits .f32 0x00000000#32 = ((0 : ℝ) : EReal) := by simp [Ideal.ofBits, Ideal.ieee]
    rw [z] at e
    exact EReal.coe_eq_coe_iff.1 e
  · right
    have e := ge_bit _ _ _ e
    rw [flat_at, times_at, ha, c448_coe, tiny_coe, ← EReal.coe_mul, EReal.coe_le_coe_iff] at e
    refine ⟨e, ?_⟩
    have u : top (fun k => (x (ix4 b t h k) : EReal).toReal) ≤ 255 * (2 : ℝ) ^ (120 : ℤ) :=
      Finset.sup'_le _ _ fun k _ => (bounded hb (ix4 b t h k)).2
    refine (mul_le_mul_of_nonneg_right u c448_pos.le).trans_lt ?_
    unfold c448
    norm_num

/-- The numbers the arguments hold. -/
def nums (A0 A1 : FVec Ideal S4x3072x6x256 .bf16) (A2 : FVec Ideal S4x3072x6x512 .bf16) (A3 A4 : FVec Ideal S4x3072x6 .f32) (A5 : FVec Ideal S4x6x256x512 .f32) : Nums where
  q b t h k := if H : t < 3072 then (A0 (ix4 b ⟨t, H⟩ h k) : EReal).toReal else 0
  k b t h k := if H : t < 3072 then (A1 (ix4 b ⟨t, H⟩ h k) : EReal).toReal else 0
  v b t h k := if H : t < 3072 then (A2 (ix4 b ⟨t, H⟩ h k) : EReal).toReal else 0
  g b t h := if H : t < 3072 then (A3 (ix3 b ⟨t, H⟩ h) : EReal).toReal else 0
  β b t h := if H : t < 3072 then (A4 (ix3 b ⟨t, H⟩ h) : EReal).toReal else 0
  s b h a c := (A5 (ix4 b h a c) : EReal).toReal

variable {A0 A1 A2 A3 A4 A5}

theorem q_val (b : Fin 4) (t : Fin 3072) (h : Fin 6) (k : Fin 256) : (nums A0 A1 A2 A3 A4 A5).q b t.val h k = (A0 (ix4 b t h k) : EReal).toReal := dif_pos t.isLt
theorem k_val (b : Fin 4) (t : Fin 3072) (h : Fin 6) (k : Fin 256) : (nums A0 A1 A2 A3 A4 A5).k b t.val h k = (A1 (ix4 b t h k) : EReal).toReal := dif_pos t.isLt
theorem v_val (b : Fin 4) (t : Fin 3072) (h : Fin 6) (k : Fin 512) : (nums A0 A1 A2 A3 A4 A5).v b t.val h k = (A2 (ix4 b t h k) : EReal).toReal := dif_pos t.isLt
theorem g_val (b : Fin 4) (t : Fin 3072) (h : Fin 6) : (nums A0 A1 A2 A3 A4 A5).g b t.val h = (A3 (ix3 b t h) : EReal).toReal := dif_pos t.isLt
theorem β_val (b : Fin 4) (t : Fin 3072) (h : Fin 6) : (nums A0 A1 A2 A3 A4 A5).β b t.val h = (A4 (ix3 b t h) : EReal).toReal := dif_pos t.isLt

/-- Under the precondition the arguments hold those numbers. -/
theorem holds (h : (fn A0 A1 A2 A3 A4 A5).1 = (fun _ => 1#1) ∧ (fn A0 A1 A2 A3 A4 A5).2.1 = (fun _ => 1#1) ∧ (fn A0 A1 A2 A3 A4 A5).2.2.1 = (fun _ => 1#1)
    ∧ (fn A0 A1 A2 A3 A4 A5).2.2.2.1 = (fun _ => 1#1) ∧ (fn A0 A1 A2 A3 A4 A5).2.2.2.2.1 = (fun _ => 1#1) ∧ (fn A0 A1 A2 A3 A4 A5).2.2.2.2.2.1 = (fun _ => 1#1)
    ∧ (fn A0 A1 A2 A3 A4 A5).2.2.2.2.2.2.1 = (fun _ => 1#1) ∧ (fn A0 A1 A2 A3 A4 A5).2.2.2.2.2.2.2 = (fun _ => 1#1)) :
    Holds (nums A0 A1 A2 A3 A4 A5) A0 A1 A2 A3 A4 A5 := by
  rw [parts] at h
  obtain ⟨h0, h1, h2, h3, h4, h5, h6, h7⟩ := h
  have top_coe : Ideal.ofBits .f32 0x7F800000#32 = (⊤ : EReal) := by simp [Ideal.ofBits, Ideal.ieee]
  exact {
    q := fun b t h k => by rw [q_val]; exact ((bounded h0 (ix4 b t h k)).1)
    k := fun b t h k => by rw [k_val]; exact ((bounded h2 (ix4 b t h k)).1)
    v := fun b t h k => by rw [v_val]; exact (real_of_bit _ _ (fun _ => top_coe) h4 (ix4 b t h k))
    g := fun b t h => by rw [g_val]; exact (real_of_bit _ _ (fun _ => top_coe) h5 (ix3 b t h))
    b := fun b t h => by rw [β_val]; exact (real_of_bit _ _ (fun _ => top_coe) h6 (ix3 b t h))
    s := fun b h a c => real_of_bit _ _ (fun _ => top_coe) h7 (ix4 b h a c)
    okq := fun b t h => by
      have e : (nums A0 A1 A2 A3 A4 A5).q b t.val h = fun k => (wideP A0 (ix4 b t h k) : EReal).toReal := funext fun k => q_val b t h k
      rw [e]
      exact ok h0 h1 b t h
    okk := fun b t h => by
      have e : (nums A0 A1 A2 A3 A4 A5).k b t.val h = fun k => (wideP A1 (ix4 b t h k) : EReal).toReal := funext fun k => k_val b t h k
      rw [e]
      exact ok h2 h3 b t h }

end Cert.PreVal

end
-- ==== Proof.Same.lean ====
/- The kernel and the reference leave the same arrays: each result of either side, at an index, is the same expression in the
   numbers the arguments hold. -/
module

public import proofs.«01_k».proof.Defs
public import proofs.«01_k».proof.Proof.Grid
public import proofs.«01_k».proof.Proof.RefVal
public import proofs.«01_k».proof.Proof.PreVal

@[expose] public section

set_option maxRecDepth 16384

noncomputable section

namespace Cert.Same

open Idealize.ShloMosaic Idealize.ShloMosaic.TcCoe Cert.Spec

/-- Arrays of four axes equal at every index are equal. -/
theorem ext4 {α : Type} {p q r s : ℕ} {f g : (⟨4, ![p, q, r, s]⟩ : Shape).Idx → α}
    (h : ∀ (a : Fin p) (b : Fin q) (c : Fin r) (d : Fin s), f (ix4 a b c d) = g (ix4 a b c d)) : f = g := by
  funext i
  have e : i = ix4 (i 0) (i 1) (i 2) (i 3) := by
    funext a
    match a with
    | ⟨0, _⟩ => rfl
    | ⟨1, _⟩ => rfl
    | ⟨2, _⟩ => rfl
    | ⟨3, _⟩ => rfl
  rw [e]
  exact h _ _ _ _

/-- Arrays of three axes equal at every index are equal. -/
theorem ext3 {α : Type} {p q r : ℕ} {f g : (⟨3, ![p, q, r]⟩ : Shape).Idx → α}
    (h : ∀ (a : Fin p) (b : Fin q) (c : Fin r), f (ix3 a b c) = g (ix3 a b c)) : f = g := by
  funext i
  have e : i = ix3 (i 0) (i 1) (i 2) := by
    funext a
    match a with
    | ⟨0, _⟩ => rfl
    | ⟨1, _⟩ => rfl
    | ⟨2, _⟩ => rfl
  rw [e]
  exact h _ _ _

attribute [local instance] Cert.KernelIdeal.Gen.facts Cert.ReferenceIdeal.Gen.facts Cert.PreVal.facts

/-- Under the precondition the kernel's idealization and the reference's leave the same results. -/
theorem algebraic : Cert.algebraic_KernelIdeal_ReferenceIdeal_pre_finite_and_normal := by
  intro m g m' g' hP hA
  have HK : ∀ c, ∃ N, Cert.Grid.HoldsK m c N := fun c => ⟨_, Cert.PreVal.holds (hP c)⟩
  have HR : ∀ c N, Cert.Grid.HoldsK m c N → Cert.RefVal.HoldsR m' c N := fun c N H => by
    obtain ⟨e0, e1, e2, e3, e4, e5⟩ := hA c
    unfold Cert.RefVal.HoldsR
    rw [e0, e1, e2, e3, e4, e5]
    exact H
  refine ⟨Cert.KernelIdeal.Value.G6 m, Cert.KernelIdeal.Value.G7 m, Cert.KernelIdeal.Value.G8 m, Cert.KernelIdeal.Value.G9 m, Cert.KernelIdeal.Value.G10 m,
    Cert.KernelIdeal.Value.G11 m, Cert.KernelIdeal.Value.run m g, ?_⟩
  refine (θ_run Cert.ReferenceIdeal.defs _ _).mono (fun r h c => ?_) (Cert.ReferenceIdeal.Gen.run_main m' g')
  obtain ⟨N, H⟩ := HK c
  have R := HR c N H
  have at_ := fun (b : Ref Cert.ReferenceIdeal.sig .tc) hb => h c _ (Cert.ReferenceIdeal.Gen.mem_uc b hb)
  exact ⟨(at_ Cert.ReferenceIdeal.main_v93 (by decide)).trans (ext4 fun a b t k => (Cert.RefVal.v93_at g' R a b t k).trans (Cert.Grid.G6_at H a b t k).symm),
    (at_ Cert.ReferenceIdeal.main_v90_6 (by decide)).trans (ext4 fun a b t k => (Cert.RefVal.v90_at g' R a b t k).trans (Cert.Grid.G7_at H a b t k).symm),
    (at_ Cert.ReferenceIdeal.main_v94 (by decide)).trans (ext4 fun a b t k => (Cert.RefVal.v94_at g' R a b t k).trans (Cert.Grid.G8_at H a b t k).symm),
    (at_ Cert.ReferenceIdeal.main_v95 (by decide)).trans (ext3 fun a b t => (Cert.RefVal.v95_at g' R a b t).trans (Cert.Grid.G9_at H a b t).symm),
    (at_ Cert.ReferenceIdeal.main_v96 (by decide)).trans (ext4 fun a b t k => (Cert.RefVal.v96_at g' R a b t k).trans (Cert.Grid.G10_at H a b t k).symm),
    (at_ Cert.ReferenceIdeal.main_v97 (by decide)).trans (ext3 fun a b t => (Cert.RefVal.v97_at g' R a b t).trans (Cert.Grid.G11_at H a b t).symm),
    (at_ Cert.ReferenceIdeal.main_arg0 (by decide)).trans (Cert.ReferenceIdeal.Gen.WN_main_arg0 m' g' c),
    (at_ Cert.ReferenceIdeal.main_arg1 (by decide)).trans (Cert.ReferenceIdeal.Gen.WN_main_arg1 m' g' c),
    (at_ Cert.ReferenceIdeal.main_arg2 (by decide)).trans (Cert.ReferenceIdeal.Gen.WN_main_arg2 m' g' c),
    (at_ Cert.ReferenceIdeal.main_arg3 (by decide)).trans (Cert.ReferenceIdeal.Gen.WN_main_arg3 m' g' c),
    (at_ Cert.ReferenceIdeal.main_arg4 (by decide)).trans (Cert.ReferenceIdeal.Gen.WN_main_arg4 m' g' c),
    (at_ Cert.ReferenceIdeal.main_arg5 (by decide)).trans (Cert.ReferenceIdeal.Gen.WN_main_arg5 m' g' c)⟩

end Cert.Same

end
-- ==== Proof.lean ====
/- The certificate: the frames are the generated ones, the kernel's idealization is the rule's own statement at each of the four
   shapes it was used at, and the two sides' results are compared in `Proof/Same.lean`. -/
module

public import proofs.«01_k».proof.Defs
public import proofs.«01_k».proof.Proof.Gen.Kernel.Frame
public import proofs.«01_k».proof.Proof.Same

@[expose] public section

namespace Cert.Proof

open Idealize.ShloMosaic

/-- The kernel's idealization replaces the leading bf16 part of a word, read back as f32, by the cast to bf16 and back. -/
theorem preserves : Cert.preserves_Kernel_KernelIdeal :=
  ⟨IdealRules.bf16_pack.statement _, IdealRules.bf16_pack.statement _, IdealRules.bf16_pack.statement _,
    IdealRules.bf16_pack.statement _⟩

/-- Every claim. -/
theorem claim : Cert.Claim :=
  ⟨Cert.Kernel.Gen.facts, Cert.KernelIdeal.Gen.facts, Cert.ReferenceIdeal.Gen.facts, Cert.PreVal.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, preserves, Cert.Same.algebraic⟩

end Cert.Proof

end
